-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v186) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)) (v3 : (c : Dev Cert.Kernel2Ideal.nD) → Buf (Elt Ideal) ((c.tc : Thread Cert.Kernel2Ideal.nD Cert.Kernel2Ideal.τ).loc Cert.Kernel2Ideal.main_v8_3)) (v4 : (c : Dev Cert.Kernel2Ideal.nD) → Buf (Elt Ideal) ((c.tc : Thread Cert.Kernel2Ideal.nD Cert.Kernel2Ideal.τ).loc Cert.Kernel2Ideal.main_v8_4)) (v5 : (c : Dev Cert.Kernel2Ideal.nD) → Buf (Elt Ideal) ((c.tc : Thread Cert.Kernel2Ideal.nD Cert.Kernel2Ideal.τ).loc Cert.Kernel2Ideal.main_v8_5)) (v6 : (c : Dev Cert.Kernel2Ideal.nD) → Buf (Elt Ideal) ((c.tc : Thread Cert.Kernel2Ideal.nD Cert.Kernel2Ideal.τ).loc Cert.Kernel2Ideal.main_v8_6)) (v7 : (c : Dev Cert.Kernel2Ideal.nD) → Buf (Elt Ideal) ((c.tc : Thread Cert.Kernel2Ideal.nD Cert.Kernel2Ideal.τ).loc Cert.Kernel2Ideal.main_v8_7)) (v8 : (c : Dev Cert.Kernel2Ideal.nD) → Buf (Elt Ideal) ((c.tc : Thread Cert.Kernel2Ideal.nD Cert.Kernel2Ideal.τ).loc Cert.Kernel2Ideal.main_v8_8)) (v9 : (c : Dev Cert.Kernel2Ideal.nD) → Buf (Elt Ideal) ((c.tc : Thread Cert.Kernel2Ideal.nD Cert.Kernel2Ideal.τ).loc Cert.Kernel2Ideal.main_v8_9)) (v10 : (c : Dev Cert.Kernel2Ideal.nD) → Buf (Elt Ideal) ((c.tc : Thread Cert.Kernel2Ideal.nD Cert.Kernel2Ideal.τ).loc Cert.Kernel2Ideal.main_v8_10)) (v11 : (c : Dev Cert.Kernel2Ideal.nD) → Buf (Elt Ideal) ((c.tc : Thread Cert.Kernel2Ideal.nD Cert.Kernel2Ideal.τ).loc Cert.Kernel2Ideal.main_v8_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_v8_3) = v3 c
          ∧ r.2.mem ((c.tc : Thread Cert.Kernel2Ideal.nD Cert.Kernel2Ideal.τ).loc Cert.Kernel2Ideal.main_v8_4) = v4 c
          ∧ r.2.mem ((c.tc : Thread Cert.Kernel2Ideal.nD Cert.Kernel2Ideal.τ).loc Cert.Kernel2Ideal.main_v8_5) = v5 c
          ∧ r.2.mem ((c.tc : Thread Cert.Kernel2Ideal.nD Cert.Kernel2Ideal.τ).loc Cert.Kernel2Ideal.main_v8_6) = v6 c
          ∧ r.2.mem ((c.tc : Thread Cert.Kernel2Ideal.nD Cert.Kernel2Ideal.τ).loc Cert.Kernel2Ideal.main_v8_7) = v7 c
          ∧ r.2.mem ((c.tc : Thread Cert.Kernel2Ideal.nD Cert.Kernel2Ideal.τ).loc Cert.Kernel2Ideal.main_v8_8) = v8 c
          ∧ r.2.mem ((c.tc : Thread Cert.Kernel2Ideal.nD Cert.Kernel2Ideal.τ).loc Cert.Kernel2Ideal.main_v8_9) = v9 c
          ∧ r.2.mem ((c.tc : Thread Cert.Kernel2Ideal.nD Cert.Kernel2Ideal.τ).loc Cert.Kernel2Ideal.main_v8_10) = v10 c
          ∧ r.2.mem ((c.tc : Thread Cert.Kernel2Ideal.nD Cert.Kernel2Ideal.τ).loc Cert.Kernel2Ideal.main_v8_11) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v159) = v0 c
          ∧ r.2.mem ((c.tc : Thread Cert.Reference2Ideal.nD Cert.Reference2Ideal.τ).loc Cert.Reference2Ideal.main_v179) = v1 c
          ∧ r.2.mem ((c.tc : Thread Cert.Reference2Ideal.nD Cert.Reference2Ideal.τ).loc Cert.Reference2Ideal.main_v171) = v2 c
          ∧ r.2.mem ((c.tc : Thread Cert.Reference2Ideal.nD Cert.Reference2Ideal.τ).loc Cert.Reference2Ideal.main_v174) = v3 c
          ∧ r.2.mem ((c.tc : Thread Cert.Reference2Ideal.nD Cert.Reference2Ideal.τ).loc Cert.Reference2Ideal.main_v177) = v4 c
          ∧ r.2.mem ((c.tc : Thread Cert.Reference2Ideal.nD Cert.Reference2Ideal.τ).loc Cert.Reference2Ideal.main_v182) = v5 c
          ∧ r.2.mem ((c.tc : Thread Cert.Reference2Ideal.nD Cert.Reference2Ideal.τ).loc Cert.Reference2Ideal.main_v185) = v6 c
          ∧ r.2.mem ((c.tc : Thread Cert.Reference2Ideal.nD Cert.Reference2Ideal.τ).loc Cert.Reference2Ideal.main_v187) = v7 c
          ∧ r.2.mem ((c.tc : Thread Cert.Reference2Ideal.nD Cert.Reference2Ideal.τ).loc Cert.Reference2Ideal.main_v189) = v8 c
          ∧ r.2.mem ((c.tc : Thread Cert.Reference2Ideal.nD Cert.Reference2Ideal.τ).loc Cert.Reference2Ideal.main_v191) = v9 c
          ∧ r.2.mem ((c.tc : Thread Cert.Reference2Ideal.nD Cert.Reference2Ideal.τ).loc Cert.Reference2Ideal.main_v193) = v10 c
          ∧ r.2.mem ((c.tc : Thread Cert.Reference2Ideal.nD Cert.Reference2Ideal.τ).loc Cert.Reference2Ideal.main_v195) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v9_0)) (v1 : (c : Dev Cert.Kernel3Ideal.nD) → Buf (Elt Ideal) ((c.tc : Thread Cert.Kernel3Ideal.nD Cert.Kernel3Ideal.τ).loc Cert.Kernel3Ideal.main_v9_1)) (v2 : (c : Dev Cert.Kernel3Ideal.nD) → Buf (Elt Ideal) ((c.tc : Thread Cert.Kernel3Ideal.nD Cert.Kernel3Ideal.τ).loc Cert.Kernel3Ideal.main_v9_2)) (v3 : (c : Dev Cert.Kernel3Ideal.nD) → Buf (Elt Ideal) ((c.tc : Thread Cert.Kernel3Ideal.nD Cert.Kernel3Ideal.τ).loc Cert.Kernel3Ideal.main_v9_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_v9_1) = v1 c
          ∧ r.2.mem ((c.tc : Thread Cert.Kernel3Ideal.nD Cert.Kernel3Ideal.τ).loc Cert.Kernel3Ideal.main_v9_2) = v2 c
          ∧ r.2.mem ((c.tc : Thread Cert.Kernel3Ideal.nD Cert.Kernel3Ideal.τ).loc Cert.Kernel3Ideal.main_v9_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_v15) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S12288x1024 : Shape := ⟨2, ![12288, 1024]⟩
abbrev S4096x512 : Shape := ⟨2, ![4096, 512]⟩
abbrev S8192x512 : Shape := ⟨2, ![8192, 512]⟩
abbrev S4096x1024 : Shape := ⟨2, ![4096, 1024]⟩
abbrev S8192x1024 : Shape := ⟨2, ![8192, 1024]⟩
abbrev S12288x2048 : Shape := ⟨2, ![12288, 2048]⟩
abbrev S16x9216 : Shape := ⟨2, ![16, 9216]⟩
abbrev S1x3x1024 : Shape := ⟨3, ![1, 3, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S3x1024 : Shape := ⟨2, ![3, 1024]⟩
abbrev S1x1024 : Shape := ⟨2, ![1, 1024]⟩
abbrev S512x512 : Shape := ⟨2, ![512, 512]⟩
abbrev S512x2048 : Shape := ⟨2, ![512, 2048]⟩
abbrev S512x2816 : Shape := ⟨2, ![512, 2816]⟩
abbrev S1x9216 : Shape := ⟨2, ![1, 9216]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 18
  | .vmem => 26
  | .smem => 0
  | _ => 0

abbrev bufTy : (tb : Table) → Fin (tcTables nBuf tb) → BufTy
  | .hbm, ⟨0, _⟩ => ⟨S12288x1024, .f32⟩
  | .hbm, ⟨1, _⟩ => ⟨S4096x512, .bf16⟩
  | .hbm, ⟨2, _⟩ => ⟨S8192x512, .bf16⟩
  | .hbm, ⟨3, _⟩ => ⟨S4096x1024, .bf16⟩
  | .hbm, ⟨4, _⟩ => ⟨S8192x1024, .bf16⟩
  | .hbm, ⟨5, _⟩ => ⟨S12288x2048, .f32⟩
  | .hbm, ⟨6, _⟩ => ⟨S16x9216, .f32⟩
  | .hbm, ⟨7, _⟩ => ⟨S1x3x1024, .f32⟩
  | .hbm, ⟨8, _⟩ => ⟨S1024, .f32⟩
  | .hbm, ⟨9, _⟩ => ⟨S512x1024, .bf16⟩
  | .hbm, ⟨10, _⟩ => ⟨S1024x1024, .bf16⟩
  | .hbm, ⟨11, _⟩ => ⟨S1024x1024, .bf16⟩
  | .hbm, ⟨12, _⟩ => ⟨S1024x5632, .bf16⟩
  | .hbm, ⟨13, _⟩ => ⟨S2816x1024, .bf16⟩
  | .hbm, ⟨14, _⟩ => ⟨S3x1024, .f32⟩
  | .hbm, ⟨15, _⟩ => ⟨S1x1024, .f32⟩
  | .hbm, ⟨16, _⟩ => ⟨S4096x1024, .f32⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .f32⟩
  | .local _ .vmem, ⟨11, _⟩ => ⟨S512x2048, .f32⟩
  | .local _ .vmem, ⟨12, _⟩ => ⟨S16x9216, .f32⟩
  | .local _ .vmem, ⟨13, _⟩ => ⟨S3x1024, .f32⟩
  | .local _ .vmem, ⟨14, _⟩ => ⟨S1x1024, .f32⟩
  | .local _ .vmem, ⟨15, _⟩ => ⟨S512x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x5632, .bf16⟩
  | .local _ .vmem, ⟨19, _⟩ => ⟨S2816x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x2816, .bf16⟩
  | .local _ .vmem, ⟨25, _⟩ => ⟨S512x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![24], ![false]⟩

def k0_off1 (i : grid0.Coords) : Fin 2 → Nat :=
  let arg0 : BitVec 32 := BitVec.ofNat 32 (i 0).val
  let c8_i32_0 : BitVec 32 := 8#32
  let v1 : BitVec 1 := Scalar.cmpi .slt arg0 c8_i32_0
  let c0_i32_8 : BitVec 32 := 0#32
  let c1_i32_7 : BitVec 32 := 1#32
  let c8_i32_1 : BitVec 32 := 8#32
  let v2 : BitVec 32 := Scalar.subi arg0 c8_i32_1
  let c0_i32 : BitVec 32 := 0#32
  let v3 : BitVec 32 := Scalar.maxsi v2 c0_i32
  let c0_i32_2 : BitVec 32 := 0#32
  let v5 : BitVec 1 := Scalar.cmpi .sgt v3 c0_i32_2
  let v6 : BitVec 32 := Scalar.extui v5
  let c0_i32_3 : BitVec 32 := 0#32
  let v7 : BitVec 1 := Scalar.cmpi .slt v3 c0_i32_3
  let v8 : BitVec 32 := Scalar.extui v7
  let v9 : BitVec 32 := Scalar.subi v6 v8
  let c2_i32 : BitVec 32 := 2#32
  let c0_i32_4 : BitVec 32 := 0#32
  let v10 : BitVec 1 := Scalar.cmpi .sgt c2_i32 c0_i32_4
  let v11 : BitVec 32 := Scalar.extui v10
  let c0_i32_5 : BitVec 32 := 0#32
  let v12 : BitVec 1 := Scalar.cmpi .slt c2_i32 c0_i32_5
  let v13 : BitVec 32 := Scalar.extui v12
  let v14 : BitVec 32 := Scalar.subi v11 v13
  let v15 : BitVec 1 := Scalar.cmpi .ne v9 v14
  let v16 : BitVec 32 := Scalar.remsi v3 c2_i32
  let c0_i32_6 : BitVec 32 := 0#32
  let v17 : BitVec 1 := Scalar.cmpi .ne v16 c0_i32_6
  let v18 : BitVec 1 := Scalar.andi v15 v17
  let v4 : BitVec 32 := Scalar.divsi v3 c2_i32
  let c1_i32 : BitVec 32 := 1#32
  let v19 : BitVec 32 := Scalar.subi v4 c1_i32
  let v20 : BitVec 32 := Scalar.select v18 v19 v4
  let v21 : BitVec 32 := Scalar.addi c1_i32_7 v20
  let v22 : BitVec 32 := Scalar.select v1 c0_i32_8 v21
  let v23 : Index := Scalar.indexCast v22
  let c0 : Index := 0#32
  ![v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S12288x1024 : Shape := ⟨2, ![12288, 1024]⟩
abbrev S4096x512 : Shape := ⟨2, ![4096, 512]⟩
abbrev S8192x512 : Shape := ⟨2, ![8192, 512]⟩
abbrev S4096x1024 : Shape := ⟨2, ![4096, 1024]⟩
abbrev S8192x1024 : Shape := ⟨2, ![8192, 1024]⟩
abbrev S12288x2048 : Shape := ⟨2, ![12288, 2048]⟩
abbrev S16x9216 : Shape := ⟨2, ![16, 9216]⟩
abbrev S1x3x1024 : Shape := ⟨3, ![1, 3, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S16x256x1024 : Shape := ⟨3, ![16, 256, 1024]⟩
abbrev S16x256x512 : Shape := ⟨3, ![16, 256, 512]⟩
abbrev S4096x2048 : Shape := ⟨2, ![4096, 2048]⟩
abbrev S16x256x2048 : Shape := ⟨3, ![16, 256, 2048]⟩
abbrev S1x9216 : Shape := ⟨2, ![1, 9216]⟩
abbrev S1x1024 : Shape := ⟨2, ![1, 1024]⟩
abbrev S_ : Shape := ⟨0, ![]⟩
abbrev S1x1x1024 : Shape := ⟨3, ![1, 1, 1024]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S8x1024x1024 : Shape := ⟨3, ![8, 1024, 1024]⟩
abbrev S8x1024x512 : Shape := ⟨3, ![8, 1024, 512]⟩
abbrev S8192x2048 : Shape := ⟨2, ![8192, 2048]⟩
abbrev S8x1024x2048 : Shape := ⟨3, ![8, 1024, 2048]⟩
abbrev S8x9216 : Shape := ⟨2, ![8, 9216]⟩
abbrev S8x1024 : Shape := ⟨2, ![8, 1024]⟩
abbrev S8x1x1024 : Shape := ⟨3, ![8, 1, 1024]⟩
abbrev S8x1024x1 : Shape := ⟨3, ![8, 1024, 1]⟩
abbrev S8x1024x5632 : Shape := ⟨3, ![8, 1024, 5632]⟩
abbrev S8x1024x2816 : Shape := ⟨3, ![8, 1024, 2816]⟩

abbrev nBuf : Space → Nat
  | .hbm => 241
  | .vmem => 0
  | .smem => 0
  | _ => 0

abbrev hbmTy0_0 (i : Nat) : BufTy := match i % 128 with
  | 0 => ⟨S12288x1024, .f32⟩
  | 1 => ⟨S4096x512, .bf16⟩
  | 2 => ⟨S8192x512, .bf16⟩
  | 3 => ⟨S4096x1024, .bf16⟩
  | 4 => ⟨S8192x1024, .bf16⟩
  | 5 => ⟨S12288x2048, .f32⟩
  | 6 => ⟨S16x9216, .f32⟩
  | 7 => ⟨S1x3x1024, .f32⟩
  | 8 => ⟨S1024, .f32⟩
  | 9 => ⟨S512x1024, .bf16⟩
  | 10 => ⟨S1024x1024, .bf16⟩
  | 11 => ⟨S1024x1024, .bf16⟩
  | 12 => ⟨S1024x5632, .bf16⟩
  | 13 => ⟨S2816x1024, .bf16⟩
  | 14 => ⟨S4096x512, .f32⟩
  | 15 => ⟨S8192x512, .f32⟩
  | 16 => ⟨S4096x1024, .f32⟩
  | 17 => ⟨S8192x1024, .f32⟩
  | 18 => ⟨S512x1024, .f32⟩
  | 19 => ⟨S1024x1024, .f32⟩
  | 20 => ⟨S1024x1024, .f32⟩
  | 21 => ⟨S1024x5632, .f32⟩
  | 22 => ⟨S2816x1024, .f32⟩
  | 23 => ⟨S4096x1024, .f32⟩
  | 24 => ⟨S16x256x1024, .f32⟩
  | 25 => ⟨S16x256x512, .f32⟩
  | 26 => ⟨S16x256x1024, .f32⟩
  | 27 => ⟨S4096x2048, .f32⟩
  | 28 => ⟨S16x256x2048, .f32⟩
  | 29 => ⟨S1x9216, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S16x256x1024, .f32⟩
  | 40 => ⟨S16x256x1024, .f32⟩
  | 41 => ⟨S16x256x1024, .f32⟩
  | 42 => ⟨S16x256x1024, .f32⟩
  | 43 => ⟨S_, .f32⟩
  | 44 => ⟨S16x256x1024, .f32⟩
  | 45 => ⟨S16x256x1024, .f32⟩
  | 46 => ⟨S_, .f32⟩
  | 47 => ⟨S16x256x1024, .f32⟩
  | 48 => ⟨S16x256x1024, .f32⟩
  | 49 => ⟨S16x256x1024, .f32⟩
  | 50 => ⟨S16x256x1024, .f32⟩
  | 51 => ⟨S16x256x1024, .f32⟩
  | 52 => ⟨S16x256x1024, .f32⟩
  | 53 => ⟨S_, .f32⟩
  | 54 => ⟨S16x256x1024, .f32⟩
  | 55 => ⟨S16x256x1024, .f32⟩
  | 56 => ⟨S_, .f32⟩
  | 57 => ⟨S16x256x1024, .f32⟩
  | 58 => ⟨S16x256x1024, .f32⟩
  | 59 => ⟨S16x256x1024, .f32⟩
  | 60 => ⟨S16x256x1024, .f32⟩
  | 61 => ⟨S16x256x1024, .f32⟩
  | 62 => ⟨S16x256x1024, .f32⟩
  | 63 => ⟨S1x1x1024, .f32⟩
  | 64 => ⟨S16x256x1024, .f32⟩
  | 65 => ⟨S16x256x1024, .f32⟩
  | 66 => ⟨S16x256x1024, .f32⟩
  | 67 => ⟨S1x1x1024, .f32⟩
  | 68 => ⟨S1024, .f32⟩
  | 69 => ⟨S16x256x1024, .f32⟩
  | 70 => ⟨S_, .f32⟩
  | 71 => ⟨S16x256, .f32⟩
  | 72 => ⟨S16x256x1, .f32⟩
  | 73 => ⟨S_, .f32⟩
  | 74 => ⟨S16x256x1, .f32⟩
  | 75 => ⟨S16x256x1, .f32⟩
  | 76 => ⟨S_, .f32⟩
  | 77 => ⟨S16x256x1, .f32⟩
  | 78 => ⟨S16x256x1, .f32⟩
  | 79 => ⟨S16x256x1, .f32⟩
  | 80 => ⟨S16x256x1024, .f32⟩
  | 81 => ⟨S16x256x1024, .f32⟩
  | 82 => ⟨S1x1x1024, .f32⟩
  | 83 => ⟨S16x256x1024, .f32⟩
  | 84 => ⟨S16x256x1024, .f32⟩
  | 85 => ⟨S1x1x1024, .f32⟩
  | 86 => ⟨S_, .f32⟩
  | 87 => ⟨S1x1x1024, .f32⟩
  | 88 => ⟨S1x1x1024, .f32⟩
  | 89 => ⟨S16x256x1024, .f32⟩
  | 90 => ⟨S16x256x1024, .f32⟩
  | 91 => ⟨S1x1x1024, .f32⟩
  | 92 => ⟨S16x256x1024, .f32⟩
  | 93 => ⟨S16x256x1024, .f32⟩
  | 94 => ⟨S1x1x1024, .f32⟩
  | 95 => ⟨S_, .f32⟩
  | 96 => ⟨S1x1x1024, .f32⟩
  | 97 => ⟨S1x1x1024, .f32⟩
  | 98 => ⟨S16x256x5632, .f32⟩
  | 99 => ⟨S16x256x2816, .f32⟩
  | 100 => ⟨S16x256x2816, .f32⟩
  | 101 => ⟨S16x256x2816, .f32⟩
  | 102 => ⟨S16x256x2816, .f32⟩
  | 103 => ⟨S_, .f32⟩
  | 104 => ⟨S16x256x2816, .f32⟩
  | 105 => ⟨S16x256x2816, .f32⟩
  | 106 => ⟨S_, .f32⟩
  | 107 => ⟨S16x256x2816, .f32⟩
  | 108 => ⟨S16x256x2816, .f32⟩
  | 109 => ⟨S16x256x2816, .f32⟩
  | 110 => ⟨S16x256x2816, .f32⟩
  | 111 => ⟨S16x256x1024, .f32⟩
  | 112 => ⟨S16x256x1024, .f32⟩
  | 113 => ⟨S16x256x1024, .f32⟩
  | 114 => ⟨S16x256x1024, .f32⟩
  | 115 => ⟨S16x256x1024, .f32⟩
  | 116 => ⟨S_, .f32⟩
  | 117 => ⟨S16x256, .f32⟩
  | 118 => ⟨S16x256x1, .f32⟩
  | 119 => ⟨S_, .f32⟩
  | 120 => ⟨S16x256x1, .f32⟩
  | 121 => ⟨S16x256x1, .f32⟩
  | 122 => ⟨S_, .f32⟩
  | 123 => ⟨S16x256x1, .f32⟩
  | 124 => ⟨S16x256x1, .f32⟩
  | 125 => ⟨S16x256x1, .f32⟩
  | 126 => ⟨S16x256x1024, .f32⟩
  | 127 => ⟨S16x256x1024, .f32⟩
  | _ => ⟨S12288x1024, .f32⟩

abbrev hbmTy0_1 (i : Nat) : BufTy := match i % 128 with
  | 0 => ⟨S1x1x1024, .f32⟩
  | 1 => ⟨S16x256x1024, .f32⟩
  | 2 => ⟨S16x256x1024, .f32⟩
  | 3 => ⟨S8192x1024, .f32⟩
  | 4 => ⟨S8x1024x1024, .f32⟩
  | 5 => ⟨S8x1024x512, .f32⟩
  | 6 => ⟨S8x1024x1024, .f32⟩
  | 7 => ⟨S8192x2048, .f32⟩
  | 8 => ⟨S8x1024x2048, .f32⟩
  | 9 => ⟨S8x9216, .f32⟩
  | 10 => ⟨S8x1024, .f32⟩
  | 11 => ⟨S8x1024, .f32⟩
  | 12 => ⟨S8x1024, .f32⟩
  | 13 => ⟨S8x1024, .f32⟩
  | 14 => ⟨S8x1024, .f32⟩
  | 15 => ⟨S8x1024, .f32⟩
  | 16 => ⟨S8x1024, .f32⟩
  | 17 => ⟨S8x1024, .f32⟩
  | 18 => ⟨S8x1024, .f32⟩
  | 19 => ⟨S8x1024x1024, .f32⟩
  | 20 => ⟨S8x1024x1024, .f32⟩
  | 21 => ⟨S8x1024x1024, .f32⟩
  | 22 => ⟨S8x1024x1024, .f32⟩
  | 23 => ⟨S_, .f32⟩
  | 24 => ⟨S8x1024x1024, .f32⟩
  | 25 => ⟨S8x1024x1024, .f32⟩
  | 26 => ⟨S_, .f32⟩
  | 27 => ⟨S8x1024x1024, .f32⟩
  | 28 => ⟨S8x1024x1024, .f32⟩
  | 29 => ⟨S8x1024x1024, .f32⟩
  | 30 => ⟨S8x1024x1024, .f32⟩
  | 31 => ⟨S8x1024x1024, .f32⟩
  | 32 => ⟨S8x1024x1024, .f32⟩
  | 33 => ⟨S_, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S8x1024x1024, .f32⟩
  | 42 => ⟨S8x1024x1024, .f32⟩
  | 43 => ⟨S8x1x1024, .f32⟩
  | 44 => ⟨S8x1024x1024, .f32⟩
  | 45 => ⟨S8x1024x1024, .f32⟩
  | 46 => ⟨S8x1024x1024, .f32⟩
  | 47 => ⟨S1x1x1024, .f32⟩
  | 48 => ⟨S1024, .f32⟩
  | 49 => ⟨S8x1024x1024, .f32⟩
  | 50 => ⟨S_, .f32⟩
  | 51 => ⟨S8x1024, .f32⟩
  | 52 => ⟨S8x1024x1, .f32⟩
  | 53 => ⟨S_, .f32⟩
  | 54 => ⟨S8x1024x1, .f32⟩
  | 55 => ⟨S8x1024x1, .f32⟩
  | 56 => ⟨S_, .f32⟩
  | 57 => ⟨S8x1024x1, .f32⟩
  | 58 => ⟨S8x1024x1, .f32⟩
  | 59 => ⟨S8x1024x1, .f32⟩
  | 60 => ⟨S8x1024x1024, .f32⟩
  | 61 => ⟨S8x1024x1024, .f32⟩
  | 62 => ⟨S1x1x1024, .f32⟩
  | 63 => ⟨S8x1024x1024, .f32⟩
  | 64 => ⟨S8x1024x1024, .f32⟩
  | 65 => ⟨S8x1x1024, .f32⟩
  | 66 => ⟨S_, .f32⟩
  | 67 => ⟨S8x1x1024, .f32⟩
  | 68 => ⟨S8x1x1024, .f32⟩
  | 69 => ⟨S8x1024x1024, .f32⟩
  | 70 => ⟨S8x1024x1024, .f32⟩
  | 71 => ⟨S8x1x1024, .f32⟩
  | 72 => ⟨S8x1024x1024, .f32⟩
  | 73 => ⟨S8x1024x1024, .f32⟩
  | 74 => ⟨S8x1x1024, .f32⟩
  | 75 => ⟨S_, .f32⟩
  | 76 => ⟨S8x1x1024, .f32⟩
  | 77 => ⟨S8x1x1024, .f32⟩
  | 78 => ⟨S8x1024x5632, .f32⟩
  | 79 => ⟨S8x1024x2816, .f32⟩
  | 80 => ⟨S8x1024x2816, .f32⟩
  | 81 => ⟨S8x1024x2816, .f32⟩
  | 82 => ⟨S8x1024x2816, .f32⟩
  | 83 => ⟨S_, .f32⟩
  | 84 => ⟨S8x1024x2816, .f32⟩
  | 85 => ⟨S8x1024x2816, .f32⟩
  | 86 => ⟨S_, .f32⟩
  | 87 => ⟨S8x1024x2816, .f32⟩
  | 88 => ⟨S8x1024x2816, .f32⟩
  | 89 => ⟨S8x1024x2816, .f32⟩
  | 90 => ⟨S8x1024x2816, .f32⟩
  | 91 => ⟨S8x1024x1024, .f32⟩
  | 92 => ⟨S8x1024x1024, .f32⟩
  | 93 => ⟨S8x1024x1024, .f32⟩
  | 94 => ⟨S8x1024x1024, .f32⟩
  | 95 => ⟨S8x1024x1024, .f32⟩
  | 96 => ⟨S_, .f32⟩
  | 97 => ⟨S8x1024, .f32⟩
  | 98 => ⟨S8x1024x1, .f32⟩
  | 99 => ⟨S_, .f32⟩
  | 100 => ⟨S8x1024x1, .f32⟩
  | 101 => ⟨S8x1024x1, .f32⟩
  | 102 => ⟨S_, .f32⟩
  | 103 => ⟨S8x1024x1, .f32⟩
  | 104 => ⟨S8x1024x1, .f32⟩
  | 105 => ⟨S8x1024x1, .f32⟩
  | 106 => ⟨S8x1024x1024, .f32⟩
  | 107 => ⟨S8x1024x1024, .f32⟩
  | 108 => ⟨S1x1x1024, .f32⟩
  | 109 => ⟨S8x1024x1024, .f32⟩
  | 110 => ⟨S8x1024x1024, .f32⟩
  | 111 => ⟨S4096x1024, .f32⟩
  | 112 => ⟨S8192x1024, .f32⟩
  | _ => ⟨S12288x1024, .f32⟩

abbrev hbmTy (i : Nat) : BufTy := match i / 128 with
  | 0 => hbmTy0_0 i
  | 1 => hbmTy0_1 i
  | _ => ⟨S12288x1024, .f32⟩

abbrev bufTy : (tb : Table) → Fin (tcTables nBuf tb) → BufTy
  | .hbm, ⟨i, _⟩ => hbmTy i
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst : Ref sig .tc := ⟨.hbm, 43, rfl⟩
abbrev main_v29 : Ref sig .tc := ⟨.hbm, 44, rfl⟩
abbrev main_v30 : Ref sig .tc := ⟨.hbm, 45, rfl⟩
abbrev main_cst_0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_1 : Ref sig .tc := ⟨.hbm, 53, rfl⟩
abbrev main_v37 : Ref sig .tc := ⟨.hbm, 54, rfl⟩
abbrev main_v38 : Ref sig .tc := ⟨.hbm, 55, rfl⟩
abbrev main_cst_2 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_3 : Ref sig .tc := ⟨.hbm, 70, rfl⟩
abbrev main_v52 : Ref sig .tc := ⟨.hbm, 71, rfl⟩
abbrev main_v53 : Ref sig .tc := ⟨.hbm, 72, rfl⟩
abbrev main_cst_4 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_6 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_7 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_call0_v0 : Ref sig .tc := ⟨.hbm, 101, rfl⟩
abbrev main_call0_v1 : Ref sig .tc := ⟨.hbm, 102, rfl⟩
abbrev main_call0_cst : Ref sig .tc := ⟨.hbm, 103, rfl⟩
abbrev main_call0_v2 : Ref sig .tc := ⟨.hbm, 104, rfl⟩
abbrev main_call0_v3 : Ref sig .tc := ⟨.hbm, 105, rfl⟩
abbrev main_call0_cst_0 : Ref sig .tc := ⟨.hbm, 106, rfl⟩
abbrev main_call0_v4 : Ref sig .tc := ⟨.hbm, 107, rfl⟩
abbrev main_call0_v5 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_8 : Ref sig .tc := ⟨.hbm, 116, rfl⟩
abbrev main_v85 : Ref sig .tc := ⟨.hbm, 117, rfl⟩
abbrev main_v86 : Ref sig .tc := ⟨.hbm, 118, rfl⟩
abbrev main_cst_9 : Ref sig .tc := ⟨.hbm, 119, rfl⟩
abbrev main_v87 : Ref sig .tc := ⟨.hbm, 120, rfl⟩
abbrev main_v88 : Ref sig .tc := ⟨.hbm, 121, rfl⟩
abbrev main_cst_10 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_11 : Ref sig .tc := ⟨.hbm, 151, rfl⟩
abbrev main_v117 : Ref sig .tc := ⟨.hbm, 152, rfl⟩
abbrev main_v118 : Ref sig .tc := ⟨.hbm, 153, rfl⟩
abbrev main_cst_12 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_cst_13 : Ref sig .tc := ⟨.hbm, 161, rfl⟩
abbrev main_v125 : Ref sig .tc := ⟨.hbm, 162, rfl⟩
abbrev main_v126 : Ref sig .tc := ⟨.hbm, 163, rfl⟩
abbrev main_cst_14 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_15 : Ref sig .tc := ⟨.hbm, 178, rfl⟩
abbrev main_v140 : Ref sig .tc := ⟨.hbm, 179, rfl⟩
abbrev main_v141 : Ref sig .tc := ⟨.hbm, 180, rfl⟩
abbrev main_cst_16 : Ref sig .tc := ⟨.hbm, 181, rfl⟩
abbrev main_v142 : Ref sig .tc := ⟨.hbm, 182, rfl⟩
abbrev main_v143 : Ref sig .tc := ⟨.hbm, 183, rfl⟩
abbrev main_cst_17 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_cst_18 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_cst_19 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_call1_v0 : Ref sig .tc := ⟨.hbm, 209, rfl⟩
abbrev main_call1_v1 : Ref sig .tc := ⟨.hbm, 210, rfl⟩
abbrev main_call1_cst : Ref sig .tc := ⟨.hbm, 211, rfl⟩
abbrev main_call1_v2 : Ref sig .tc := ⟨.hbm, 212, rfl⟩
abbrev main_call1_v3 : Ref sig .tc := ⟨.hbm, 213, rfl⟩
abbrev main_call1_cst_0 : Ref sig .tc := ⟨.hbm, 214, rfl⟩
abbrev main_call1_v4 : Ref sig .tc := ⟨.hbm, 215, rfl⟩
abbrev main_call1_v5 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_cst_20 : Ref sig .tc := ⟨.hbm, 224, rfl⟩
abbrev main_v173 : Ref sig .tc := ⟨.hbm, 225, rfl⟩
abbrev main_v174 : Ref sig .tc := ⟨.hbm, 226, rfl⟩
abbrev main_cst_21 : Ref sig .tc := ⟨.hbm, 227, rfl⟩
abbrev main_v175 : Ref sig .tc := ⟨.hbm, 228, rfl⟩
abbrev main_v176 : Ref sig .tc := ⟨.hbm, 229, rfl⟩
abbrev main_cst_22 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩

abbrev nD : Nat := 1
abbrev τ : Topo := Topo.v7x

variable {F : FTy → Type} [FloatOps F]
-- ==== Kernel2.lean ====
abbrev S16x256x1024 : Shape := ⟨3, ![16, 256, 1024]⟩
abbrev S8x1024x1024 : Shape := ⟨3, ![8, 1024, 1024]⟩
abbrev S16x9216 : Shape := ⟨2, ![16, 9216]⟩
abbrev S1x3x1024 : Shape := ⟨3, ![1, 3, 1024]⟩
abbrev S1024x5632 : Shape := ⟨2, ![1024, 5632]⟩
abbrev S2816x1024 : Shape := ⟨2, ![2816, 1024]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S4096x1024 : Shape := ⟨2, ![4096, 1024]⟩
abbrev S8192x1024 : Shape := ⟨2, ![8192, 1024]⟩
abbrev S3x1024 : Shape := ⟨2, ![3, 1024]⟩
abbrev S12288x1024 : Shape := ⟨2, ![12288, 1024]⟩
abbrev S12288x1536 : Shape := ⟨2, ![12288, 1536]⟩
abbrev S12288x2048 : Shape := ⟨2, ![12288, 2048]⟩
abbrev S16x1x8x256x64 : Shape := ⟨5, ![16, 1, 8, 256, 64]⟩
abbrev S256x1024 : Shape := ⟨2, ![256, 1024]⟩
abbrev S16x1024 : Shape := ⟨2, ![16, 1024]⟩
abbrev S32x1024 : Shape := ⟨2, ![32, 1024]⟩
abbrev S32x5632 : Shape := ⟨2, ![32, 5632]⟩
abbrev S64x1024 : Shape := ⟨2, ![64, 1024]⟩
abbrev S256x1536 : Shape := ⟨2, ![256, 1536]⟩
abbrev S256x2048 : Shape := ⟨2, ![256, 2048]⟩
abbrev S1x1x8x256x64 : Shape := ⟨5, ![1, 1, 8, 256, 64]⟩
abbrev S256x2816 : Shape := ⟨2, ![256, 2816]⟩
abbrev S1x9216 : Shape := ⟨2, ![1, 9216]⟩
abbrev S1x1024 : Shape := ⟨2, ![1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1024x1536 : Shape := ⟨2, ![1024, 1536]⟩
abbrev S256x512 : Shape := ⟨2, ![256, 512]⟩
abbrev S256x64 : Shape := ⟨2, ![256, 64]⟩
abbrev S1x256x64 : Shape := ⟨3, ![1, 256, 64]⟩
abbrev S8x256x64 : Shape := ⟨3, ![8, 256, 64]⟩
abbrev S1024x2048 : Shape := ⟨2, ![1024, 2048]⟩

abbrev nBuf : Space → Nat
  | .hbm => 32
  | .vmem => 45
  | .smem => 0
  | _ => 0

abbrev bufTy : (tb : Table) → Fin (tcTables nBuf tb) → BufTy
  | .hbm, ⟨0, _⟩ => ⟨S16x256x1024, .f32⟩
  | .hbm, ⟨1, _⟩ => ⟨S8x1024x1024, .f32⟩
  | .hbm, ⟨2, _⟩ => ⟨S16x9216, .f32⟩
  | .hbm, ⟨3, _⟩ => ⟨S1x3x1024, .f32⟩
  | .hbm, ⟨4, _⟩ => ⟨S1024x5632, .bf16⟩
  | .hbm, ⟨5, _⟩ => ⟨S2816x1024, .bf16⟩
  | .hbm, ⟨6, _⟩ => ⟨S1024x5632, .bf16⟩
  | .hbm, ⟨7, _⟩ => ⟨S1x512x1024, .f32⟩
  | .hbm, ⟨8, _⟩ => ⟨S1x1024x1024, .f32⟩
  | .hbm, ⟨9, _⟩ => ⟨S1x1024x1024, .f32⟩
  | .hbm, ⟨10, _⟩ => ⟨S1x1024x5632, .f32⟩
  | .hbm, ⟨11, _⟩ => ⟨S1x2816x1024, .f32⟩
  | .hbm, ⟨12, _⟩ => ⟨S512x1024, .f32⟩
  | .hbm, ⟨13, _⟩ => ⟨S1024x1024, .f32⟩
  | .hbm, ⟨14, _⟩ => ⟨S1024x1024, .f32⟩
  | .hbm, ⟨15, _⟩ => ⟨S1024x5632, .f32⟩
  | .hbm, ⟨16, _⟩ => ⟨S2816x1024, .f32⟩
  | .hbm, ⟨17, _⟩ => ⟨S4096x1024, .f32⟩
  | .hbm, ⟨18, _⟩ => ⟨S8192x1024, .f32⟩
  | .hbm, ⟨19, _⟩ => ⟨S3x1024, .f32⟩
  | .hbm, ⟨20, _⟩ => ⟨S12288x1024, .f32⟩
  | .hbm, ⟨21, _⟩ => ⟨S12288x1536, .bf16⟩
  | .hbm, ⟨22, _⟩ => ⟨S12288x1024, .f32⟩
  | .hbm, ⟨23, _⟩ => ⟨S12288x1024, .f32⟩
  | .hbm, ⟨24, _⟩ => ⟨S12288x2048, .f32⟩
  | .hbm, ⟨25, _⟩ => ⟨S16x1x8x256x64, .f32⟩
  | .hbm, ⟨26, _⟩ => ⟨S16x1x8x256x64, .f32⟩
  | .hbm, ⟨27, _⟩ => ⟨S512x1024, .bf16⟩
  | .hbm, ⟨28, _⟩ => ⟨S1024x1024, .bf16⟩
  | .hbm, ⟨29, _⟩ => ⟨S1024x1024, .bf16⟩
  | .hbm, ⟨30, _⟩ => ⟨S1024x5632, .bf16⟩
  | .hbm, ⟨31, _⟩ => ⟨S2816x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x9216, .f32⟩
  | .local _ .vmem, ⟨5, _⟩ => ⟨S3x1024, .f32⟩
  | .local _ .vmem, ⟨6, _⟩ => ⟨S1024x5632, .bf16⟩
  | .local _ .vmem, ⟨7, _⟩ => ⟨S2816x1024, .bf16⟩
  | .local _ .vmem, ⟨8, _⟩ => ⟨S1024x5632, .bf16⟩
  | .local _ .vmem, ⟨9, _⟩ => ⟨S16x1024, .f32⟩
  | .local _ .vmem, ⟨10, _⟩ => ⟨S16x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x5632, .f32⟩
  | .local _ .vmem, ⟨16, _⟩ => ⟨S32x5632, .f32⟩
  | .local _ .vmem, ⟨17, _⟩ => ⟨S64x1024, .f32⟩
  | .local _ .vmem, ⟨18, _⟩ => ⟨S64x1024, .f32⟩
  | .local _ .vmem, ⟨19, _⟩ => ⟨S256x1024, .f32⟩
  | .local _ .vmem, ⟨20, _⟩ => ⟨S256x1024, .f32⟩
  | .local _ .vmem, ⟨21, _⟩ => ⟨S256x1536, .bf16⟩
  | .local _ .vmem, ⟨22, _⟩ => ⟨S256x1536, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x2048, .f32⟩
  | .local _ .vmem, ⟨28, _⟩ => ⟨S256x2048, .f32⟩
  | .local _ .vmem, ⟨29, _⟩ => ⟨S1x1x8x256x64, .f32⟩
  | .local _ .vmem, ⟨30, _⟩ => ⟨S1x1x8x256x64, .f32⟩
  | .local _ .vmem, ⟨31, _⟩ => ⟨S1x1x8x256x64, .f32⟩
  | .local _ .vmem, ⟨32, _⟩ => ⟨S1x1x8x256x64, .f32⟩
  | .local _ .vmem, ⟨33, _⟩ => ⟨S16x1024, .bf16⟩
  | .local _ .vmem, ⟨34, _⟩ => ⟨S16x1024, .bf16⟩
  | .local _ .vmem, ⟨35, _⟩ => ⟨S32x1024, .bf16⟩
  | .local _ .vmem, ⟨36, _⟩ => ⟨S32x1024, .bf16⟩
  | .local _ .vmem, ⟨37, _⟩ => ⟨S32x1024, .bf16⟩
  | .local _ .vmem, ⟨38, _⟩ => ⟨S32x1024, .bf16⟩
  | .local _ .vmem, ⟨39, _⟩ => ⟨S32x5632, .bf16⟩
  | .local _ .vmem, ⟨40, _⟩ => ⟨S32x5632, .bf16⟩
  | .local _ .vmem, ⟨41, _⟩ => ⟨S64x1024, .bf16⟩
  | .local _ .vmem, ⟨42, _⟩ => ⟨S64x1024, .bf16⟩
  | .local _ .vmem, ⟨43, _⟩ => ⟨S256x2816, .bf16⟩
  | .local _ .vmem, ⟨44, _⟩ => ⟨S256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev main_v8_6 : Ref sig .tc := ⟨.hbm, 26, rfl⟩
abbrev main_v8_7 : Ref sig .tc := ⟨.hbm, 27, rfl⟩
abbrev main_v8_8 : Ref sig .tc := ⟨.hbm, 28, rfl⟩
abbrev main_v8_9 : Ref sig .tc := ⟨.hbm, 29, rfl⟩
abbrev main_v8_10 : Ref sig .tc := ⟨.hbm, 30, rfl⟩
abbrev main_v8_11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_scratch0 : Ref sig .tc := ⟨.vmem, 43, rfl⟩
abbrev cc0_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨1, ![48], ![false]⟩

def k0_off1 (i : grid0.Coords) : Fin 2 → Nat :=
  let arg0 : BitVec 32 := BitVec.ofNat 32 (i 0).val
  let c16_i32_23 : BitVec 32 := 16#32
  let v26 : BitVec 1 := Scalar.cmpi .slt arg0 c16_i32_23
  let c0_i32_31 : BitVec 32 := 0#32
  let c1_i32_30 : BitVec 32 := 1#32
  let c16_i32_24 : BitVec 32 := 16#32
  let v27 : BitVec 32 := Scalar.subi arg0 c16_i32_24
  let c0_i32 : BitVec 32 := 0#32
  let v28 : BitVec 32 := Scalar.maxsi v27 c0_i32
  let c0_i32_25 : BitVec 32 := 0#32
  let v30 : BitVec 1 := Scalar.cmpi .sgt v28 c0_i32_25
  let v31 : BitVec 32 := Scalar.extui v30
  let c0_i32_26 : BitVec 32 := 0#32
  let v32 : BitVec 1 := Scalar.cmpi .slt v28 c0_i32_26
  let v33 : BitVec 32 := Scalar.extui v32
  let v34 : BitVec 32 := Scalar.subi v31 v33
  let c4_i32 : BitVec 32 := 4#32
  let c0_i32_27 : BitVec 32 := 0#32
  let v35 : BitVec 1 := Scalar.cmpi .sgt c4_i32 c0_i32_27
  let v36 : BitVec 32 := Scalar.extui v35
  let c0_i32_28 : BitVec 32 := 0#32
  let v37 : BitVec 1 := Scalar.cmpi .slt c4_i32 c0_i32_28
  let v38 : BitVec 32 := Scalar.extui v37
  let v39 : BitVec 32 := Scalar.subi v36 v38
  let v40 : BitVec 1 := Scalar.cmpi .ne v34 v39
  let v41 : BitVec 32 := Scalar.remsi v28 c4_i32
  let c0_i32_29 : BitVec 32 := 0#32
  let v42 : BitVec 1 := Scalar.cmpi .ne v41 c0_i32_29
  let v43 : BitVec 1 := Scalar.andi v40 v42
  let v29 : BitVec 32 := Scalar.divsi v28 c4_i32
  let c1_i32 : BitVec 32 := 1#32
  let v44 : BitVec 32 := Scalar.subi v29 c1_i32
  let v45 : BitVec 32 := Scalar.select v43 v44 v29
  let v46 : BitVec 32 := Scalar.addi c1_i32_30 v45
  let v47 : BitVec 32 := Scalar.select v26 c0_i32_31 v46
  let v48 : Index := Scalar.indexCast v47
  let c0_32 : Index := 0#32
  ![v48.toNat, 0]
def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 5 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_18 (i : grid0.Coords) : Fin 5 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  let c0_i32_2 : BitVec 32 := 0#32
  let c0_i32_3 : BitVec 32 := 0#32
  ![v0.toNat, c0_i32.toNat, c0_i32_0.toNat, c0_i32_1.toNat, c0_i32_2.toNat]

def cc0_transform_19 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_20 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c43_i32 : BitVec 32 := 43#32
  let v0 : BitVec 32 := Scalar.minsi arg0 c43_i32
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x8x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x8x256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S16x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S32x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S32x5632 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference2Ideal.lean ====
abbrev S16x256x1024 : Shape := ⟨3, ![16, 256, 1024]⟩
abbrev S8x1024x1024 : Shape := ⟨3, ![8, 1024, 1024]⟩
abbrev S16x9216 : Shape := ⟨2, ![16, 9216]⟩
abbrev S1x3x1024 : Shape := ⟨3, ![1, 3, 1024]⟩
abbrev S1024x5632 : Shape := ⟨2, ![1024, 5632]⟩
abbrev S2816x1024 : Shape := ⟨2, ![2816, 1024]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x9216 : Shape := ⟨2, ![1, 9216]⟩
abbrev S1x1024 : Shape := ⟨2, ![1, 1024]⟩
abbrev S1x1x1024 : Shape := ⟨3, ![1, 1, 1024]⟩
abbrev S1024 : Shape := ⟨1, ![1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S16x256x512 : Shape := ⟨3, ![16, 256, 512]⟩
abbrev S16x256x2048 : Shape := ⟨3, ![16, 256, 2048]⟩
abbrev S8x9216 : Shape := ⟨2, ![8, 9216]⟩
abbrev S8x1024 : Shape := ⟨2, ![8, 1024]⟩
abbrev S8x1024x1 : Shape := ⟨3, ![8, 1024, 1]⟩
abbrev S8x1x1024 : Shape := ⟨3, ![8, 1, 1024]⟩
abbrev S8x1024x5632 : Shape := ⟨3, ![8, 1024, 5632]⟩
abbrev S8x1024x2816 : Shape := ⟨3, ![8, 1024, 2816]⟩
abbrev S8x1024x512 : Shape := ⟨3, ![8, 1024, 512]⟩
abbrev S8x1024x2048 : Shape := ⟨3, ![8, 1024, 2048]⟩
abbrev S4096x1024 : Shape := ⟨2, ![4096, 1024]⟩
abbrev S8192x1024 : Shape := ⟨2, ![8192, 1024]⟩
abbrev S12288x1024 : Shape := ⟨2, ![12288, 1024]⟩
abbrev S4096x512 : Shape := ⟨2, ![4096, 512]⟩
abbrev S8192x512 : Shape := ⟨2, ![8192, 512]⟩
abbrev S12288x512 : Shape := ⟨2, ![12288, 512]⟩
abbrev S4096x2048 : Shape := ⟨2, ![4096, 2048]⟩
abbrev S8192x2048 : Shape := ⟨2, ![8192, 2048]⟩
abbrev S12288x2048 : Shape := ⟨2, ![12288, 2048]⟩
abbrev S12288x1536 : Shape := ⟨2, ![12288, 1536]⟩
abbrev S16x256x8x64 : Shape := ⟨4, ![16, 256, 8, 64]⟩
abbrev S16x8x256x64 : Shape := ⟨4, ![16, 8, 256, 64]⟩
abbrev S16x1x8x256x64 : Shape := ⟨5, ![16, 1, 8, 256, 64]⟩
abbrev S512x1024 : Shape := ⟨2, ![512, 1024]⟩
abbrev S1024x1024 : Shape := ⟨2, ![1024, 1024]⟩

abbrev nBuf : Space → Nat
  | .hbm => 244
  | .vmem => 0
  | .smem => 0
  | _ => 0

abbrev hbmTy0_0 (i : Nat) : BufTy := match i % 128 with
  | 0 => ⟨S16x256x1024, .f32⟩
  | 1 => ⟨S8x1024x1024, .f32⟩
  | 2 => ⟨S16x9216, .f32⟩
  | 3 => ⟨S1x3x1024, .f32⟩
  | 4 => ⟨S1024x5632, .bf16⟩
  | 5 => ⟨S2816x1024, .bf16⟩
  | 6 => ⟨S1024x5632, .bf16⟩
  | 7 => ⟨S1x512x1024, .f32⟩
  | 8 => ⟨S1x1024x1024, .f32⟩
  | 9 => ⟨S1x1024x1024, .f32⟩
  | 10 => ⟨S1x1024x5632, .f32⟩
  | 11 => ⟨S1x2816x1024, .f32⟩
  | 12 => ⟨S1024x5632, .f32⟩
  | 13 => ⟨S2816x1024, .f32⟩
  | 14 => ⟨S1024x5632, .f32⟩
  | 15 => ⟨S1x9216, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1x1024, .f32⟩
  | 26 => ⟨S1024, .f32⟩
  | 27 => ⟨S16x256x1024, .f32⟩
  | 28 => ⟨S_, .f32⟩
  | 29 => ⟨S16x256, .f32⟩
  | 30 => ⟨S16x256x1, .f32⟩
  | 31 => ⟨S_, .f32⟩
  | 32 => ⟨S16x256x1, .f32⟩
  | 33 => ⟨S16x256x1, .f32⟩
  | 34 => ⟨S_, .f32⟩
  | 35 => ⟨S16x256x1, .f32⟩
  | 36 => ⟨S16x256x1, .f32⟩
  | 37 => ⟨S16x256x1, .f32⟩
  | 38 => ⟨S16x256x1024, .f32⟩
  | 39 => ⟨S16x256x1024, .f32⟩
  | 40 => ⟨S1x1x1024, .f32⟩
  | 41 => ⟨S16x256x1024, .f32⟩
  | 42 => ⟨S16x256x1024, .f32⟩
  | 43 => ⟨S1x1x1024, .f32⟩
  | 44 => ⟨S_, .f32⟩
  | 45 => ⟨S1x1x1024, .f32⟩
  | 46 => ⟨S1x1x1024, .f32⟩
  | 47 => ⟨S16x256x1024, .f32⟩
  | 48 => ⟨S16x256x1024, .f32⟩
  | 49 => ⟨S1x1x1024, .f32⟩
  | 50 => ⟨S16x256x1024, .f32⟩
  | 51 => ⟨S16x256x1024, .f32⟩
  | 52 => ⟨S1x1x1024, .f32⟩
  | 53 => ⟨S_, .f32⟩
  | 54 => ⟨S1x1x1024, .f32⟩
  | 55 => ⟨S1x1x1024, .f32⟩
  | 56 => ⟨S16x256x5632, .f32⟩
  | 57 => ⟨S16x256x2816, .f32⟩
  | 58 => ⟨S16x256x2816, .f32⟩
  | 59 => ⟨S16x256x2816, .f32⟩
  | 60 => ⟨S16x256x2816, .f32⟩
  | 61 => ⟨S_, .f32⟩
  | 62 => ⟨S16x256x2816, .f32⟩
  | 63 => ⟨S16x256x2816, .f32⟩
  | 64 => ⟨S_, .f32⟩
  | 65 => ⟨S16x256x2816, .f32⟩
  | 66 => ⟨S16x256x2816, .f32⟩
  | 67 => ⟨S16x256x2816, .f32⟩
  | 68 => ⟨S16x256x2816, .f32⟩
  | 69 => ⟨S16x256x1024, .f32⟩
  | 70 => ⟨S16x256x1024, .f32⟩
  | 71 => ⟨S16x256x1024, .f32⟩
  | 72 => ⟨S16x256x1024, .f32⟩
  | 73 => ⟨S1x1x1024, .f32⟩
  | 74 => ⟨S1024, .f32⟩
  | 75 => ⟨S16x256x1024, .f32⟩
  | 76 => ⟨S_, .f32⟩
  | 77 => ⟨S16x256, .f32⟩
  | 78 => ⟨S16x256x1, .f32⟩
  | 79 => ⟨S_, .f32⟩
  | 80 => ⟨S16x256x1, .f32⟩
  | 81 => ⟨S16x256x1, .f32⟩
  | 82 => ⟨S_, .f32⟩
  | 83 => ⟨S16x256x1, .f32⟩
  | 84 => ⟨S16x256x1, .f32⟩
  | 85 => ⟨S16x256x1, .f32⟩
  | 86 => ⟨S16x256x1024, .f32⟩
  | 87 => ⟨S16x256x1024, .f32⟩
  | 88 => ⟨S1x1x1024, .f32⟩
  | 89 => ⟨S16x256x1024, .f32⟩
  | 90 => ⟨S16x256x1024, .f32⟩
  | 91 => ⟨S1x1x1024, .f32⟩
  | 92 => ⟨S_, .f32⟩
  | 93 => ⟨S1x1x1024, .f32⟩
  | 94 => ⟨S1x1x1024, .f32⟩
  | 95 => ⟨S16x256x1024, .f32⟩
  | 96 => ⟨S16x256x1024, .f32⟩
  | 97 => ⟨S1x1x1024, .f32⟩
  | 98 => ⟨S16x256x1024, .f32⟩
  | 99 => ⟨S16x256x1024, .f32⟩
  | 100 => ⟨S16x256x5632, .f32⟩
  | 101 => ⟨S16x256x512, .f32⟩
  | 102 => ⟨S16x256x512, .f32⟩
  | 103 => ⟨S16x256x512, .f32⟩
  | 104 => ⟨S16x256x1024, .f32⟩
  | 105 => ⟨S16x256x1024, .f32⟩
  | 106 => ⟨S16x256x2048, .f32⟩
  | 107 => ⟨S_, .f32⟩
  | 108 => ⟨S16x256x512, .f32⟩
  | 109 => ⟨S16x256x512, .f32⟩
  | 110 => ⟨S8x9216, .f32⟩
  | 111 => ⟨S8x1024, .f32⟩
  | 112 => ⟨S8x1024, .f32⟩
  | 113 => ⟨S8x1024, .f32⟩
  | 114 => ⟨S8x1024, .f32⟩
  | 115 => ⟨S8x1024, .f32⟩
  | 116 => ⟨S8x1024, .f32⟩
  | 117 => ⟨S8x1024, .f32⟩
  | 118 => ⟨S8x1024, .f32⟩
  | 119 => ⟨S8x1024, .f32⟩
  | 120 => ⟨S1x1x1024, .f32⟩
  | 121 => ⟨S1024, .f32⟩
  | 122 => ⟨S8x1024x1024, .f32⟩
  | 123 => ⟨S_, .f32⟩
  | 124 => ⟨S8x1024, .f32⟩
  | 125 => ⟨S8x1024x1, .f32⟩
  | 126 => ⟨S_, .f32⟩
  | 127 => ⟨S8x1024x1, .f32⟩
  | _ => ⟨S16x256x1024, .f32⟩

abbrev hbmTy0_1 (i : Nat) : BufTy := match i % 128 with
  | 0 => ⟨S8x1024x1, .f32⟩
  | 1 => ⟨S_, .f32⟩
  | 2 => ⟨S8x1024x1, .f32⟩
  | 3 => ⟨S8x1024x1, .f32⟩
  | 4 => ⟨S8x1024x1, .f32⟩
  | 5 => ⟨S8x1024x1024, .f32⟩
  | 6 => ⟨S8x1024x1024, .f32⟩
  | 7 => ⟨S1x1x1024, .f32⟩
  | 8 => ⟨S8x1024x1024, .f32⟩
  | 9 => ⟨S8x1024x1024, .f32⟩
  | 10 => ⟨S8x1x1024, .f32⟩
  | 11 => ⟨S_, .f32⟩
  | 12 => ⟨S8x1x1024, .f32⟩
  | 13 => ⟨S8x1x1024, .f32⟩
  | 14 => ⟨S8x1024x1024, .f32⟩
  | 15 => ⟨S8x1024x1024, .f32⟩
  | 16 => ⟨S8x1x1024, .f32⟩
  | 17 => ⟨S8x1024x1024, .f32⟩
  | 18 => ⟨S8x1024x1024, .f32⟩
  | 19 => ⟨S8x1x1024, .f32⟩
  | 20 => ⟨S_, .f32⟩
  | 21 => ⟨S8x1x1024, .f32⟩
  | 22 => ⟨S8x1x1024, .f32⟩
  | 23 => ⟨S8x1024x5632, .f32⟩
  | 24 => ⟨S8x1024x2816, .f32⟩
  | 25 => ⟨S8x1024x2816, .f32⟩
  | 26 => ⟨S8x1024x2816, .f32⟩
  | 27 => ⟨S8x1024x2816, .f32⟩
  | 28 => ⟨S_, .f32⟩
  | 29 => ⟨S8x1024x2816, .f32⟩
  | 30 => ⟨S8x1024x2816, .f32⟩
  | 31 => ⟨S_, .f32⟩
  | 32 => ⟨S8x1024x2816, .f32⟩
  | 33 => ⟨S8x1024x2816, .f32⟩
  | 34 => ⟨S8x1024x2816, .f32⟩
  | 35 => ⟨S8x1024x2816, .f32⟩
  | 36 => ⟨S8x1024x1024, .f32⟩
  | 37 => ⟨S8x1024x1024, .f32⟩
  | 38 => ⟨S8x1024x1024, .f32⟩
  | 39 => ⟨S8x1024x1024, .f32⟩
  | 40 => ⟨S1x1x1024, .f32⟩
  | 41 => ⟨S1024, .f32⟩
  | 42 => ⟨S8x1024x1024, .f32⟩
  | 43 => ⟨S_, .f32⟩
  | 44 => ⟨S8x1024, .f32⟩
  | 45 => ⟨S8x1024x1, .f32⟩
  | 46 => ⟨S_, .f32⟩
  | 47 => ⟨S8x1024x1, .f32⟩
  | 48 => ⟨S8x1024x1, .f32⟩
  | 49 => ⟨S_, .f32⟩
  | 50 => ⟨S8x1024x1, .f32⟩
  | 51 => ⟨S8x1024x1, .f32⟩
  | 52 => ⟨S8x1024x1, .f32⟩
  | 53 => ⟨S8x1024x1024, .f32⟩
  | 54 => ⟨S8x1024x1024, .f32⟩
  | 55 => ⟨S1x1x1024, .f32⟩
  | 56 => ⟨S8x1024x1024, .f32⟩
  | 57 => ⟨S8x1024x1024, .f32⟩
  | 58 => ⟨S8x1x1024, .f32⟩
  | 59 => ⟨S_, .f32⟩
  | 60 => ⟨S8x1x1024, .f32⟩
  | 61 => ⟨S8x1x1024, .f32⟩
  | 62 => ⟨S8x1024x1024, .f32⟩
  | 63 => ⟨S8x1024x1024, .f32⟩
  | 64 => ⟨S8x1x1024, .f32⟩
  | 65 => ⟨S8x1024x1024, .f32⟩
  | 66 => ⟨S8x1024x1024, .f32⟩
  | 67 => ⟨S8x1024x5632, .f32⟩
  | 68 => ⟨S8x1024x512, .f32⟩
  | 69 => ⟨S8x1024x512, .f32⟩
  | 70 => ⟨S8x1024x512, .f32⟩
  | 71 => ⟨S8x1024x1024, .f32⟩
  | 72 => ⟨S8x1024x1024, .f32⟩
  | 73 => ⟨S8x1024x2048, .f32⟩
  | 74 => ⟨S_, .f32⟩
  | 75 => ⟨S8x1024x512, .f32⟩
  | 76 => ⟨S8x1024x512, .f32⟩
  | 77 => ⟨S4096x1024, .f32⟩
  | 78 => ⟨S8192x1024, .f32⟩
  | 79 => ⟨S12288x1024, .f32⟩
  | 80 => ⟨S4096x512, .f32⟩
  | 81 => ⟨S8192x512, .f32⟩
  | 82 => ⟨S12288x512, .f32⟩
  | 83 => ⟨S4096x512, .f32⟩
  | 84 => ⟨S8192x512, .f32⟩
  | 85 => ⟨S12288x512, .f32⟩
  | 86 => ⟨S4096x512, .f32⟩
  | 87 => ⟨S8192x512, .f32⟩
  | 88 => ⟨S12288x512, .f32⟩
  | 89 => ⟨S4096x1024, .f32⟩
  | 90 => ⟨S8192x1024, .f32⟩
  | 91 => ⟨S12288x1024, .f32⟩
  | 92 => ⟨S4096x1024, .f32⟩
  | 93 => ⟨S8192x1024, .f32⟩
  | 94 => ⟨S12288x1024, .f32⟩
  | 95 => ⟨S4096x2048, .f32⟩
  | 96 => ⟨S8192x2048, .f32⟩
  | 97 => ⟨S12288x2048, .f32⟩
  | 98 => ⟨S12288x1536, .f32⟩
  | 99 => ⟨S12288x1536, .bf16⟩
  | 100 => ⟨S16x256x8x64, .f32⟩
  | 101 => ⟨S16x8x256x64, .f32⟩
  | 102 => ⟨S16x1x8x256x64, .f32⟩
  | 103 => ⟨S16x256x8x64, .f32⟩
  | 104 => ⟨S16x8x256x64, .f32⟩
  | 105 => ⟨S16x1x8x256x64, .f32⟩
  | 106 => ⟨S512x1024, .f32⟩
  | 107 => ⟨S512x1024, .bf16⟩
  | 108 => ⟨S1024x1024, .f32⟩
  | 109 => ⟨S1024x1024, .bf16⟩
  | 110 => ⟨S1024x1024, .f32⟩
  | 111 => ⟨S1024x1024, .bf16⟩
  | 112 => ⟨S1024x5632, .f32⟩
  | 113 => ⟨S1024x5632, .bf16⟩
  | 114 => ⟨S2816x1024, .f32⟩
  | 115 => ⟨S2816x1024, .bf16⟩
  | _ => ⟨S16x256x1024, .f32⟩

abbrev hbmTy (i : Nat) : BufTy := match i / 128 with
  | 0 => hbmTy0_0 i
  | 1 => hbmTy0_1 i
  | _ => ⟨S16x256x1024, .f32⟩

abbrev bufTy : (tb : Table) → Fin (tcTables nBuf tb) → BufTy
  | .hbm, ⟨i, _⟩ => hbmTy i
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_4 : Ref sig .tc := ⟨.hbm, 76, rfl⟩
abbrev main_v51 : Ref sig .tc := ⟨.hbm, 77, rfl⟩
abbrev main_v52 : Ref sig .tc := ⟨.hbm, 78, rfl⟩
abbrev main_cst_5 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_7 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_8 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_9 : Ref sig .tc := ⟨.hbm, 123, rfl⟩
abbrev main_v93 : Ref sig .tc := ⟨.hbm, 124, rfl⟩
abbrev main_v94 : Ref sig .tc := ⟨.hbm, 125, rfl⟩
abbrev main_cst_10 : Ref sig .tc := ⟨.hbm, 126, rfl⟩
abbrev main_v95 : Ref sig .tc := ⟨.hbm, 127, rfl⟩
abbrev main_v96 : Ref sig .tc := ⟨.hbm, 128, rfl⟩
abbrev main_cst_11 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_12 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_13 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_call1_v0 : Ref sig .tc := ⟨.hbm, 154, rfl⟩
abbrev main_call1_v1 : Ref sig .tc := ⟨.hbm, 155, rfl⟩
abbrev main_call1_cst : Ref sig .tc := ⟨.hbm, 156, rfl⟩
abbrev main_call1_v2 : Ref sig .tc := ⟨.hbm, 157, rfl⟩
abbrev main_call1_v3 : Ref sig .tc := ⟨.hbm, 158, rfl⟩
abbrev main_call1_cst_0 : Ref sig .tc := ⟨.hbm, 159, rfl⟩
abbrev main_call1_v4 : Ref sig .tc := ⟨.hbm, 160, rfl⟩
abbrev main_call1_v5 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_14 : Ref sig .tc := ⟨.hbm, 171, rfl⟩
abbrev main_v128 : Ref sig .tc := ⟨.hbm, 172, rfl⟩
abbrev main_v129 : Ref sig .tc := ⟨.hbm, 173, rfl⟩
abbrev main_cst_15 : Ref sig .tc := ⟨.hbm, 174, rfl⟩
abbrev main_v130 : Ref sig .tc := ⟨.hbm, 175, rfl⟩
abbrev main_v131 : Ref sig .tc := ⟨.hbm, 176, rfl⟩
abbrev main_cst_16 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_17 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_cst_18 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩

abbrev nD : Nat := 1
abbrev τ : Topo := Topo.v7x

variable {F : FTy → Type} [FloatOps F]
-- ==== Kernel3.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x9216 : Shape := ⟨2, ![1024, 9216]⟩
abbrev S9216 : Shape := ⟨1, ![9216]⟩
abbrev S1024x5632 : Shape := ⟨2, ![1024, 5632]⟩
abbrev S2816x1024 : Shape := ⟨2, ![2816, 1024]⟩
abbrev S16x9216 : Shape := ⟨2, ![16, 9216]⟩
abbrev S16x128 : Shape := ⟨2, ![16, 128]⟩
abbrev S128x9216 : Shape := ⟨2, ![128, 9216]⟩
abbrev S128x5632 : Shape := ⟨2, ![128, 5632]⟩
abbrev S352x1024 : Shape := ⟨2, ![352, 1024]⟩

abbrev nBuf : Space → Nat
  | .hbm => 21
  | .vmem => 18
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S1x1024x5632, .f32⟩
  | .hbm, ⟨5, _⟩ => ⟨S1x2816x1024, .f32⟩
  | .hbm, ⟨6, _⟩ => ⟨S1x1024x5632, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S16x1024, .f32⟩
  | .hbm, ⟨11, _⟩ => ⟨S1024x9216, .f32⟩
  | .hbm, ⟨12, _⟩ => ⟨S9216, .f32⟩
  | .hbm, ⟨13, _⟩ => ⟨S1024x5632, .f32⟩
  | .hbm, ⟨14, _⟩ => ⟨S2816x1024, .f32⟩
  | .hbm, ⟨15, _⟩ => ⟨S1024x5632, .f32⟩
  | .hbm, ⟨16, _⟩ => ⟨S1x9216, .f32⟩
  | .hbm, ⟨17, _⟩ => ⟨S16x9216, .f32⟩
  | .hbm, ⟨18, _⟩ => ⟨S1024x5632, .bf16⟩
  | .hbm, ⟨19, _⟩ => ⟨S2816x1024, .bf16⟩
  | .hbm, ⟨20, _⟩ => ⟨S1024x5632, .bf16⟩
  | .local _ .vmem, ⟨0, _⟩ => ⟨S16x128, .f32⟩
  | .local _ .vmem, ⟨1, _⟩ => ⟨S16x128, .f32⟩
  | .local _ .vmem, ⟨2, _⟩ => ⟨S128x9216, .f32⟩
  | .local _ .vmem, ⟨3, _⟩ => ⟨S128x9216, .f32⟩
  | .local _ .vmem, ⟨4, _⟩ => ⟨S1x9216, .f32⟩
  | .local _ .vmem, ⟨5, _⟩ => ⟨S128x5632, .f32⟩
  | .local _ .vmem, ⟨6, _⟩ => ⟨S128x5632, .f32⟩
  | .local _ .vmem, ⟨7, _⟩ => ⟨S352x1024, .f32⟩
  | .local _ .vmem, ⟨8, _⟩ => ⟨S352x1024, .f32⟩
  | .local _ .vmem, ⟨9, _⟩ => ⟨S128x5632, .f32⟩
  | .local _ .vmem, ⟨10, _⟩ => ⟨S128x5632, .f32⟩
  | .local _ .vmem, ⟨11, _⟩ => ⟨S16x9216, .f32⟩
  | .local _ .vmem, ⟨12, _⟩ => ⟨S128x5632, .bf16⟩
  | .local _ .vmem, ⟨13, _⟩ => ⟨S128x5632, .bf16⟩
  | .local _ .vmem, ⟨14, _⟩ => ⟨S352x1024, .bf16⟩
  | .local _ .vmem, ⟨15, _⟩ => ⟨S352x1024, .bf16⟩
  | .local _ .vmem, ⟨16, _⟩ => ⟨S128x5632, .bf16⟩
  | .local _ .vmem, ⟨17, _⟩ => ⟨S128x5632, .bf16⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x9216 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x5632 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x1024 : Shape := ⟨2, ![8, 1024]⟩
abbrev S1024 : Shape := ⟨1, ![1024]⟩
abbrev S1x1024x9216 : Shape := ⟨3, ![1, 1024, 9216]⟩
abbrev S1x9216 : Shape := ⟨2, ![1, 9216]⟩
abbrev S1x1024x5632 : Shape := ⟨3, ![1, 1024, 5632]⟩
abbrev S1x2816x1024 : Shape := ⟨3, ![1, 2816, 1024]⟩
abbrev S1x1024 : Shape := ⟨2, ![1, 1024]⟩
abbrev S_ : Shape := ⟨0, ![]⟩
abbrev S7x1024 : Shape := ⟨2, ![7, 1024]⟩
abbrev S16x1024 : Shape := ⟨2, ![16, 1024]⟩
abbrev S1024x9216 : Shape := ⟨2, ![1024, 9216]⟩
abbrev S16x9216 : Shape := ⟨2, ![16, 9216]⟩
abbrev S9216 : Shape := ⟨1, ![9216]⟩
abbrev S1024x5632 : Shape := ⟨2, ![1024, 5632]⟩
abbrev S2816x1024 : Shape := ⟨2, ![2816, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S1x1024x9216, .f32⟩
  | .hbm, ⟨3, _⟩ => ⟨S1x9216, .f32⟩
  | .hbm, ⟨4, _⟩ => ⟨S1x1024x5632, .f32⟩
  | .hbm, ⟨5, _⟩ => ⟨S1x2816x1024, .f32⟩
  | .hbm, ⟨6, _⟩ => ⟨S1x1024x5632, .f32⟩
  | .hbm, ⟨7, _⟩ => ⟨S1x1024, .f32⟩
  | .hbm, ⟨8, _⟩ => ⟨S_, .f32⟩
  | .hbm, ⟨9, _⟩ => ⟨S7x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S_, .f32⟩
  | .hbm, ⟨17, _⟩ => ⟨S16x1024, .f32⟩
  | .hbm, ⟨18, _⟩ => ⟨S16x1024, .f32⟩
  | .hbm, ⟨19, _⟩ => ⟨S16x1024, .f32⟩
  | .hbm, ⟨20, _⟩ => ⟨S1024x9216, .f32⟩
  | .hbm, ⟨21, _⟩ => ⟨S16x9216, .f32⟩
  | .hbm, ⟨22, _⟩ => ⟨S9216, .f32⟩
  | .hbm, ⟨23, _⟩ => ⟨S1x9216, .f32⟩
  | .hbm, ⟨24, _⟩ => ⟨S16x9216, .f32⟩
  | .hbm, ⟨25, _⟩ => ⟨S16x9216, .f32⟩
  | .hbm, ⟨26, _⟩ => ⟨S1024x5632, .f32⟩
  | .hbm, ⟨27, _⟩ => ⟨S1024x5632, .bf16⟩
  | .hbm, ⟨28, _⟩ => ⟨S2816x1024, .f32⟩
  | .hbm, ⟨29, _⟩ => ⟨S2816x1024, .bf16⟩
  | .hbm, ⟨30, _⟩ => ⟨S1024x5632, .f32⟩
  | .hbm, ⟨31, _⟩ => ⟨S1024x5632, .bf16⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]
-- ==== Proof.Merge.Block.lean ====
module

public import proofs.«01_k».proof.Proof.Gen.KernelIdeal.Frame
public import proofs.«01_k».proof.Proof.Gen.KernelIdeal.Skeleton

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Columns 0 to 255 of the gated hidden layer. -/
def chunk0 (xn : Vec F S512x1024 .bf16) (w : Vec F S1024x5632 .bf16) : FVec F S512x256 .bf16 :=
  k0_pay18 xn (View.ld w (Rect.unit (s := S1024x5632) ![0, 0] S1024x256.size inb_S1024x5632_S1024x256_0_0)) (View.ld w (Rect.unit (s := S1024x5632) ![0, 2816] S1024x256.size inb_S1024x5632_S1024x256_0_2816))

/-- Columns 256 to 511 of the gated hidden layer. -/
def chunk1 (xn : Vec F S512x1024 .bf16) (w : Vec F S1024x5632 .bf16) : FVec F S512x256 .bf16 :=
  k0_pay19 xn (View.ld w (Rect.unit (s := S1024x5632) ![0, 256] S1024x256.size inb_S1024x5632_S1024x256_0_256)) (constant S512x256 .f32 0x00000000#32) (View.ld w (Rect.unit (s := S1024x5632) ![0, 3072] S1024x256.size inb_S1024x5632_S1024x256_0_3072))

/-- Columns 512 to 767 of the gated hidden layer. -/
def chunk2 (xn : Vec F S512x1024 .bf16) (w : Vec F S1024x5632 .bf16) : FVec F S512x256 .bf16 :=
  k0_pay20 xn (View.ld w (Rect.unit (s := S1024x5632) ![0, 512] S1024x256.size inb_S1024x5632_S1024x256_0_512)) (View.ld w (Rect.unit (s := S1024x5632) ![0, 3328] S1024x256.size inb_S1024x5632_S1024x256_0_3328))

/-- Columns 768 to 1023 of the gated hidden layer. -/
def chunk3 (xn : Vec F S512x1024 .bf16) (w : Vec F S1024x5632 .bf16) : FVec F S512x256 .bf16 :=
  k0_pay22 xn (k0_pay21 xn (View.ld w (Rect.unit (s := S1024x5632) ![0, 768] S1024x256.size inb_S1024x5632_S1024x256_0_768))) (View.ld w (Rect.unit (s := S1024x5632) ![0, 3584] S1024x256.size inb_S1024x5632_S1024x256_0_3584))

/-- Columns 1024 to 1279 of the gated hidden layer. -/
def chunk4 (xn : Vec F S512x1024 .bf16) (w : Vec F S1024x5632 .bf16) : FVec F S512x256 .bf16 :=
  k0_pay23 xn (View.ld w (Rect.unit (s := S1024x5632) ![0, 1024] S1024x256.size inb_S1024x5632_S1024x256_0_1024)) (View.ld w (Rect.unit (s := S1024x5632) ![0, 3840] S1024x256.size inb_S1024x5632_S1024x256_0_3840))

/-- Columns 1280 to 1535 of the gated hidden layer. -/
def chunk5 (xn : Vec F S512x1024 .bf16) (w : Vec F S1024x5632 .bf16) : FVec F S512x256 .bf16 :=
  k0_pay25 xn (k0_pay24 xn (View.ld w (Rect.unit (s := S1024x5632) ![0, 1280] S1024x256.size inb_S1024x5632_S1024x256_0_1280))) (View.ld w (Rect.unit (s := S1024x5632) ![0, 4096] S1024x256.size inb_S1024x5632_S1024x256_0_4096))

/-- Columns 1536 to 1791 of the gated hidden layer. -/
def chunk6 (xn : Vec F S512x1024 .bf16) (w : Vec F S1024x5632 .bf16) : FVec F S512x256 .bf16 :=
  k0_pay26 xn (View.ld w (Rect.unit (s := S1024x5632) ![0, 1536] S1024x256.size inb_S1024x5632_S1024x256_0_1536)) (View.ld w (Rect.unit (s := S1024x5632) ![0, 4352] S1024x256.size inb_S1024x5632_S1024x256_0_4352))

/-- Columns 1792 to 2047 of the gated hidden layer. -/
def chunk7 (xn : Vec F S512x1024 .bf16) (w : Vec F S1024x5632 .bf16) : FVec F S512x256 .bf16 :=
  k0_pay29 (k0_pay27 xn (View.ld w (Rect.unit (s := S1024x5632) ![0, 1792] S1024x256.size inb_S1024x5632_S1024x256_0_1792))) (k0_pay28 xn (View.ld w (Rect.unit (s := S1024x5632) ![0, 4608] S1024x256.size inb_S1024x5632_S1024x256_0_4608)))

/-- Columns 2048 to 2303 of the gated hidden layer. -/
def chunk8 (xn : Vec F S512x1024 .bf16) (w : Vec F S1024x5632 .bf16) : FVec F S512x256 .bf16 :=
  k0_pay30 xn (View.ld w (Rect.unit (s := S1024x5632) ![0, 2048] S1024x256.size inb_S1024x5632_S1024x256_0_2048)) (View.ld w (Rect.unit (s := S1024x5632) ![0, 4864] S1024x256.size inb_S1024x5632_S1024x256_0_4864))

/-- Columns 2304 to 2559 of the gated hidden layer. -/
def chunk9 (xn : Vec F S512x1024 .bf16) (w : Vec F S1024x5632 .bf16) : FVec F S512x256 .bf16 :=
  k0_pay34 (k0_pay31 xn (View.ld w (Rect.unit (s := S1024x5632) ![0, 2304] S1024x256.size inb_S1024x5632_S1024x256_0_2304))) (k0_pay32 xn (View.ld w (Rect.unit (s := S1024x5632) ![0, 5120] S1024x256.size inb_S1024x5632_S1024x256_0_5120))) k0_pay33

/-- Columns 2560 to 2815 of the gated hidden layer. -/
def chunk10 (xn : Vec F S512x1024 .bf16) (w : Vec F S1024x5632 .bf16) : FVec F S512x256 .bf16 :=
  k0_pay35 xn (View.ld w (Rect.unit (s := S1024x5632) ![0, 2560] S1024x256.size inb_S1024x5632_S1024x256_0_2560)) (View.ld w (Rect.unit (s := S1024x5632) ![0, 5376] S1024x256.size inb_S1024x5632_S1024x256_0_5376))

/-- The eleven stores that fill the hidden layer's buffer, the last one first. -/
def hidPieces (xn : Vec F S512x1024 .bf16) (w : Vec F S1024x5632 .bf16) : List (View.Piece (Elt F) S512x2816 .bf16) :=
  [⟨Rect.unit (s := S512x2816) ![0, 2560] S512x256.size inb_S512x2816_S512x256_0_2560, chunk10 xn w⟩,
   ⟨Rect.unit (s := S512x2816) ![0, 2304] S512x256.size inb_S512x2816_S512x256_0_2304, chunk9 xn w⟩,
   ⟨Rect.unit (s := S512x2816) ![0, 2048] S512x256.size inb_S512x2816_S512x256_0_2048, chunk8 xn w⟩,
   ⟨Rect.unit (s := S512x2816) ![0, 1792] S512x256.size inb_S512x2816_S512x256_0_1792, chunk7 xn w⟩,
   ⟨Rect.unit (s := S512x2816) ![0, 1536] S512x256.size inb_S512x2816_S512x256_0_1536, chunk6 xn w⟩,
   ⟨Rect.unit (s := S512x2816) ![0, 1280] S512x256.size inb_S512x2816_S512x256_0_1280, chunk5 xn w⟩,
   ⟨Rect.unit (s := S512x2816) ![0, 1024] S512x256.size inb_S512x2816_S512x256_0_1024, chunk4 xn w⟩,
   ⟨Rect.unit (s := S512x2816) ![0, 768] S512x256.size inb_S512x2816_S512x256_0_768, chunk3 xn w⟩,
   ⟨Rect.unit (s := S512x2816) ![0, 512] S512x256.size inb_S512x2816_S512x256_0_512, chunk2 xn w⟩,
   ⟨Rect.unit (s := S512x2816) ![0, 256] S512x256.size inb_S512x2816_S512x256_0_256, chunk1 xn w⟩,
   ⟨Rect.unit (s := S512x2816) ![0, 0] S512x256.size inb_S512x2816_S512x256_0_0, chunk0 xn w⟩]

/-- The hidden layer of one block: the buffer after its eleven stores. -/
def hid (xn : Vec F S512x1024 .bf16) (w : Vec F S1024x5632 .bf16) : Vec F S512x2816 .bf16 :=
  View.canon (hidPieces xn w)

/-- The modulation row that grid point `i` loads. -/
def modRow (i : grid0.Coords) (mods : Vec F S16x9216 .f32) : Vec F S1x9216 .f32 :=
  View.ld mods (Rect.unit (s := S16x9216) (k0_off1 i) S1x9216.size (k0_off1_inb i))

/-- Row 2 of the normalisation weights. -/
def normRow (norm : Vec F S3x1024 .f32) : Vec F S1x1024 .f32 :=
  View.ld norm (Rect.unit (s := S3x1024) ![2, 0] S1x1024.size inb_S3x1024_S1x1024_2_0)

/-- The block after the merge of the two branches: the residual the feed-forward layer adds to. -/
def mergeBlk (i : grid0.Coords) (x0 : Vec F S512x1024 .f32) (x1 x2 : Vec F S512x512 .bf16) (x3 x4 : Vec F S512x1024 .bf16)
    (x5 : Vec F S512x2048 .f32) (x6 : Vec F S16x9216 .f32) (x9 : Vec F S512x1024 .bf16) (x10 x11 : Vec F S1024x1024 .bf16) :
    FVec F S512x1024 .f32 :=
  k0_pay13 (k0_pay7 (modRow i x6)) (k0_pay11 i x1 x2) (k0_pay12 i x3 x4) x5 x9 x10 x0 x11

/-- The root mean squares the normalisation of the merged block divides by, a column. -/
def meanBlk (i : grid0.Coords) (x0 : Vec F S512x1024 .f32) (x1 x2 : Vec F S512x512 .bf16) (x3 x4 : Vec F S512x1024 .bf16)
    (x5 : Vec F S512x2048 .f32) (x6 : Vec F S16x9216 .f32) (x9 : Vec F S512x1024 .bf16) (x10 x11 : Vec F S1024x1024 .bf16) :
    FVec F S512x1 .f32 :=
  k0_pay15 (k0_pay7 (modRow i x6)) (k0_pay11 i x1 x2) (k0_pay12 i x3 x4) x5 x9 x10 x0 x11

/-- The normalised and modulated block: the feed-forward layer's operand. -/
def normBlk (i : grid0.Coords) (x0 : Vec F S512x1024 .f32) (x1 x2 : Vec F S512x512 .bf16) (x3 x4 : Vec F S512x1024 .bf16)
    (x5 : Vec F S512x2048 .f32) (x6 : Vec F S16x9216 .f32) (x7 : Vec F S3x1024 .f32) (x9 : Vec F S512x1024 .bf16)
    (x10 x11 : Vec F S1024x1024 .bf16) : FVec F S512x1024 .bf16 :=
  k0_pay16 (k0_pay8 (modRow i x6)) (k0_pay9 (modRow i x6)) (mergeBlk i x0 x1 x2 x3 x4 x5 x6 x9 x10 x11) (k0_pay14 (normRow x7))
    (meanBlk i x0 x1 x2 x3 x4 x5 x6 x9 x10 x11) (Scalar.ofBits .f32 0x358637BD#32)

/-- What the body computes at grid point `i` from the blocks of its operands. -/
def outBlk (i : grid0.Coords) (x0 : Vec F S512x1024 .f32) (x1 x2 : Vec F S512x512 .bf16) (x3 x4 : Vec F S512x1024 .bf16)
    (x5 : Vec F S512x2048 .f32) (x6 : Vec F S16x9216 .f32) (x7 : Vec F S3x1024 .f32) (x8 : Vec F S1x1024 .f32)
    (x9 : Vec F S512x1024 .bf16) (x10 x11 : Vec F S1024x1024 .bf16) (x12 : Vec F S1024x5632 .bf16) (x13 : Vec F S2816x1024 .bf16) :
    FVec F S512x1024 .f32 :=
  k0_pay1
    (k0_pay36 (mergeBlk i x0 x1 x2 x3 x4 x5 x6 x9 x10 x11) (k0_pay17 (k0_pay10 (modRow i x6)))
      (hid (normBlk i x0 x1 x2 x3 x4 x5 x6 x7 x9 x10 x11) x12) x13)
    (k0_pay37 (mergeBlk i x0 x1 x2 x3 x4 x5 x6 x9 x10 x11) (k0_pay17 (k0_pay10 (modRow i x6)))
      (hid (normBlk i x0 x1 x2 x3 x4 x5 x6 x7 x9 x10 x11) x12) x13)
    x8

end Cert.KernelIdeal.Merge

end
-- ==== Proof.Layer.Memory.lean ====
/- What loads and stores of whole buffers read and leave, plain and under a mask that is one bit everywhere. -/
module

public import Idealize.ShloMosaic.Lib.WholeRead
public import Idealize.ShloMosaic.Lib.VecWindow
public import Idealize.ShloMosaic.Lib.Pipeline.Value

@[expose] public section

namespace Cert.Layer

open Idealize.ShloMosaic

variable {F : FTy → Type} [FloatOps F] {sig : RefSig}

/-- A load of a buffer held whole reads its contents on the load's rectangle. -/
theorem readAt_unread_ld {κ : Kind} {sp : Space} {s : Shape} {e : EltTy} {a : Memref sig κ sp s e} (ha : a.IsWhole)
    (X : s.Idx → Elt F e) (r : Rect s) : View.readAt (Elt F) a.view r.toLoadRect (ha.unread X) = View.ld X r :=
  funext fun x => ha.readAt_unread X r.toLoadRect x

/-- A store of a whole buffer under a mask that is one bit everywhere leaves the payload if the bit is set, and what was there if not. -/
theorem read_masked_store {κ : Kind} {sp : Space} {s : Shape} {e : EltTy} {a : Memref sig κ sp s e} (ha : a.IsWhole)
    (d w : s.Idx → Elt F e) {off : Fin s.rank → ℕ} (inb : ∀ k, off k + s.size k ≤ s.size k) (mask : IVec s 1) (p : Prop) [Decidable p]
    (hm : ∀ j, mask j = if p then 1#1 else 0#1) :
    a.view.read (Elt F) (View.write (Elt F) (a.access (Rect.unit off s.size inb)) (ha.unread d) w mask.on) = if p then w else d := by
  by_cases h : p
  · have hon : mask.on = Finset.univ := by
      ext j; simp [IVec.on, hm, h]
    rw [hon, if_pos h]
    exact View.read_writes_full a.view (ha.unread d) inb w []
  · have hon : mask.on = ∅ := by
      ext j; simp [IVec.on, hm, h]
    rw [hon, if_neg h, View.write_empty]
    exact ha.read_unread d

/-- The origin of a matrix. -/
theorem hz : (![0, 0] : Fin 2 → ℕ) = fun _ => 0 := by decide

/-- A load of a whole buffer reads its contents. -/
theorem ld_whole {S : Shape} {e : EltTy} {off : Fin S.rank → ℕ} (h : off = fun _ => 0) (inb : ∀ k, off k + S.size k ≤ S.size k)
    (X : S.Idx → Elt F e) : View.ld X (Rect.unit off (no_index S.size) inb) = X :=
  View.ld_unit_zero h inb X

/-- A load of a whole buffer reads what its stores left. -/
theorem readCov_whole {κ : Kind} {sp : Space} {s : Shape} {e : EltTy} (v : View sig κ sp s e) {off : Fin s.rank → ℕ}
    (h : off = fun _ => 0) (inb : ∀ k, off k + s.size k ≤ s.size k) (L : List (View.Piece (Elt F) s e)) :
    v.readCov L (Rect.unit off (no_index s.size) inb).toLoadRect = View.canon L := by
  subst h
  rw [View.readCov_eq_canon']
  funext j
  exact congrArg (View.canon L) (Rect.emb_unit_full inb j)

/-- What one store of a whole buffer leaves. -/
theorem canon_whole {S : Shape} {e : EltTy} {off : Fin S.rank → ℕ} (h : off = fun _ => 0) (inb : ∀ k, off k + S.size k ≤ S.size k)
    (w : S.Idx → Elt F e) : View.canon [(⟨Rect.unit off (no_index S.size) inb, w⟩ : View.Piece (Elt F) S e)] = w :=
  View.canon_unit_zero h inb w

/-- The origin of an array with five axes. -/
theorem hz5 : (![0, 0, 0, 0, 0] : Fin 5 → ℕ) = fun _ => 0 := by decide

end Cert.Layer

end
-- ==== Proof.Merge.Body.lean ====
module

public import proofs.«01_k».proof.Proof.Gen.KernelIdeal.Frame
public import proofs.«01_k».proof.Proof.Merge.Block
public import proofs.«01_k».proof.Proof.Layer.Memory

@[expose] public section

set_option maxRecDepth 16384

noncomputable section

namespace Cert.KernelIdeal.Merge

open Cert.KernelIdeal Cert.KernelIdeal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem lt_bit (i : grid0.Coords) : Scalar.cmpi .slt (BitVec.ofNat 32 (i 0).val) 8#32 = if (i 0).val < 8 then 1#1 else 0#1 := by
  revert i; decide +kernel

theorem mask_ctx (i : grid0.Coords) (j : S512x1024.Idx) :
    k0_pay4 (Scalar.cmpi .slt (BitVec.ofNat 32 (i 0).val) 8#32) j = if (i 0).val < 8 then 1#1 else 0#1 :=
  lt_bit i

theorem mask_rest (i : grid0.Coords) (j : S512x1024.Idx) :
    k0_pay6 (Scalar.cmpi .slt (BitVec.ofNat 32 (i 0).val) 8#32) j = if ¬ (i 0).val < 8 then 1#1 else 0#1 := by
  show (Scalar.cmpi .slt (BitVec.ofNat 32 (i 0).val) 8#32) ^^^ 1#1 = _
  rw [lt_bit i]
  by_cases h : (i 0).val < 8 <;> simp [h]

set_option maxHeartbeats 1000000 in
theorem body_run (c : Dev nD) (i : grid0.Coords)
    (arg1 : Memref sig .tc .vmem S512x1024 .f32) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S512x2048 .f32) (harg6 : arg6.IsWhole)
    (arg7 : Memref sig .tc .vmem S16x9216 .f32) (harg7 : arg7.IsWhole)
    (arg8 : Memref sig .tc .vmem S3x1024 .f32) (harg8 : arg8.IsWhole)
    (arg9 : Memref sig .tc .vmem S1x1024 .f32) (harg9 : arg9.IsWhole)
    (arg10 : Memref sig .tc .vmem S512x1024 .bf16) (harg10 : arg10.IsWhole)
    (arg11 : Memref sig .tc .vmem S1024x1024 .bf16) (harg11 : arg11.IsWhole)
    (arg12 : Memref sig .tc .vmem S1024x1024 .bf16) (harg12 : arg12.IsWhole)
    (arg13 : Memref sig .tc .vmem S1024x5632 .bf16) (harg13 : arg13.IsWhole)
    (arg14 : Memref sig .tc .vmem S2816x1024 .bf16) (harg14 : arg14.IsWhole)
    (arg15 : Memref sig .tc .vmem S512x1024 .f32) (harg15 : arg15.IsWhole)
    (arg16 : Memref sig .tc .vmem S512x1024 .f32) (harg16 : arg16.IsWhole)
    (arg17 : Memref sig .tc .vmem S512x2816 .bf16) (harg17 : arg17.IsWhole)
    (arg18 : Memref sig .tc .vmem S512x1024 .bf16) (harg18 : arg18.IsWhole)
    (x0 : Vec F S512x1024 .f32) (x1 : Vec F S512x512 .bf16) (x2 : Vec F S512x512 .bf16) (x3 : Vec F S512x1024 .bf16) (x4 : Vec F S512x1024 .bf16) (x5 : Vec F S512x2048 .f32) (x6 : Vec F S16x9216 .f32) (x7 : Vec F S3x1024 .f32) (x8 : Vec F S1x1024 .f32) (x9 : Vec F S512x1024 .bf16) (x10 : Vec F S1024x1024 .bf16) (x11 : Vec F S1024x1024 .bf16) (x12 : Vec F S1024x5632 .bf16) (x13 : Vec F S2816x1024 .bf16)
    (d14 d15 : Vec F S512x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
        ∗ owns (c : Thread nD τ) arg15 fullShare d14 ∗ owns (c : Thread nD τ) arg16 fullShare d15
        ∗ (∃ d, owns (c : Thread nD τ) arg17 fullShare d) ∗ (∃ d, owns (c : Thread nD τ) arg18 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13
            ∗ owns (c : Thread nD τ) arg15 fullShare (if (i 0).val < 8 then outBlk i x0 x1 x2 x3 x4 x5 x6 x7 x8 x9 x10 x11 x12 x13 else d14) ∗ owns (c : Thread nD τ) arg16 fullShare (if ¬ (i 0).val < 8 then outBlk i x0 x1 x2 x3 x4 x5 x6 x7 x8 x9 x10 x11 x12 x13 else d15)
            ∗ (∃ d, owns (c : Thread nD τ) arg17 fullShare d) ∗ (∃ d, owns (c : Thread nD τ) arg18 fullShare d)) -∗ K ⟨⟩))
      ⊢ wp frame (wpE (defs₀ (F := F)) Variants.none c none) E (cc0_merge_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_merge_ffn2_eq_skeleton]; unfold cc0_merge_ffn2_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
  sl_exec
  sl_step
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro; exact harg13.read_unread _
  isplitl [H13]
  · iexists _; isplitr; swap; · iexact H13
    ipureintro; exact harg14.read_unread _
  isplitl [H14]
  · iexists _; isplitr; swap; · iexact H14
    ipureintro
    delta body_run.sl.H14_w1
    refine (read_masked_store harg15 _ _ _ _ _ (mask_ctx i)).trans ?_
    congr 1
    delta k0_pay3 k0_pay5
    dsimp only
    refine (shapeCast_self _ _).trans ?_
    delta body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v280 body_run.sl.HS0_11 body_run.sl.v92 body_run.sl.HS1_1 body_run.sl.cst_38 body_run.sl.cst_56 body_run.sl.v0
    beta_reduce
    set_option backward.isDefEq.respectTransparency false in
    simp only [readAt_unread_ld, ld_whole (S := S512x1024) hz, ld_whole (S := S512x512) hz, ld_whole (S := S512x2048) hz, ld_whole (S := S1024x1024) hz, ld_whole (S := S2816x1024) hz, ld_whole (S := S1x1024) hz, readCov_whole (s := S512x1024) _ hz, readCov_whole (s := S512x2816) _ hz, canon_whole (S := S512x1024) hz]
    rfl
  isplitl [H15]
  · iexists _; isplitr; swap; · iexact H15
    ipureintro
    delta body_run.sl.H15_w2
    refine (read_masked_store harg16 _ _ _ _ _ (mask_rest i)).trans ?_
    congr 1
    delta k0_pay3 k0_pay5
    dsimp only
    refine (shapeCast_self _ _).trans ?_
    delta body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r body_run.sl.v280 body_run.sl.HS0_11 body_run.sl.v92 body_run.sl.HS1_1 body_run.sl.cst_38 body_run.sl.cst_56 body_run.sl.v0
    beta_reduce
    set_option backward.isDefEq.respectTransparency false in
    simp only [readAt_unread_ld, ld_whole (S := S512x1024) hz, ld_whole (S := S512x512) hz, ld_whole (S := S512x2048) hz, ld_whole (S := S1024x1024) hz, ld_whole (S := S2816x1024) hz, ld_whole (S := S1x1024) hz, readCov_whole (s := S512x1024) _ hz, readCov_whole (s := S512x2816) _ hz, canon_whole (S := S512x1024) hz]
    rfl
  isplitl [HS0]
  · iexists _; iexists _; isplitr; swap; · iexact HS0
    ipureintro; rfl
  iexists _; iexists _; isplitr; swap; · iexact HS1
  ipureintro; rfl

end Cert.KernelIdeal.Merge

end
-- ==== Proof.Merge.Run.lean ====
module

public import proofs.«01_k».proof.Proof.Merge.Body
public import Idealize.ShloMosaic.Lib.Pipeline.ArrRel
public import Idealize.ShloMosaic.Lib.Pipeline.DatRel
public import Idealize.ShloMosaic.Lib.Claim

@[expose] public section

set_option maxRecDepth 16384

noncomputable section

namespace Cert.KernelIdeal.Merge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body computes at point `t`. -/
def outAt (c : Dev nD) (t : Fin cfg0.N) : FVec F S512x1024 .f32 :=
  outBlk (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

/-- The last point up to `t` that stores a block of the first result. -/
def ctxPt (t : Fin cfg0.N) : Fin cfg0.N := ⟨min t.val 7, lt_of_le_of_lt (Nat.min_le_left _ _) t.isLt⟩

/-- What the pipeline's buffers hold after each point: an operand its block, the first result's buffer the last block
stored in it, the second result's buffer the block computed (stated for it only from point 8 on, see `held`). -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c (ctxPt t)
    | ⟨15, _⟩ => outAt m c t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = iblk m c 6 t := by dsimp only [dats]
theorem after_7 (c : Dev nD) (t : Fin cfg0.N) : (dats m c).after 7 t = iblk m c 7 t := by dsimp only [dats]
theorem after_8 (c : Dev nD) (t : Fin cfg0.N) : (dats m c).after 8 t = iblk m c 8 t := by dsimp only [dats]
theorem after_9 (c : Dev nD) (t : Fin cfg0.N) : (dats m c).after 9 t = iblk m c 9 t := by dsimp only [dats]
theorem after_10 (c : Dev nD) (t : Fin cfg0.N) : (dats m c).after 10 t = iblk m c 10 t := by dsimp only [dats]
theorem after_11 (c : Dev nD) (t : Fin cfg0.N) : (dats m c).after 11 t = iblk m c 11 t := by dsimp only [dats]
theorem after_12 (c : Dev nD) (t : Fin cfg0.N) : (dats m c).after 12 t = iblk m c 12 t := by dsimp only [dats]
theorem after_13 (c : Dev nD) (t : Fin cfg0.N) : (dats m c).after 13 t = iblk m c 13 t := by dsimp only [dats]
theorem after_14 (c : Dev nD) (t : Fin cfg0.N) : (dats m c).after 14 t = outAt m c (ctxPt t) := by dsimp only [dats]
theorem after_15 (c : Dev nD) (t : Fin cfg0.N) : (dats m c).after 15 t = outAt m c t := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d
theorem before_6 (c : Dev nD) (t : Fin cfg0.N) (d) : (dats m c).before 6 t d = iblk m c 6 t :=
  before0_6_of m (dats m c) (A_eq m c 6) (after_6 m c) t d
theorem before_7 (c : Dev nD) (t : Fin cfg0.N) (d) : (dats m c).before 7 t d = iblk m c 7 t :=
  before0_7_of m (dats m c) (A_eq m c 7) (after_7 m c) t d
theorem before_8 (c : Dev nD) (t : Fin cfg0.N) (d) : (dats m c).before 8 t d = iblk m c 8 t :=
  before0_8_of m (dats m c) (A_eq m c 8) (after_8 m c) t d
theorem before_9 (c : Dev nD) (t : Fin cfg0.N) (d) : (dats m c).before 9 t d = iblk m c 9 t :=
  before0_9_of m (dats m c) (A_eq m c 9) (after_9 m c) t d
theorem before_10 (c : Dev nD) (t : Fin cfg0.N) (d) : (dats m c).before 10 t d = iblk m c 10 t :=
  before0_10_of m (dats m c) (A_eq m c 10) (after_10 m c) t d
theorem before_11 (c : Dev nD) (t : Fin cfg0.N) (d) : (dats m c).before 11 t d = iblk m c 11 t :=
  before0_11_of m (dats m c) (A_eq m c 11) (after_11 m c) t d
theorem before_12 (c : Dev nD) (t : Fin cfg0.N) (d) : (dats m c).before 12 t d = iblk m c 12 t :=
  before0_12_of m (dats m c) (A_eq m c 12) (after_12 m c) t d
theorem before_13 (c : Dev nD) (t : Fin cfg0.N) (d) : (dats m c).before 13 t d = iblk m c 13 t :=
  before0_13_of m (dats m c) (A_eq m c 13) (after_13 m c) t d

/-- The window whose buffer is stated only where it is stored: the second result's. -/
def late : Fin 16 → Bool := fun w => w.val == 15

/-- What is stated of it: from point 8 on, the block computed. -/
def held (c : Dev nD) (w : Fin cfg0.W) (t : Fin cfg0.N) (X : (cfg0.win w).block.Idx → Elt F (cfg0.win w).elt) : Prop :=
  8 ≤ t.val → X = (dats m c).after w t

theorem coords_val : ∀ t : Fin cfg0.N, ((grid0.coords t) 0).val = t.val := by decide +kernel

theorem flush_14 : ∀ t : Fin cfg0.N, (cfg0.win 14).flush t = true ↔ (t.val < 7 ∨ t.val = 23) := by decide +kernel

theorem flush_15 : ∀ t : Fin cfg0.N, (cfg0.win 15).flush t = true ↔ 8 ≤ t.val := by decide +kernel

/-- From point 8 on the first result's buffer is found as point 7 left it. -/
theorem before_14 (c : Dev nD) (t : Fin cfg0.N) (ht : 8 ≤ t.val) (d) : (dats m c).before 14 t d = outAt m c (ctxPt t) := by
  have hN : t.val < 24 := N_0 ▸ t.isLt
  rw [(dats m c).before_out_kept 14 rfl t (by omega) ?_ (fun _ => rfl) (fun _ _ => rfl) d, after_14]
  · congr 1
    unfold ctxPt
    ext
    simp only
    omega
  · rw [← Bool.not_eq_true, flush_14]
    simp only
    omega

/-- The first result's buffer after the body. -/
theorem left_14 (c : Dev nD) (t : Fin cfg0.N) (d) :
    (if ((grid0.coords t) 0).val < 8 then outAt m c t else (dats m c).before 14 t d) = (dats m c).after 14 t := by
  rw [coords_val, after_14]
  by_cases h : t.val < 8
  · rw [if_pos h]
    congr 1
    unfold ctxPt
    ext
    simp only
    omega
  · rw [if_neg h]
    exact before_14 m c t (by omega) d

/-- The second result's buffer after the body. -/
theorem left_15 (c : Dev nD) (t : Fin cfg0.N) (Y : FVec F S512x1024 .f32) :
    held m c 15 t (if ¬ ((grid0.coords t) 0).val < 8 then outAt m c t else Y) := fun h => by
  rw [coords_val, if_pos (by omega), after_15]

abbrev ms_0 (t : Fin cfg0.N) : Memref sig .tc .vmem S512x1024 .f32 := win0_0.stage (cfg0.slots t 0)
abbrev ms_1 (t : Fin cfg0.N) : Memref sig .tc .vmem S512x512 .bf16 := win0_1.stage (cfg0.slots t 1)
abbrev ms_2 (t : Fin cfg0.N) : Memref sig .tc .vmem S512x512 .bf16 := win0_2.stage (cfg0.slots t 2)
abbrev ms_3 (t : Fin cfg0.N) : Memref sig .tc .vmem S512x1024 .bf16 := win0_3.stage (cfg0.slots t 3)
abbrev ms_4 (t : Fin cfg0.N) : Memref sig .tc .vmem S512x1024 .bf16 := win0_4.stage (cfg0.slots t 4)
abbrev ms_5 (t : Fin cfg0.N) : Memref sig .tc .vmem S512x2048 .f32 := win0_5.stage (cfg0.slots t 5)
abbrev ms_6 (t : Fin cfg0.N) : Memref sig .tc .vmem S16x9216 .f32 := win0_6.stage (cfg0.slots t 6)
abbrev ms_7 (t : Fin cfg0.N) : Memref sig .tc .vmem S3x1024 .f32 := win0_7.stage (cfg0.slots t 7)
abbrev ms_8 (t : Fin cfg0.N) : Memref sig .tc .vmem S1x1024 .f32 := win0_8.stage (cfg0.slots t 8)
abbrev ms_9 (t : Fin cfg0.N) : Memref sig .tc .vmem S512x1024 .bf16 := win0_9.stage (cfg0.slots t 9)
abbrev ms_10 (t : Fin cfg0.N) : Memref sig .tc .vmem S1024x1024 .bf16 := win0_10.stage (cfg0.slots t 10)
abbrev ms_11 (t : Fin cfg0.N) : Memref sig .tc .vmem S1024x1024 .bf16 := win0_11.stage (cfg0.slots t 11)
abbrev ms_12 (t : Fin cfg0.N) : Memref sig .tc .vmem S1024x5632 .bf16 := win0_12.stage (cfg0.slots t 12)
abbrev ms_13 (t : Fin cfg0.N) : Memref sig .tc .vmem S2816x1024 .bf16 := win0_13.stage (cfg0.slots t 13)
abbrev ms_14 (t : Fin cfg0.N) : Memref sig .tc .vmem S512x1024 .f32 := win0_14.stage (cfg0.slots t 14)
abbrev ms_15 (t : Fin cfg0.N) : Memref sig .tc .vmem S512x1024 .f32 := win0_15.stage (cfg0.slots t 15)

abbrev hid0 : Memref sig .tc .vmem S512x2816 .bf16 := Memref.whole cc0_scratch0
abbrev norm0 : Memref sig .tc .vmem S512x1024 .bf16 := Memref.whole cc0_scratch1

theorem scoped_eq (c : Dev nD) :
    (Pipeline.ΦA spec0 c : sProp 𝕄)
      = iprop(iprop((∃ d, owns (c : Thread nD τ) hid0 fullShare d) ∗ (∃ d, owns (c : Thread nD τ) norm0 fullShare d)) ∗ (∃ r, prngReg c r)) := by
  unfold Pipeline.ΦA; rw [scopedRest0_eq]; simp only [hid0, norm0, owns_whole]; try rfl

/-- What the body is handed at point `t`. -/
def bodyPre (c : Dev nD) (t : Fin cfg0.N) : sProp 𝕄 :=
  iprop((dats m c).Φ t.castSucc ∗ (dats m c).owesAt () t.castSucc
    ∗ (∃ d, owns (c : Thread nD τ) (ms_0 t) fullShare ((dats m c).before 0 t d))
    ∗ (∃ d, owns (c : Thread nD τ) (ms_1 t) fullShare ((dats m c).before 1 t d))
    ∗ (∃ d, owns (c : Thread nD τ) (ms_2 t) fullShare ((dats m c).before 2 t d))
    ∗ (∃ d, owns (c : Thread nD τ) (ms_3 t) fullShare ((dats m c).before 3 t d))
    ∗ (∃ d, owns (c : Thread nD τ) (ms_4 t) fullShare ((dats m c).before 4 t d))
    ∗ (∃ d, owns (c : Thread nD τ) (ms_5 t) fullShare ((dats m c).before 5 t d))
    ∗ (∃ d, owns (c : Thread nD τ) (ms_6 t) fullShare ((dats m c).before 6 t d))
    ∗ (∃ d, owns (c : Thread nD τ) (ms_7 t) fullShare ((dats m c).before 7 t d))
    ∗ (∃ d, owns (c : Thread nD τ) (ms_8 t) fullShare ((dats m c).before 8 t d))
    ∗ (∃ d, owns (c : Thread nD τ) (ms_9 t) fullShare ((dats m c).before 9 t d))
    ∗ (∃ d, owns (c : Thread nD τ) (ms_10 t) fullShare ((dats m c).before 10 t d))
    ∗ (∃ d, owns (c : Thread nD τ) (ms_11 t) fullShare ((dats m c).before 11 t d))
    ∗ (∃ d, owns (c : Thread nD τ) (ms_12 t) fullShare ((dats m c).before 12 t d))
    ∗ (∃ d, owns (c : Thread nD τ) (ms_13 t) fullShare ((dats m c).before 13 t d))
    ∗ (∃ d, owns (c : Thread nD τ) (ms_14 t) fullShare ((dats m c).before 14 t d))
    ∗ (∃ Y, ⌜((dats m c).toRRel late (held m c)).Finds 15 t Y⌝ ∗ owns (c : Thread nD τ) (ms_15 t) fullShare Y))

/-- What it hands back. -/
def bodyPost (c : Dev nD) (t : Fin cfg0.N) : sProp 𝕄 :=
  iprop((dats m c).Φ t.succ ∗ (dats m c).owesAt () t.succ
    ∗ owns (c : Thread nD τ) (ms_0 t) fullShare ((dats m c).after 0 t)
    ∗ owns (c : Thread nD τ) (ms_1 t) fullShare ((dats m c).after 1 t)
    ∗ owns (c : Thread nD τ) (ms_2 t) fullShare ((dats m c).after 2 t)
    ∗ owns (c : Thread nD τ) (ms_3 t) fullShare ((dats m c).after 3 t)
    ∗ owns (c : Thread nD τ) (ms_4 t) fullShare ((dats m c).after 4 t)
    ∗ owns (c : Thread nD τ) (ms_5 t) fullShare ((dats m c).after 5 t)
    ∗ owns (c : Thread nD τ) (ms_6 t) fullShare ((dats m c).after 6 t)
    ∗ owns (c : Thread nD τ) (ms_7 t) fullShare ((dats m c).after 7 t)
    ∗ owns (c : Thread nD τ) (ms_8 t) fullShare ((dats m c).after 8 t)
    ∗ owns (c : Thread nD τ) (ms_9 t) fullShare ((dats m c).after 9 t)
    ∗ owns (c : Thread nD τ) (ms_10 t) fullShare ((dats m c).after 10 t)
    ∗ owns (c : Thread nD τ) (ms_11 t) fullShare ((dats m c).after 11 t)
    ∗ owns (c : Thread nD τ) (ms_12 t) fullShare ((dats m c).after 12 t)
    ∗ owns (c : Thread nD τ) (ms_13 t) fullShare ((dats m c).after 13 t)
    ∗ owns (c : Thread nD τ) (ms_14 t) fullShare ((dats m c).after 14 t)
    ∗ (∃ X, ⌜held m c 15 t X⌝ ∗ owns (c : Thread nD τ) (ms_15 t) fullShare X))

set_option maxHeartbeats 1600000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m c).Φ t.succ = (dats m c).Φ t.castSucc from rfl,
    show (dats m c).owesAt () t.succ = (dats m c).owesAt () t.castSucc from rfl,
    after_0, after_1, after_2, after_3, after_4, after_5, after_6, after_7, after_8, after_9, after_10, after_11, after_12, after_13]
  rw [show (dats m c).Φ t.castSucc = Pipeline.ΦA spec0 c from rfl, scoped_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%Y, -, H15⟩⟩
  iapply (body_run c (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((dats m c).before 14 t d14) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  iintro ⟨H0, H1, H2, H3, H4, H5, H6, H7, H8, H9, H10, H11, H12, H13, H14, H15, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · rw [← left_14 m c t d14]; iexact H14
  iexists _; isplitr; swap; · iexact H15
  ipureintro; exact left_15 m c t Y

/-- The body table's row at point `t`. -/
theorem row_at (t : Fin cfg0.N) : defs₀ (F := F) .tc cfg0.body (cfg0.bodyArgs t (cfg0.slots t)) = bodyAt0 t := by
  unfold defs₀; rw [Defs.onTc_tc]

theorem obligation (c : Dev nD) :
    Pipeline.BodyObligationRel (dats (F := F) m c) (defs₀ (F := F)) Variants.none () Set.univ late (held m c) := fun t => by
  rw [bigSep_W0, bigSep_W0, row_at]
  exact triple_restated (body_at m c t) rfl .rfl fun _ => .rfl

set_option backward.isDefEq.respectTransparency.types false in
/-- The launch: the arrays end at contents the data allow, and every semaphore at zero. -/
theorem run : θ_run defs (onTc (τ := τ) (main (F := F))) (s₀ m ρ)
    (fun r => Pipeline.RDat.FramePost (cfgs 0) (fun c => (dats m c).toRRel late (held m c)) (V m) r ∧ r.2.sem = fun _ => 0) :=
  Pipeline.RDat.θ_run_frame (Q' := _) cfgs (0 : Fin 1) launch0 defs₀ Variants.none (fun c => (dats m c).toRRel late (held m c)) m ρ main
    (hbody := fun c => (obligation m c).toRRel) (hshare := fun c => (dats m c).share_full fun _ => rfl)
    (howed := fun _ _ => rfl) (V := V m) (hmain := hmain m Variants.none) (hA := A_eq m) (hΦ := fun _ _ => rfl) (hQ' := fun _ h => h)

/-- No argument array is written. -/
theorem args_of {r : PUnit × MemSt nD τ sig (Elt F)}
    (h : Pipeline.RDat.FramePost (cfgs 0) (fun c => (dats m c).toRRel late (held m c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(Pipeline.RDat.FramePost.arr_in h c 0 rfl).trans ((A_eq m c 0).trans (V_main_arg0 m c)),
   (Pipeline.RDat.FramePost.arr_in h c 1 rfl).trans ((A_eq m c 1).trans (V_main_arg1 m c)),
   (Pipeline.RDat.FramePost.arr_in h c 2 rfl).trans ((A_eq m c 2).trans (V_main_arg2 m c)),
   (Pipeline.RDat.FramePost.arr_in h c 3 rfl).trans ((A_eq m c 3).trans (V_main_arg3 m c)),
   (Pipeline.RDat.FramePost.arr_in h c 4 rfl).trans ((A_eq m c 4).trans (V_main_arg4 m c)),
   (Pipeline.RDat.FramePost.arr_in h c 5 rfl).trans ((A_eq m c 5).trans (V_main_arg5 m c)),
   (Pipeline.RDat.FramePost.arr_in h c 6 rfl).trans ((A_eq m c 6).trans (V_main_arg6 m c)),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   (Pipeline.RDat.FramePost.arr_in h c 9 rfl).trans ((A_eq m c 9).trans (V_main_arg9 m c)),
   (Pipeline.RDat.FramePost.arr_in h c 10 rfl).trans ((A_eq m c 10).trans (V_main_arg10 m c)),
   (Pipeline.RDat.FramePost.arr_in h c 11 rfl).trans ((A_eq m c 11).trans (V_main_arg11 m c)),
   (Pipeline.RDat.FramePost.arr_in h c 12 rfl).trans ((A_eq m c 12).trans (V_main_arg12 m c)),
   (Pipeline.RDat.FramePost.arr_in h c 13 rfl).trans ((A_eq m c 13).trans (V_main_arg13 m c))⟩

/-- The frame: the argument arrays end unchanged and every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
    ∧ r.2.sem = fun _ => 0) :=
  (θ_run defs _ _).mono (fun _ h => ⟨fun c => args_of m h.1 c, h.2⟩) (run m ρ)

/-- What the run leaves in the two result arrays: the arrays of data whose buffers hold, at each point that writes a block
back, the block computed there. -/
theorem results_of {r : PUnit × MemSt nD τ sig (Elt F)}
    (h : Pipeline.RDat.FramePost (cfgs 0) (fun c => (dats m c).toRRel late (held m c)) (V m) r) (c : Dev nD) :
    ∃ dat : Dat τ (Elt F) Unit ℕ (UR sig nD τ) ℕ cfg0 c,
      (∀ u : Fin cfg0.N, (cfg0.win 14).flush u = true → dat.after 14 u = outAt m c (ctxPt u))
        ∧ (∀ u : Fin cfg0.N, (cfg0.win 15).flush u = true → dat.after 15 u = outAt m c u)
        ∧ ∀ w, r.2.mem ((cfg0.spec w).arr.view.loc (c.tc : Thread nD τ)) = dat.arrAt w cfg0.N := by
  obtain ⟨after, hL, hA⟩ := Pipeline.RDat.FramePost.exists_exact h c
  refine ⟨_, fun u hu => ?_, fun u hu => ?_, hA⟩
  · obtain ⟨Y, hY, hX⟩ := hL 14 u hu
    rw [(dats m c).toRRel_after_of_eq_false (by rfl)] at hX
    exact (show after 14 u = (dats m c).after 14 u from hX).trans (after_14 m c u)
  · exact ((dats m c).toRRel_leaves (by rfl) (hL 15 u hu) ((flush_15 u).mp hu)).trans (after_15 m c u)

end Cert.KernelIdeal.Merge

end
-- ==== Proof.Layer.Sigmoid.lean ====
module

public import Idealize.ShloMosaic.PureOps.Ideal
public import Idealize.ShloMosaic.Lib.IdealHost

/-!
# The logistic function written with a hyperbolic tangent

One program computes `σ(x)` as `½·tanh(½·x) + ½`, the other as `1 / (1 + exp (−x))`. Over the extended
reals the two agree everywhere, the infinities included.
-/

@[expose] public section

noncomputable section

open Idealize.ShloMosaic

namespace Cert.Layer

/-- The constant one half, as it is written in the programs. -/
abbrev half : EReal := Ideal.ofBits .f32 0x3F000000#32

/-- The logistic function, as a quotient. -/
def sigm (x : EReal) : EReal := Ideal.div 1 (1 + Ideal.exp (-x))

theorem half_eq : half = (((1 : ℝ) / 2 : ℝ) : EReal) := by
  show Ideal.ieee 8 23 0x3F000000#32 = _
  simp [Ideal.ieee]
  rw [← EReal.coe_mul]
  norm_num

/-- Over the reals: the two forms of the logistic function. -/
theorem real_sigm (r : ℝ) : 1 / 2 * Real.tanh (1 / 2 * r) + 1 / 2 = 1 / (1 + Real.exp (-r)) := by
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have p := Real.exp_pos (1 / 2 * r)
  have q := Real.exp_pos (-(1 / 2 * r))
  rw [Real.tanh_eq_sinh_div_cosh, Real.sinh_eq, Real.cosh_eq, h1]
  set a := Real.exp (1 / 2 * r)
  set b := Real.exp (-(1 / 2 * r))
  have n1 : a + b ≠ 0 := by positivity
  have n2 : 1 + b * b ≠ 0 := by positivity
  field_simp
  nlinarith [h2]

/-- The two forms of the logistic function agree on the extended reals. -/
theorem tanh_form (x : EReal) : half * Ideal.tanh (half * x) + half = sigm x := by
  rw [half_eq, sigm]
  induction x with
  | bot =>
    rw [EReal.coe_mul_bot_of_pos (by norm_num)]
    simp only [Ideal.tanh_bot, EReal.neg_bot, Ideal.exp_top]
    rw [Ideal.div, EReal.add_top_of_ne_bot (x := 1) (EReal.coe_ne_bot 1), if_neg (by simp), EReal.inv_top, mul_zero]
    norm_num
    norm_cast
    norm_num
  | top =>
    rw [EReal.coe_mul_top_of_pos (by norm_num)]
    simp only [Ideal.tanh_top, EReal.neg_top, Ideal.exp_bot]
    rw [Ideal.div]
    norm_num
    norm_cast
    norm_num
  | coe r =>
    have e : (1 : EReal) + Ideal.exp (-(r : EReal)) = ((1 + Real.exp (-r) : ℝ) : EReal) := by
      rw [← EReal.coe_neg, Ideal.exp_coe]; norm_cast
    have n : (1 + Real.exp (-r)) ≠ 0 := by have := Real.exp_pos (-r); positivity
    rw [e, Ideal.div_coe n, ← EReal.coe_mul, Ideal.tanh_coe, ← EReal.coe_mul, ← EReal.coe_add, real_sigm, one_mul]

end Cert.Layer

end
-- ==== Proof.Layer.Rows.lean ====
module

public import proofs.«01_k».proof.Proof.Layer.Sigmoid

@[expose] public section

/-!
# What the layer computes for one token

Every array of the layer has one row per token, and the layer treats the rows one by one. These are
the functions of a row, over the extended reals: the modulated normalisation, the gated feed-forward
layer, the merge of the two branches.
-/

noncomputable section

open Idealize.ShloMosaic

namespace Cert.Layer

/-- The number of features, as a constant of the programs. -/
abbrev width : EReal := Ideal.ofBits .f32 0x44800000#32

/-- The small number under the root, as a constant of the programs. -/
abbrev tiny : EReal := Ideal.ofBits .f32 0x358637BD#32

/-- The mean of the squares of a row. -/
def meanSq (v : Fin 1024 → EReal) : EReal := Ideal.div (∑ k, v k * v k) width

/-- A row divided by its root mean square and weighted. -/
def rms (v g : Fin 1024 → EReal) (k : Fin 1024) : EReal := v k * Ideal.rsqrt (meanSq v + tiny) * g k

/-- The normalised row, scaled and shifted. -/
def modulated (v g scale shift : Fin 1024 → EReal) (k : Fin 1024) : EReal := rms v g k * (1 + scale k) + shift k

/-- A row times a matrix. -/
def rowDot {m n : ℕ} (v : Fin m → EReal) (w : Fin m → Fin n → EReal) (l : Fin n) : EReal := ∑ x, v x * w x l

/-- The hidden row of the gated feed-forward layer: the first half of the projection, times its
logistic function, times the second half. -/
def gatedRow (h : Fin 1024 → EReal) (w : Fin 1024 → Fin 5632 → EReal) (l : Fin 2816) : EReal :=
  rowDot h w ⟨l.val, by omega⟩ * sigm (rowDot h w ⟨l.val, by omega⟩) * rowDot h w ⟨2816 + l.val, by omega⟩

/-- A row plus the feed-forward layer of its normalised row, gated by one half of `gate`. -/
def ffn (v g scale shift gate : Fin 1024 → EReal) (wIn : Fin 1024 → Fin 5632 → EReal)
    (wOut : Fin 2816 → Fin 1024 → EReal) (k : Fin 1024) : EReal :=
  v k + half * gate k * rowDot (gatedRow (modulated v g scale shift) wIn) wOut k

/-- A row plus the gated projection of the two branches, each weighted by the logistic function of its
half of the gate row. -/
def merged (v : Fin 1024 → EReal) (attn : Fin 512 → EReal) (lru : Fin 1024 → EReal) (gates : Fin 2048 → EReal)
    (gate : Fin 1024 → EReal) (wa : Fin 512 → Fin 1024 → EReal) (wl wo : Fin 1024 → Fin 1024 → EReal)
    (k : Fin 1024) : EReal :=
  v k + gate k * rowDot (fun x : Fin 1024 => sigm (gates ⟨x.val, by omega⟩) * rowDot attn wa x
    + sigm (gates ⟨1024 + x.val, by omega⟩) * rowDot lru wl x) wo k

/-- The last stage of the layer, for one token: the two branches merged into the residual, the second
feed-forward layer, the final normalisation. The modulation row holds nine vectors; the gate of the
merge, the shift, the scale and the gate of the feed-forward layer are the last four. -/
def lastStage (v : Fin 1024 → EReal) (attn : Fin 512 → EReal) (lru : Fin 1024 → EReal) (gates : Fin 2048 → EReal)
    (mods : Fin 9216 → EReal) (g gFinal : Fin 1024 → EReal) (wa : Fin 512 → Fin 1024 → EReal) (wl wo : Fin 1024 → Fin 1024 → EReal)
    (wIn : Fin 1024 → Fin 5632 → EReal) (wOut : Fin 2816 → Fin 1024 → EReal) : Fin 1024 → EReal :=
  rms (ffn (merged v attn lru gates (fun k => mods ⟨5120 + k.val, by omega⟩) wa wl wo) g
    (fun k => mods ⟨7168 + k.val, by omega⟩) (fun k => mods ⟨6144 + k.val, by omega⟩)
    (fun k => mods ⟨8192 + k.val, by omega⟩) wIn wOut) gFinal

end Cert.Layer

end
-- ==== Proof.Merge.BlockValue.lean ====
module

public import proofs.«01_k».proof.Proof.Merge.Block
public import proofs.«01_k».proof.Proof.Layer.Rows
public import Idealize.ShloMosaic.Lib.Pointwise
public import Idealize.ShloMosaic.Lib.Pipeline.ValueKit

@[expose] public section

/-!
# One block of the merge kernel, row by row

Over the extended reals, row `r` of the block that the body computes is the layer's function of row `r`
of each operand's block.
-/

set_option maxRecDepth 16384

noncomputable section

namespace Cert.KernelIdeal.Merge

open Cert.KernelIdeal Cert.KernelIdeal.Gen Cert.Layer
open Idealize.ShloMosaic Idealize.ShloMosaic.TcCoe Idealize.ShloMosaic.Tactic
open Idealize.SL.Sem

/-! ## The hidden layer -/

theorem chunk0_at (xn : Vec Ideal S512x1024 .bf16) (w : Vec Ideal S1024x5632 .bf16) (r : Fin 512) (j : Fin 256) :
    chunk0 (F := Ideal) xn w (ix2 r j)
      = gatedRow (fun k => xn (ix2 r k)) (fun x l => w (ix2 x l)) ⟨0 + j.val, by omega⟩ := by
  unfold gatedRow
  rw [← tanh_form]
  unfold rowDot half
  simp only [← Nat.add_assoc, Nat.reduceAdd]
  pointwise [chunk0, k0_pay18]

theorem chunk1_at (xn : Vec Ideal S512x1024 .bf16) (w : Vec Ideal S1024x5632 .bf16) (r : Fin 512) (j : Fin 256) :
    chunk1 (F := Ideal) xn w (ix2 r j)
      = gatedRow (fun k => xn (ix2 r k)) (fun x l => w (ix2 x l)) ⟨256 + j.val, by omega⟩ := by
  unfold gatedRow
  rw [← tanh_form]
  unfold rowDot half
  simp only [← Nat.add_assoc, Nat.reduceAdd]
  pointwise [chunk1, k0_pay19]

theorem chunk2_at (xn : Vec Ideal S512x1024 .bf16) (w : Vec Ideal S1024x5632 .bf16) (r : Fin 512) (j : Fin 256) :
    chunk2 (F := Ideal) xn w (ix2 r j)
      = gatedRow (fun k => xn (ix2 r k)) (fun x l => w (ix2 x l)) ⟨512 + j.val, by omega⟩ := by
  unfold gatedRow
  rw [← tanh_form]
  unfold rowDot half
  simp only [← Nat.add_assoc, Nat.reduceAdd]
  pointwise [chunk2, k0_pay20]

theorem chunk3_at (xn : Vec Ideal S512x1024 .bf16) (w : Vec Ideal S1024x5632 .bf16) (r : Fin 512) (j : Fin 256) :
    chunk3 (F := Ideal) xn w (ix2 r j)
      = gatedRow (fun k => xn (ix2 r k)) (fun x l => w (ix2 x l)) ⟨768 + j.val, by omega⟩ := by
  unfold gatedRow
  rw [← tanh_form]
  unfold rowDot half
  simp only [← Nat.add_assoc, Nat.reduceAdd]
  pointwise [chunk3, k0_pay21, k0_pay22]

theorem chunk4_at (xn : Vec Ideal S512x1024 .bf16) (w : Vec Ideal S1024x5632 .bf16) (r : Fin 512) (j : Fin 256) :
    chunk4 (F := Ideal) xn w (ix2 r j)
      = gatedRow (fun k => xn (ix2 r k)) (fun x l => w (ix2 x l)) ⟨1024 + j.val, by omega⟩ := by
  unfold gatedRow
  rw [← tanh_form]
  unfold rowDot half
  simp only [← Nat.add_assoc, Nat.reduceAdd]
  pointwise [chunk4, k0_pay23]

theorem chunk5_at (xn : Vec Ideal S512x1024 .bf16) (w : Vec Ideal S1024x5632 .bf16) (r : Fin 512) (j : Fin 256) :
    chunk5 (F := Ideal) xn w (ix2 r j)
      = gatedRow (fun k => xn (ix2 r k)) (fun x l => w (ix2 x l)) ⟨1280 + j.val, by omega⟩ := by
  unfold gatedRow
  rw [← tanh_form]
  unfold rowDot half
  simp only [← Nat.add_assoc, Nat.reduceAdd]
  pointwise [chunk5, k0_pay24, k0_pay25]

theorem chunk6_at (xn : Vec Ideal S512x1024 .bf16) (w : Vec Ideal S1024x5632 .bf16) (r : Fin 512) (j : Fin 256) :
    chunk6 (F := Ideal) xn w (ix2 r j)
      = gatedRow (fun k => xn (ix2 r k)) (fun x l => w (ix2 x l)) ⟨1536 + j.val, by omega⟩ := by
  unfold gatedRow
  rw [← tanh_form]
  unfold rowDot half
  simp only [← Nat.add_assoc, Nat.reduceAdd]
  pointwise [chunk6, k0_pay26]

theorem chunk7_at (xn : Vec Ideal S512x1024 .bf16) (w : Vec Ideal S1024x5632 .bf16) (r : Fin 512) (j : Fin 256) :
    chunk7 (F := Ideal) xn w (ix2 r j)
      = gatedRow (fun k => xn (ix2 r k)) (fun x l => w (ix2 x l)) ⟨1792 + j.val, by omega⟩ := by
  unfold gatedRow
  rw [← tanh_form]
  unfold rowDot half
  simp only [← Nat.add_assoc, Nat.reduceAdd]
  pointwise [chunk7, k0_pay27, k0_pay28, k0_pay29]

theorem chunk8_at (xn : Vec Ideal S512x1024 .bf16) (w : Vec Ideal S1024x5632 .bf16) (r : Fin 512) (j : Fin 256) :
    chunk8 (F := Ideal) xn w (ix2 r j)
      = gatedRow (fun k => xn (ix2 r k)) (fun x l => w (ix2 x l)) ⟨2048 + j.val, by omega⟩ := by
  unfold gatedRow
  rw [← tanh_form]
  unfold rowDot half
  simp only [← Nat.add_assoc, Nat.reduceAdd]
  pointwise [chunk8, k0_pay30]

theorem chunk9_at (xn : Vec Ideal S512x1024 .bf16) (w : Vec Ideal S1024x5632 .bf16) (r : Fin 512) (j : Fin 256) :
    chunk9 (F := Ideal) xn w (ix2 r j)
      = gatedRow (fun k => xn (ix2 r k)) (fun x l => w (ix2 x l)) ⟨2304 + j.val, by omega⟩ := by
  unfold gatedRow
  rw [← tanh_form]
  unfold rowDot half
  simp only [← Nat.add_assoc, Nat.reduceAdd]
  pointwise [chunk9, k0_pay31, k0_pay32, k0_pay33, k0_pay34]

theorem chunk10_at (xn : Vec Ideal S512x1024 .bf16) (w : Vec Ideal S1024x5632 .bf16) (r : Fin 512) (j : Fin 256) :
    chunk10 (F := Ideal) xn w (ix2 r j)
      = gatedRow (fun k => xn (ix2 r k)) (fun x l => w (ix2 x l)) ⟨2560 + j.val, by omega⟩ := by
  unfold gatedRow
  rw [← tanh_form]
  unfold rowDot half
  simp only [← Nat.add_assoc, Nat.reduceAdd]
  pointwise [chunk10, k0_pay35]

/-- A function given by its values on one chunk of columns, read at an index of that chunk. -/
theorem chunk_col {C : FVec Ideal S512x256 .bf16} {f : Fin 512 → Fin 2816 → EReal} {o : ℕ} {ho : ∀ j : Fin 256, o + j.val < 2816}
    (hC : ∀ (r : Fin 512) (j : Fin 256), C (ix2 r j) = f r ⟨o + j.val, ho j⟩) (x : S512x256.Idx) {r : Fin 512} {l : Fin 2816}
    (h0 : r.val = (x 0).val) (h1 : l.val = o + (x 1).val) : C x = f r l := by
  obtain rfl : r = x 0 := Fin.ext h0
  obtain rfl : l = ⟨o + (x 1).val, ho (x 1)⟩ := Fin.ext h1
  refine Eq.trans (congrArg C ?_) (hC (x 0) (x 1))
  exact eq_ix2 x

/-- The hidden layer of the block, at a row and a column. -/
theorem hid_at (xn : Vec Ideal S512x1024 .bf16) (w : Vec Ideal S1024x5632 .bf16) (r : Fin 512) (l : Fin 2816) :
    hid (F := Ideal) xn w (ix2 r l) = gatedRow (fun k => xn (ix2 r k)) (fun x l => w (ix2 x l)) l := by
  unfold hid hidPieces
  canon_tiles x h
  · exact chunk_col (f := fun r l => gatedRow (fun k => xn (ix2 r k)) (fun x l => w (ix2 x l)) l) (chunk10_at xn w) x h0 h1
  · exact chunk_col (f := fun r l => gatedRow (fun k => xn (ix2 r k)) (fun x l => w (ix2 x l)) l) (chunk9_at xn w) x h0 h1
  · exact chunk_col (f := fun r l => gatedRow (fun k => xn (ix2 r k)) (fun x l => w (ix2 x l)) l) (chunk8_at xn w) x h0 h1
  · exact chunk_col (f := fun r l => gatedRow (fun k => xn (ix2 r k)) (fun x l => w (ix2 x l)) l) (chunk7_at xn w) x h0 h1
  · exact chunk_col (f := fun r l => gatedRow (fun k => xn (ix2 r k)) (fun x l => w (ix2 x l)) l) (chunk6_at xn w) x h0 h1
  · exact chunk_col (f := fun r l => gatedRow (fun k => xn (ix2 r k)) (fun x l => w (ix2 x l)) l) (chunk5_at xn w) x h0 h1
  · exact chunk_col (f := fun r l => gatedRow (fun k => xn (ix2 r k)) (fun x l => w (ix2 x l)) l) (chunk4_at xn w) x h0 h1
  · exact chunk_col (f := fun r l => gatedRow (fun k => xn (ix2 r k)) (fun x l => w (ix2 x l)) l) (chunk3_at xn w) x h0 h1
  · exact chunk_col (f := fun r l => gatedRow (fun k => xn (ix2 r k)) (fun x l => w (ix2 x l)) l) (chunk2_at xn w) x h0 h1
  · exact chunk_col (f := fun r l => gatedRow (fun k => xn (ix2 r k)) (fun x l => w (ix2 x l)) l) (chunk1_at xn w) x h0 h1
  · exact chunk_col (f := fun r l => gatedRow (fun k => xn (ix2 r k)) (fun x l => w (ix2 x l)) l) (chunk0_at xn w) x h0 (h1.trans (Nat.zero_add _).symm)

/-! ## The merged row -/

/-- Choosing one of two blocks by the grid coordinate. -/
theorem select_at (i : grid0.Coords) (a b : EReal) :
    Scalar.select (Scalar.cmpi .slt (BitVec.ofNat 32 (i 0).val) 8#32) a b = if (i 0).val < 8 then a else b := by
  have h : Scalar.cmpi .slt (BitVec.ofNat 32 (i 0).val) 8#32 = if (i 0).val < 8 then 1#1 else 0#1 := by
    revert i; decide +kernel
  rw [h]
  by_cases h : (i 0).val < 8 <;> simp [h, Scalar.select]

/-- Row `r` of the merged block, as a function of the rows of the operands. -/
def mergeRow (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x9 : Vec Ideal S512x1024 .bf16) (x10 x11 : Vec Ideal S1024x1024 .bf16)
    (r : Fin 512) : Fin 1024 → EReal :=
  merged (fun k => x0 (ix2 r k)) (fun k => if (i 0).val < 8 then x1 (ix2 r k) else x2 (ix2 r k))
    (fun k => if (i 0).val < 8 then x3 (ix2 r k) else x4 (ix2 r k)) (fun k => x5 (ix2 r k))
    (fun k => modRow i x6 (ix2 0 ⟨5120 + k.val, by omega⟩)) (fun x l => x9 (ix2 x l)) (fun x l => x10 (ix2 x l))
    (fun x l => x11 (ix2 x l))

theorem mergeBlk_at (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x9 : Vec Ideal S512x1024 .bf16) (x10 x11 : Vec Ideal S1024x1024 .bf16)
    (r : Fin 512) (j : Fin 1024) :
    mergeBlk (F := Ideal) i x0 x1 x2 x3 x4 x5 x6 x9 x10 x11 (ix2 r j) = mergeRow i x0 x1 x2 x3 x4 x5 x6 x9 x10 x11 r j := by
  unfold mergeRow merged rowDot
  simp only [← tanh_form, ← select_at, half]
  pointwise [mergeBlk, k0_pay13, k0_pay7, k0_pay11, k0_pay12]

/-! ## The normalised row -/

theorem meanBlk_at (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x9 : Vec Ideal S512x1024 .bf16) (x10 x11 : Vec Ideal S1024x1024 .bf16)
    (r : Fin 512) :
    meanBlk (F := Ideal) i x0 x1 x2 x3 x4 x5 x6 x9 x10 x11 (ix2 r 0) = meanSq (mergeRow i x0 x1 x2 x3 x4 x5 x6 x9 x10 x11 r) := by
  unfold meanSq
  simp only [← mergeBlk_at]
  unfold mergeBlk
  pointwise [meanBlk, k0_pay15]

/-- The operand of the feed-forward layer, at a row and a column. -/
theorem normBlk_at (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x7 : Vec Ideal S3x1024 .f32) (x9 : Vec Ideal S512x1024 .bf16)
    (x10 x11 : Vec Ideal S1024x1024 .bf16) (r : Fin 512) (j : Fin 1024) :
    normBlk (F := Ideal) i x0 x1 x2 x3 x4 x5 x6 x7 x9 x10 x11 (ix2 r j)
      = modulated (mergeRow i x0 x1 x2 x3 x4 x5 x6 x9 x10 x11 r) (fun k => x7 (ix2 2 k))
          (fun k => modRow i x6 (ix2 0 ⟨7168 + k.val, by omega⟩)) (fun k => modRow i x6 (ix2 0 ⟨6144 + k.val, by omega⟩)) j := by
  unfold modulated rms
  rw [← meanBlk_at, ← mergeBlk_at]
  pointwise [normBlk, k0_pay16, k0_pay14, k0_pay8, k0_pay9, normRow]

/-! ## The block -/

/-- Row `r` of the block after the feed-forward layer. -/
def ffnRow (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x7 : Vec Ideal S3x1024 .f32)
    (x9 : Vec Ideal S512x1024 .bf16) (x10 x11 : Vec Ideal S1024x1024 .bf16) (x12 : Vec Ideal S1024x5632 .bf16) (x13 : Vec Ideal S2816x1024 .bf16)
    (r : Fin 512) : Fin 1024 → EReal :=
  ffn (mergeRow i x0 x1 x2 x3 x4 x5 x6 x9 x10 x11 r) (fun k => x7 (ix2 2 k))
    (fun k => modRow i x6 (ix2 0 ⟨7168 + k.val, by omega⟩)) (fun k => modRow i x6 (ix2 0 ⟨6144 + k.val, by omega⟩))
    (fun k => modRow i x6 (ix2 0 ⟨8192 + k.val, by omega⟩)) (fun x l => x12 (ix2 x l)) (fun x l => x13 (ix2 x l))

/-- The residual plus the gated product, at a row and a column: the feed-forward layer of the row. -/
theorem ffn_at (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x7 : Vec Ideal S3x1024 .f32)
    (x9 : Vec Ideal S512x1024 .bf16) (x10 x11 : Vec Ideal S1024x1024 .bf16) (x12 : Vec Ideal S1024x5632 .bf16) (x13 : Vec Ideal S2816x1024 .bf16)
    (r : Fin 512) (j : Fin 1024) :
    k0_pay36 (F := Ideal) (mergeBlk i x0 x1 x2 x3 x4 x5 x6 x9 x10 x11) (k0_pay17 (k0_pay10 (modRow i x6)))
      (hid (normBlk i x0 x1 x2 x3 x4 x5 x6 x7 x9 x10 x11) x12) x13 (ix2 r j)
      = ffnRow i x0 x1 x2 x3 x4 x5 x6 x7 x9 x10 x11 x12 x13 r j := by
  unfold ffnRow ffn
  rw [← mergeBlk_at]
  have e : rowDot (gatedRow (modulated (mergeRow i x0 x1 x2 x3 x4 x5 x6 x9 x10 x11 r) (fun k => x7 (ix2 2 k))
      (fun k => modRow i x6 (ix2 0 ⟨7168 + k.val, by omega⟩)) (fun k => modRow i x6 (ix2 0 ⟨6144 + k.val, by omega⟩)))
      (fun x l => x12 (ix2 x l))) (fun x l => x13 (ix2 x l)) j
      = ∑ l : Fin 2816, hid (F := Ideal) (normBlk i x0 x1 x2 x3 x4 x5 x6 x7 x9 x10 x11) x12 (ix2 r l) * x13 (ix2 l j) := by
    refine Finset.sum_congr rfl fun l _ => congrArg (· * _) ?_
    rw [hid_at]
    exact congrArg (fun h => gatedRow h _ l) (funext fun k => (normBlk_at i x0 x1 x2 x3 x4 x5 x6 x7 x9 x10 x11 r k).symm)
  rw [e]
  unfold half
  pointwise [k0_pay36, k0_pay17, k0_pay10]

/-- **The block, at a row and a column.** -/
theorem outBlk_at (i : grid0.Coords) (x0 : Vec Ideal S512x1024 .f32) (x1 x2 : Vec Ideal S512x512 .bf16) (x3 x4 : Vec Ideal S512x1024 .bf16)
    (x5 : Vec Ideal S512x2048 .f32) (x6 : Vec Ideal S16x9216 .f32) (x7 : Vec Ideal S3x1024 .f32) (x8 : Vec Ideal S1x1024 .f32)
    (x9 : Vec Ideal S512x1024 .bf16) (x10 x11 : Vec Ideal S1024x1024 .bf16) (x12 : Vec Ideal S1024x5632 .bf16) (x13 : Vec Ideal S2816x1024 .bf16)
    (r : Fin 512) (j : Fin 1024) :
    outBlk (F := Ideal) i x0 x1 x2 x3 x4 x5 x6 x7 x8 x9 x10 x11 x12 x13 (ix2 r j)
      = rms (ffnRow i x0 x1 x2 x3 x4 x5 x6 x7 x9 x10 x11 x12 x13 r) (fun k => x8 (ix2 0 k)) j := by
  unfold rms meanSq
  simp only [← ffn_at]
  pointwise [outBlk, k0_pay1, k0_pay37]

end Cert.KernelIdeal.Merge

end
-- ==== Proof.Merge.Rows.lean ====
module

public import proofs.«01_k».proof.Proof.Merge.Run
public import proofs.«01_k».proof.Proof.Merge.BlockValue

@[expose] public section

/-!
# The arrays the merge kernel leaves

Row `r` of the block computed at grid point `t` is the last stage of the layer of row `512·t + r` of the
operand arrays; so the two result arrays hold, row by row, the last stage of the context tokens and of
the latent tokens.
-/

set_option maxRecDepth 16384

noncomputable section

namespace Cert.KernelIdeal.Merge

open Cert.KernelIdeal Cert.KernelIdeal.Gen Cert.Layer
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-! ## Where the blocks lie -/

/-- Every window's block index, at every grid point. -/
theorem idx : ∀ t : Fin cfg0.N,
    win0_0.index t = ![t.val, 0] ∧ win0_1.index t = ![min t.val 7, 0] ∧ win0_2.index t = ![t.val - 8, 0]
    ∧ win0_3.index t = ![min t.val 7, 0] ∧ win0_4.index t = ![t.val - 8, 0] ∧ win0_5.index t = ![t.val, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![0, 0]
    ∧ win0_14.index t = ![min t.val 7, 0] ∧ win0_15.index t = ![t.val - 8, 0] :=
  (by decide +kernel : ∀ t : Fin grid0.N, _)

/-- The row of the modulation array that a grid point reads. -/
theorem mods_idx : ∀ t : Fin cfg0.N,
    k0_off1 (grid0.coords t) 0 = (if t.val < 8 then 0 else 1 + (t.val - 8) / 2) ∧ k0_off1 (grid0.coords t) 1 = 0 :=
  (by decide +kernel : ∀ t : Fin grid0.N, _)

theorem point_lt (t : Fin cfg0.N) : t.val < 24 := lt_of_lt_of_eq t.isLt N_0

/-! ## The rows of the operands' blocks -/

theorem row_0 (c : Dev nD) (t : Fin cfg0.N) (r : Fin 512) (k : Fin 1024) :
    iblk m c 0 t (ix2 r k) = m ((c.tc : Thread nD τ).loc main_arg0) (ix2 ⟨512 * t.val + r.val, by have := point_lt t; omega⟩ k) := by
  blk_point [iblk, V, idx t]

theorem row_5 (c : Dev nD) (t : Fin cfg0.N) (r : Fin 512) (k : Fin 2048) :
    iblk m c 5 t (ix2 r k) = m ((c.tc : Thread nD τ).loc main_arg5) (ix2 ⟨512 * t.val + r.val, by have := point_lt t; omega⟩ k) := by
  blk_point [iblk, V, idx t]

theorem row_1 (c : Dev nD) (t : Fin cfg0.N) (h : t.val < 8) (r : Fin 512) (k : Fin 512) :
    iblk m c 1 t (ix2 r k) = m ((c.tc : Thread nD τ).loc main_arg1) (ix2 ⟨512 * t.val + r.val, by omega⟩ k) := by
  blk_point [iblk, V, idx t]

theorem row_3 (c : Dev nD) (t : Fin cfg0.N) (h : t.val < 8) (r : Fin 512) (k : Fin 1024) :
    iblk m c 3 t (ix2 r k) = m ((c.tc : Thread nD τ).loc main_arg3) (ix2 ⟨512 * t.val + r.val, by omega⟩ k) := by
  blk_point [iblk, V, idx t]

theorem row_2 (c : Dev nD) (t : Fin cfg0.N) (h : 8 ≤ t.val) (r : Fin 512) (k : Fin 512) :
    iblk m c 2 t (ix2 r k) = m ((c.tc : Thread nD τ).loc main_arg2) (ix2 ⟨512 * (t.val - 8) + r.val, by have := point_lt t; omega⟩ k) := by
  blk_point [iblk, V, idx t]

theorem row_4 (c : Dev nD) (t : Fin cfg0.N) (h : 8 ≤ t.val) (r : Fin 512) (k : Fin 1024) :
    iblk m c 4 t (ix2 r k) = m ((c.tc : Thread nD τ).loc main_arg4) (ix2 ⟨512 * (t.val - 8) + r.val, by have := point_lt t; omega⟩ k) := by
  blk_point [iblk, V, idx t]

theorem row_9 (c : Dev nD) (t : Fin cfg0.N) (x : Fin 512) (l : Fin 1024) :
    iblk m c 9 t (ix2 x l) = m ((c.tc : Thread nD τ).loc main_arg9) (ix2 x l) := by
  blk_point [iblk, V, idx t]

theorem row_10 (c : Dev nD) (t : Fin cfg0.N) (x : Fin 1024) (l : Fin 1024) :
    iblk m c 10 t (ix2 x l) = m ((c.tc : Thread nD τ).loc main_arg10) (ix2 x l) := by
  blk_point [iblk, V, idx t]

theorem row_11 (c : Dev nD) (t : Fin cfg0.N) (x : Fin 1024) (l : Fin 1024) :
    iblk m c 11 t (ix2 x l) = m ((c.tc : Thread nD τ).loc main_arg11) (ix2 x l) := by
  blk_point [iblk, V, idx t]

theorem row_12 (c : Dev nD) (t : Fin cfg0.N) (x : Fin 1024) (l : Fin 5632) :
    iblk m c 12 t (ix2 x l) = m ((c.tc : Thread nD τ).loc main_arg12) (ix2 x l) := by
  blk_point [iblk, V, idx t]

theorem row_13 (c : Dev nD) (t : Fin cfg0.N) (x : Fin 2816) (l : Fin 1024) :
    iblk m c 13 t (ix2 x l) = m ((c.tc : Thread nD τ).loc main_arg13) (ix2 x l) := by
  blk_point [iblk, V, idx t]

theorem row_6 (c : Dev nD) (t : Fin cfg0.N) (q : Fin 16) (hq : q.val = if t.val < 8 then 0 else 1 + (t.val - 8) / 2) (k : Fin 9216) :
    modRow (F := Ideal) (grid0.coords t) (iblk m c 6 t) (ix2 0 k) = m ((c.tc : Thread nD τ).loc main_arg6) (ix2 q k) := by
  have e := mods_idx t
  pointwise [modRow]
  blk_point [iblk, V, idx t, e]

theorem row_7 (c : Dev nD) (t : Fin cfg0.N) (k : Fin 1024) : iblk m c 7 t (ix2 2 k) = m ((c.tc : Thread nD τ).loc main_arg7) (ix3 0 2 k) := by
  refine Eq.trans (b := V m c main_v0 (ix2 2 k)) ?_ ?_
  · blk_ext [iblk, idx t]
  · entry_read
    pointwise

theorem row_8 (c : Dev nD) (t : Fin cfg0.N) (k : Fin 1024) : iblk m c 8 t (ix2 0 k) = m ((c.tc : Thread nD τ).loc main_arg8) (ix1 k) := by
  refine Eq.trans (b := V m c main_v1 (ix2 0 k)) ?_ ?_
  · blk_ext [iblk, idx t]
  · entry_read
    pointwise

end Cert.KernelIdeal.Merge

end
-- ==== Proof.Merge.Result.lean ====
module

public import proofs.«01_k».proof.Proof.Merge.Rows

@[expose] public section

/-!
# The results of the merge kernel

The two result arrays hold, row by row, the last stage of the layer: of the context tokens in the first,
of the latent tokens in the second.
-/

set_option maxRecDepth 16384

noncomputable section

namespace Cert.KernelIdeal.Merge

open Cert.KernelIdeal Cert.KernelIdeal.Gen Cert.Layer
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The last stage of the layer for context token `R`, of the argument arrays. -/
def ctxOut (c : Dev nD) (R : Fin 4096) : Fin 1024 → EReal :=
  lastStage (fun k => m ((c.tc : Thread nD τ).loc main_arg0) (ix2 ⟨R.val, by omega⟩ k)) (fun k => m ((c.tc : Thread nD τ).loc main_arg1) (ix2 R k)) (fun k => m ((c.tc : Thread nD τ).loc main_arg3) (ix2 R k))
    (fun k => m ((c.tc : Thread nD τ).loc main_arg5) (ix2 ⟨R.val, by omega⟩ k)) (fun k => m ((c.tc : Thread nD τ).loc main_arg6) (ix2 0 k)) (fun k => m ((c.tc : Thread nD τ).loc main_arg7) (ix3 0 2 k)) (fun k => m ((c.tc : Thread nD τ).loc main_arg8) (ix1 k))
    (fun x l => m ((c.tc : Thread nD τ).loc main_arg9) (ix2 x l)) (fun x l => m ((c.tc : Thread nD τ).loc main_arg10) (ix2 x l)) (fun x l => m ((c.tc : Thread nD τ).loc main_arg11) (ix2 x l))
    (fun x l => m ((c.tc : Thread nD τ).loc main_arg12) (ix2 x l)) (fun x l => m ((c.tc : Thread nD τ).loc main_arg13) (ix2 x l))

/-- The last stage of the layer for latent token `R`, of the argument arrays. -/
def latOut (c : Dev nD) (R : Fin 8192) : Fin 1024 → EReal :=
  lastStage (fun k => m ((c.tc : Thread nD τ).loc main_arg0) (ix2 ⟨4096 + R.val, by omega⟩ k)) (fun k => m ((c.tc : Thread nD τ).loc main_arg2) (ix2 R k)) (fun k => m ((c.tc : Thread nD τ).loc main_arg4) (ix2 R k))
    (fun k => m ((c.tc : Thread nD τ).loc main_arg5) (ix2 ⟨4096 + R.val, by omega⟩ k)) (fun k => m ((c.tc : Thread nD τ).loc main_arg6) (ix2 ⟨1 + R.val / 1024, by omega⟩ k)) (fun k => m ((c.tc : Thread nD τ).loc main_arg7) (ix3 0 2 k)) (fun k => m ((c.tc : Thread nD τ).loc main_arg8) (ix1 k))
    (fun x l => m ((c.tc : Thread nD τ).loc main_arg9) (ix2 x l)) (fun x l => m ((c.tc : Thread nD τ).loc main_arg10) (ix2 x l)) (fun x l => m ((c.tc : Thread nD τ).loc main_arg11) (ix2 x l))
    (fun x l => m ((c.tc : Thread nD τ).loc main_arg12) (ix2 x l)) (fun x l => m ((c.tc : Thread nD τ).loc main_arg13) (ix2 x l))

/-- Row `r` of the block computed at point `t`, as the last stage of the rows of the operands' blocks. -/
theorem outAt_row (c : Dev nD) (t : Fin cfg0.N) (r : Fin 512) (j : Fin 1024) :
    outAt m c t (ix2 r j)
      = lastStage (fun k => iblk m c 0 t (ix2 r k))
          (fun k => if (grid0.coords t 0).val < 8 then iblk m c 1 t (ix2 r k) else iblk m c 2 t (ix2 r k))
          (fun k => if (grid0.coords t 0).val < 8 then iblk m c 3 t (ix2 r k) else iblk m c 4 t (ix2 r k))
          (fun k => iblk m c 5 t (ix2 r k)) (fun k => modRow (F := Ideal) (grid0.coords t) (iblk m c 6 t) (ix2 0 k))
          (fun k => iblk m c 7 t (ix2 2 k)) (fun k => iblk m c 8 t (ix2 0 k)) (fun x l => iblk m c 9 t (ix2 x l))
          (fun x l => iblk m c 10 t (ix2 x l)) (fun x l => iblk m c 11 t (ix2 x l)) (fun x l => iblk m c 12 t (ix2 x l))
          (fun x l => iblk m c 13 t (ix2 x l)) j :=
  outBlk_at (grid0.coords t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) r j

/-- Row `r` of the block computed at a point of the context tokens. -/
theorem outAt_ctx (c : Dev nD) (t : Fin cfg0.N) (h : t.val < 8) (r : Fin 512) (j : Fin 1024) :
    outAt m c t (ix2 r j) = ctxOut m c ⟨512 * t.val + r.val, by omega⟩ j := by
  have hc : (grid0.coords t 0).val < 8 := by rw [coords_val]; omega
  have e6 : ∀ k, modRow (F := Ideal) (grid0.coords t) (iblk m c 6 t) (ix2 0 k) = _ :=
    row_6 m c t 0 (by simp [h])
  rw [outAt_row]
  unfold ctxOut
  simp only [if_pos hc, e6, row_0 m c t, row_1 m c t h, row_3 m c t h, row_5 m c t, row_7 m c t, row_8 m c t, row_9 m c t,
    row_10 m c t, row_11 m c t, row_12 m c t, row_13 m c t]

/-- Row `r` of the block computed at a point of the latent tokens. -/
theorem outAt_lat (c : Dev nD) (t : Fin cfg0.N) (h : 8 ≤ t.val) (r : Fin 512) (j : Fin 1024) :
    outAt m c t (ix2 r j) = latOut m c ⟨512 * (t.val - 8) + r.val, by have := point_lt t; omega⟩ j := by
  have hc : ¬ (grid0.coords t 0).val < 8 := by rw [coords_val]; omega
  have e6 : ∀ k, modRow (F := Ideal) (grid0.coords t) (iblk m c 6 t) (ix2 0 k) = _ :=
    row_6 m c t ⟨1 + (512 * (t.val - 8) + r.val) / 1024, by have := point_lt t; omega⟩ (by
      rw [if_neg (by omega)]
      show 1 + (512 * (t.val - 8) + r.val) / 1024 = 1 + (t.val - 8) / 2
      omega)
  rw [outAt_row]
  unfold latOut
  simp only [if_neg hc, e6, row_0 m c t, row_2 m c t h, row_4 m c t h, row_5 m c t, row_7 m c t, row_8 m c t, row_9 m c t,
    row_10 m c t, row_11 m c t, row_12 m c t, row_13 m c t]
  have e : 4096 + (512 * (t.val - 8) + r.val) = 512 * t.val + r.val := by omega
  simp only [e]

/-- The first result array. -/
def ctxArr (c : Dev nD) : FVec Ideal S4096x1024 .f32 := fun y => ctxOut m c (y 0) (y 1)

/-- The second result array. -/
def latArr (c : Dev nD) : FVec Ideal S8192x1024 .f32 := fun y => latOut m c (y 0) (y 1)

theorem outAt_ctxArr (c : Dev nD) (t : Fin cfg0.N) (h : t.val < 8) (y : S512x1024.Idx) (i : S4096x1024.Idx)
    (h0 : (i 0).val = 512 * t.val + (y 0).val) (h1 : (i 1).val = (y 1).val) : outAt m c t y = ctxArr m c i :=
  (congrArg (outAt m c t) (eq_ix2 y)).trans ((outAt_ctx m c t h (y 0) (y 1)).trans
    (congrArg₂ (fun R k => ctxOut m c R k) (Fin.ext h0.symm) (Fin.ext h1.symm)))

theorem outAt_latArr (c : Dev nD) (t : Fin cfg0.N) (h : 8 ≤ t.val) (y : S512x1024.Idx) (i : S8192x1024.Idx)
    (h0 : (i 0).val = 512 * (t.val - 8) + (y 0).val) (h1 : (i 1).val = (y 1).val) : outAt m c t y = latArr m c i :=
  (congrArg (outAt m c t) (eq_ix2 y)).trans ((outAt_lat m c t h (y 0) (y 1)).trans
    (congrArg₂ (fun R k => latOut m c R k) (Fin.ext h0.symm) (Fin.ext h1.symm)))

/-- The first result's array, after the last point. -/
theorem final_ctx (c : Dev nD) (dat : Dat τ (Elt Ideal) Unit ℕ (UR sig nD τ) ℕ cfg0 c)
    (h : ∀ u : Fin cfg0.N, (cfg0.win 14).flush u = true → dat.after 14 u = outAt m c (ctxPt u)) :
    dat.arrAt 14 cfg0.N = ctxArr m c := by
  refine dat.arrAt_eq_of_covers 14 _ (by decide +kernel) fun t hf y => ?_
  rw [h t hf]
  blk_simp
  refine outAt_ctxArr m c (ctxPt t) (lt_of_le_of_lt (Nat.min_le_right _ _) (by decide)) y _ ?_ ?_
  · blk_simp [idx t]
    show min t.val 7 * 512 + _ = 512 * min t.val 7 + _
    omega
  · blk_simp [idx t]

/-- The second result's array, after the last point. -/
theorem final_lat (c : Dev nD) (dat : Dat τ (Elt Ideal) Unit ℕ (UR sig nD τ) ℕ cfg0 c)
    (h : ∀ u : Fin cfg0.N, (cfg0.win 15).flush u = true → dat.after 15 u = outAt m c u) :
    dat.arrAt 15 cfg0.N = latArr m c := by
  refine dat.arrAt_eq_of_covers 15 _ (by decide +kernel) fun t hf y => ?_
  rw [h t hf]
  blk_simp
  refine outAt_latArr m c t ((flush_15 t).mp hf) y _ ?_ ?_
  · blk_simp [idx t]
    omega
  · blk_simp [idx t]

end Cert.KernelIdeal.Merge

end
-- ==== Proof.Merge.Reference.lean ====
module

public import proofs.«01_k».proof.Proof.Gen.ReferenceIdeal.Run
public import proofs.«01_k».proof.Proof.Layer.Rows
public import Idealize.ShloMosaic.Lib.Pointwise

@[expose] public section

/-!
# What the reference of the merge computes, row by row

Over the extended reals, each result of the reference, at a row, is the last stage of the layer of the
operands' rows: of the context tokens with the first modulation row, of the latent tokens with the
modulation row of their group of 1024.
-/

set_option maxRecDepth 16384

noncomputable section

namespace Cert.ReferenceIdeal.Merge

open Cert.ReferenceIdeal Cert.ReferenceIdeal.Gen Cert.ReferenceIdeal.Value Cert.Layer
open Idealize.ShloMosaic Idealize.ShloMosaic.TcCoe Idealize.ShloMosaic.Tactic
open Idealize.SL.Sem
variable (V0 : Valuation τ sig (Elt Ideal))

/-! ## The context tokens -/

/-- The merged row of a token. -/
def ctxMerged (b : Fin 16) (s : Fin 256) : Fin 1024 → EReal :=
  merged (fun k => V0 (Proc.devRef .tc main_arg0) (ix2 ⟨b.val * 256 + s.val, by omega⟩ k)) (fun k => V0 (Proc.devRef .tc main_arg1) (ix2 ⟨b.val * 256 + s.val, by omega⟩ k))
    (fun k => V0 (Proc.devRef .tc main_arg3) (ix2 ⟨b.val * 256 + s.val, by omega⟩ k)) (fun k => V0 (Proc.devRef .tc main_arg5) (ix2 ⟨b.val * 256 + s.val, by omega⟩ k))
    (fun k => V0 (Proc.devRef .tc main_arg6) (ix2 0 ⟨5120 + k.val, by omega⟩)) (fun x l => V0 (Proc.devRef .tc main_arg9) (ix2 x l))
    (fun x l => V0 (Proc.devRef .tc main_arg10) (ix2 x l)) (fun x l => V0 (Proc.devRef .tc main_arg11) (ix2 x l))

theorem ctx_merged_at (b : Fin 16) (s : Fin 256) (j : Fin 1024) :
    res_main_v48 (F := Ideal) V0 (ix3 b s j) = ctxMerged V0 b s j := by
  unfold ctxMerged merged rowDot sigm
  pointwise [res_main_v48, res_main_v14, res_main_v15, res_main_v4, res_main_v5, res_main_v6]

/-- The modulated row of a token. -/
def ctxModulated (b : Fin 16) (s : Fin 256) : Fin 1024 → EReal :=
  modulated (ctxMerged V0 b s) (fun k => V0 (Proc.devRef .tc main_arg7) (ix3 0 2 k)) (fun k => V0 (Proc.devRef .tc main_arg6) (ix2 0 ⟨7168 + k.val, by omega⟩))
    (fun k => V0 (Proc.devRef .tc main_arg6) (ix2 0 ⟨6144 + k.val, by omega⟩))

theorem ctx_proj_at (b : Fin 16) (s : Fin 256) (j : Fin 5632) :
    res_main_v75 (F := Ideal) V0 (ix3 b s j) = rowDot (ctxModulated V0 b s) (fun x l => V0 (Proc.devRef .tc main_arg12) (ix2 x l)) j := by
  unfold ctxModulated modulated rms meanSq rowDot
  simp only [← ctx_merged_at]
  pointwise [res_main_v75, res_main_v15, res_main_v7]

/-- The row of a token after the feed-forward layer. -/
def ctxFfn (b : Fin 16) (s : Fin 256) : Fin 1024 → EReal :=
  ffn (ctxMerged V0 b s) (fun k => V0 (Proc.devRef .tc main_arg7) (ix3 0 2 k)) (fun k => V0 (Proc.devRef .tc main_arg6) (ix2 0 ⟨7168 + k.val, by omega⟩))
    (fun k => V0 (Proc.devRef .tc main_arg6) (ix2 0 ⟨6144 + k.val, by omega⟩)) (fun k => V0 (Proc.devRef .tc main_arg6) (ix2 0 ⟨8192 + k.val, by omega⟩))
    (fun x l => V0 (Proc.devRef .tc main_arg12) (ix2 x l)) (fun x l => V0 (Proc.devRef .tc main_arg13) (ix2 x l))

theorem ctx_ffn_at (b : Fin 16) (s : Fin 256) (j : Fin 1024) :
    res_main_v83 (F := Ideal) V0 (ix3 b s j) = ctxFfn V0 b s j := by
  change _ = ctxMerged V0 b s j + half * _ * ∑ l : Fin 2816,
    (rowDot (ctxModulated V0 b s) (fun x l => V0 (Proc.devRef .tc main_arg12) (ix2 x l)) ⟨l.val, by omega⟩
      * sigm (rowDot (ctxModulated V0 b s) (fun x l => V0 (Proc.devRef .tc main_arg12) (ix2 x l)) ⟨l.val, by omega⟩)
      * rowDot (ctxModulated V0 b s) (fun x l => V0 (Proc.devRef .tc main_arg12) (ix2 x l)) ⟨2816 + l.val, by omega⟩) * _
  simp only [← ctx_merged_at, ← ctx_proj_at, sigm, half]
  pointwise [res_main_v83, res_main_v15, res_main_v76, res_main_v8]

/-! ## The latent tokens -/

/-- The merged row of a token. -/
def latMerged (b : Fin 8) (s : Fin 1024) : Fin 1024 → EReal :=
  merged (fun k => V0 (Proc.devRef .tc main_arg0) (ix2 ⟨4096 + (b.val * 1024 + s.val), by omega⟩ k)) (fun k => V0 (Proc.devRef .tc main_arg2) (ix2 ⟨b.val * 1024 + s.val, by omega⟩ k))
    (fun k => V0 (Proc.devRef .tc main_arg4) (ix2 ⟨b.val * 1024 + s.val, by omega⟩ k)) (fun k => V0 (Proc.devRef .tc main_arg5) (ix2 ⟨4096 + (b.val * 1024 + s.val), by omega⟩ k))
    (fun k => V0 (Proc.devRef .tc main_arg6) (ix2 ⟨1 + b.val, by omega⟩ ⟨5120 + k.val, by omega⟩)) (fun x l => V0 (Proc.devRef .tc main_arg9) (ix2 x l))
    (fun x l => V0 (Proc.devRef .tc main_arg10) (ix2 x l)) (fun x l => V0 (Proc.devRef .tc main_arg11) (ix2 x l))

theorem lat_merged_at (b : Fin 8) (s : Fin 1024) (j : Fin 1024) :
    res_main_v136 (F := Ideal) V0 (ix3 b s j) = latMerged V0 b s j := by
  unfold latMerged merged rowDot sigm
  pointwise [res_main_v136, res_main_v102, res_main_v103, res_main_v4, res_main_v5, res_main_v6]

/-- The modulated row of a token. -/
def latModulated (b : Fin 8) (s : Fin 1024) : Fin 1024 → EReal :=
  modulated (latMerged V0 b s) (fun k => V0 (Proc.devRef .tc main_arg7) (ix3 0 2 k)) (fun k => V0 (Proc.devRef .tc main_arg6) (ix2 ⟨1 + b.val, by omega⟩ ⟨7168 + k.val, by omega⟩))
    (fun k => V0 (Proc.devRef .tc main_arg6) (ix2 ⟨1 + b.val, by omega⟩ ⟨6144 + k.val, by omega⟩))

theorem lat_proj_at (b : Fin 8) (s : Fin 1024) (j : Fin 5632) :
    res_main_v163 (F := Ideal) V0 (ix3 b s j) = rowDot (latModulated V0 b s) (fun x l => V0 (Proc.devRef .tc main_arg12) (ix2 x l)) j := by
  unfold latModulated modulated rms meanSq rowDot
  simp only [← lat_merged_at]
  pointwise [res_main_v163, res_main_v103, res_main_v7]

/-- The row of a token after the feed-forward layer. -/
def latFfn (b : Fin 8) (s : Fin 1024) : Fin 1024 → EReal :=
  ffn (latMerged V0 b s) (fun k => V0 (Proc.devRef .tc main_arg7) (ix3 0 2 k)) (fun k => V0 (Proc.devRef .tc main_arg6) (ix2 ⟨1 + b.val, by omega⟩ ⟨7168 + k.val, by omega⟩))
    (fun k => V0 (Proc.devRef .tc main_arg6) (ix2 ⟨1 + b.val, by omega⟩ ⟨6144 + k.val, by omega⟩)) (fun k => V0 (Proc.devRef .tc main_arg6) (ix2 ⟨1 + b.val, by omega⟩ ⟨8192 + k.val, by omega⟩))
    (fun x l => V0 (Proc.devRef .tc main_arg12) (ix2 x l)) (fun x l => V0 (Proc.devRef .tc main_arg13) (ix2 x l))

theorem lat_ffn_at (b : Fin 8) (s : Fin 1024) (j : Fin 1024) :
    res_main_v171 (F := Ideal) V0 (ix3 b s j) = latFfn V0 b s j := by
  change _ = latMerged V0 b s j + half * _ * ∑ l : Fin 2816,
    (rowDot (latModulated V0 b s) (fun x l => V0 (Proc.devRef .tc main_arg12) (ix2 x l)) ⟨l.val, by omega⟩
      * sigm (rowDot (latModulated V0 b s) (fun x l => V0 (Proc.devRef .tc main_arg12) (ix2 x l)) ⟨l.val, by omega⟩)
      * rowDot (latModulated V0 b s) (fun x l => V0 (Proc.devRef .tc main_arg12) (ix2 x l)) ⟨2816 + l.val, by omega⟩) * _
  simp only [← lat_merged_at, ← lat_proj_at, sigm, half]
  pointwise [res_main_v171, res_main_v103, res_main_v164, res_main_v8]

/-! ## The results -/

/-- The reference's result for the context tokens. -/
def ctxTerm : FVec Ideal S4096x1024 .f32 :=
  shapeCast _ (mulf (mulf (res_main_v83 V0) (broadcastInDim S16x256x1024 ![0, 1, 2] bcast_S16x256x1_S16x256x1024_0_1_2 (Host.rsqrt (addf (Host.divf (broadcastInDim S16x256x1 ![0, 1] bcast_S16x256_S16x256x1_0_1 (Host.reduceAdd (mulf (res_main_v83 V0) (res_main_v83 V0)) (constant S_ .f32 0x00000000#32) reducesTo_S16x256x1024_S16x256_d2 h_S_)) (broadcastInDim S16x256x1 ![] bcast_S_S16x256x1 (constant S_ .f32 0x44800000#32))) (broadcastInDim S16x256x1 ![] bcast_S_S16x256x1 (constant S_ .f32 0x358637BD#32)))))) (broadcastInDim S16x256x1024 ![0, 1, 2] bcast_S1x1x1024_S16x256x1024_0_1_2 (broadcastInDim S1x1x1024 ![2] bcast_S1024_S1x1x1024_2 (V0 (Proc.devRef .tc main_arg8))))) shapeCasts_S16x256x1024_S4096x1024

/-- Row `R` of that result, as the last stage of the layer. -/
def ctxOut (R : Fin 4096) : Fin 1024 → EReal :=
  lastStage (fun k => V0 (Proc.devRef .tc main_arg0) (ix2 ⟨R.val, by omega⟩ k)) (fun k => V0 (Proc.devRef .tc main_arg1) (ix2 R k)) (fun k => V0 (Proc.devRef .tc main_arg3) (ix2 R k))
    (fun k => V0 (Proc.devRef .tc main_arg5) (ix2 ⟨R.val, by omega⟩ k)) (fun k => V0 (Proc.devRef .tc main_arg6) (ix2 0 k)) (fun k => V0 (Proc.devRef .tc main_arg7) (ix3 0 2 k)) (fun k => V0 (Proc.devRef .tc main_arg8) (ix1 k))
    (fun x l => V0 (Proc.devRef .tc main_arg9) (ix2 x l)) (fun x l => V0 (Proc.devRef .tc main_arg10) (ix2 x l)) (fun x l => V0 (Proc.devRef .tc main_arg11) (ix2 x l))
    (fun x l => V0 (Proc.devRef .tc main_arg12) (ix2 x l)) (fun x l => V0 (Proc.devRef .tc main_arg13) (ix2 x l))

theorem ctx_row (R : Fin 4096) (b : Fin 16) (s : Fin 256) (h : R.val = b.val * 256 + s.val) :
    rms (ctxFfn V0 b s) (fun k => V0 (Proc.devRef .tc main_arg8) (ix1 k)) = ctxOut V0 R := by
  obtain ⟨R, hR⟩ := R
  simp only at h
  subst h
  rfl

/-- **Row `R` of the result.** -/
theorem ctx_result_at (R : Fin 4096) (j : Fin 1024) : ctxTerm V0 (ix2 R j) = ctxOut V0 R j := by
  rw [← ctx_row V0 R ⟨R.val / 256, by omega⟩ ⟨R.val % 256, by omega⟩ (by show R.val = R.val / 256 * 256 + R.val % 256; omega)]
  unfold rms meanSq
  simp only [← ctx_ffn_at]
  pointwise [ctxTerm]

/-- The reference's result for the latent tokens. -/
def latTerm : FVec Ideal S8192x1024 .f32 :=
  shapeCast _ (mulf (mulf (res_main_v171 V0) (broadcastInDim S8x1024x1024 ![0, 1, 2] bcast_S8x1024x1_S8x1024x1024_0_1_2 (Host.rsqrt (addf (Host.divf (broadcastInDim S8x1024x1 ![0, 1] bcast_S8x1024_S8x1024x1_0_1 (Host.reduceAdd (mulf (res_main_v171 V0) (res_main_v171 V0)) (constant S_ .f32 0x00000000#32) reducesTo_S8x1024x1024_S8x1024_d2 h_S_)) (broadcastInDim S8x1024x1 ![] bcast_S_S8x1024x1 (constant S_ .f32 0x44800000#32))) (broadcastInDim S8x1024x1 ![] bcast_S_S8x1024x1 (constant S_ .f32 0x358637BD#32)))))) (broadcastInDim S8x1024x1024 ![0, 1, 2] bcast_S1x1x1024_S8x1024x1024_0_1_2 (broadcastInDim S1x1x1024 ![2] bcast_S1024_S1x1x1024_2 (V0 (Proc.devRef .tc main_arg8))))) shapeCasts_S8x1024x1024_S8192x1024

/-- Row `R` of that result, as the last stage of the layer. -/
def latOut (R : Fin 8192) : Fin 1024 → EReal :=
  lastStage (fun k => V0 (Proc.devRef .tc main_arg0) (ix2 ⟨4096 + R.val, by omega⟩ k)) (fun k => V0 (Proc.devRef .tc main_arg2) (ix2 R k)) (fun k => V0 (Proc.devRef .tc main_arg4) (ix2 R k))
    (fun k => V0 (Proc.devRef .tc main_arg5) (ix2 ⟨4096 + R.val, by omega⟩ k)) (fun k => V0 (Proc.devRef .tc main_arg6) (ix2 ⟨1 + R.val / 1024, by omega⟩ k)) (fun k => V0 (Proc.devRef .tc main_arg7) (ix3 0 2 k)) (fun k => V0 (Proc.devRef .tc main_arg8) (ix1 k))
    (fun x l => V0 (Proc.devRef .tc main_arg9) (ix2 x l)) (fun x l => V0 (Proc.devRef .tc main_arg10) (ix2 x l)) (fun x l => V0 (Proc.devRef .tc main_arg11) (ix2 x l))
    (fun x l => V0 (Proc.devRef .tc main_arg12) (ix2 x l)) (fun x l => V0 (Proc.devRef .tc main_arg13) (ix2 x l))

theorem lat_row (R : Fin 8192) (b : Fin 8) (s : Fin 1024) (h : R.val = b.val * 1024 + s.val) :
    rms (latFfn V0 b s) (fun k => V0 (Proc.devRef .tc main_arg8) (ix1 k)) = latOut V0 R := by
  obtain ⟨R, hR⟩ := R
  simp only at h
  subst h
  have e : 1 + b.val = 1 + (b.val * 1024 + s.val) / 1024 := by omega
  unfold latOut latFfn latMerged lastStage
  simp only [e]

/-- **Row `R` of the result.** -/
theorem lat_result_at (R : Fin 8192) (j : Fin 1024) : latTerm V0 (ix2 R j) = latOut V0 R j := by
  rw [← lat_row V0 R ⟨R.val / 1024, by omega⟩ ⟨R.val % 1024, by omega⟩ (by show R.val = R.val / 1024 * 1024 + R.val % 1024; omega)]
  unfold rms meanSq
  simp only [← lat_ffn_at]
  pointwise [latTerm]

end Cert.ReferenceIdeal.Merge

end
-- ==== Proof.Merge.Claim.lean ====
module

public import proofs.«01_k».proof.Defs
public import proofs.«01_k».proof.Proof.Merge.Result
public import proofs.«01_k».proof.Proof.Merge.Reference

@[expose] public section

/-!
# The merge kernel computes what its reference computes

Both programs leave in their two results, row by row, the last stage of the layer of the same rows.
-/

set_option maxRecDepth 16384

noncomputable section

namespace Cert.KernelIdeal.Merge

open Cert.KernelIdeal Cert.KernelIdeal.Gen Cert.Layer
open Idealize.ShloMosaic Idealize.ShloMosaic.TcCoe Idealize.ShloMosaic.Tactic
open Idealize.ShloMosaic.StableHlo
open Idealize.SL.Sem

/-- The kernel's run leaves the two arrays of last-stage rows, and its arguments as they were. -/
theorem results_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2_0) = ctxArr m c
      ∧ r.2.mem ((c.tc : Thread nD τ).loc main_v2_1) = latArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c => by
    obtain ⟨dat, h14, h15, hA⟩ := results_of m h.1 c
    exact ⟨(hA 14).trans (final_ctx m c dat h14), (hA 15).trans (final_lat m c dat h15), args_of m h.1 c⟩) (run m g)

/-- The two programs' argument arrays agree. -/
abbrev Agree (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD) : Prop :=
  m' ((c.tc : Thread Cert.ReferenceIdeal.nD Cert.ReferenceIdeal.τ).loc Cert.ReferenceIdeal.main_arg0) = m ((c.tc : Thread nD τ).loc main_arg0)
    ∧ m' ((c.tc : Thread Cert.ReferenceIdeal.nD Cert.ReferenceIdeal.τ).loc Cert.ReferenceIdeal.main_arg1) = m ((c.tc : Thread nD τ).loc main_arg1)
    ∧ m' ((c.tc : Thread Cert.ReferenceIdeal.nD Cert.ReferenceIdeal.τ).loc Cert.ReferenceIdeal.main_arg2) = m ((c.tc : Thread nD τ).loc main_arg2)
    ∧ m' ((c.tc : Thread Cert.ReferenceIdeal.nD Cert.ReferenceIdeal.τ).loc Cert.ReferenceIdeal.main_arg3) = m ((c.tc : Thread nD τ).loc main_arg3)
    ∧ m' ((c.tc : Thread Cert.ReferenceIdeal.nD Cert.ReferenceIdeal.τ).loc Cert.ReferenceIdeal.main_arg4) = m ((c.tc : Thread nD τ).loc main_arg4)
    ∧ m' ((c.tc : Thread Cert.ReferenceIdeal.nD Cert.ReferenceIdeal.τ).loc Cert.ReferenceIdeal.main_arg5) = m ((c.tc : Thread nD τ).loc main_arg5)
    ∧ m' ((c.tc : Thread Cert.ReferenceIdeal.nD Cert.ReferenceIdeal.τ).loc Cert.ReferenceIdeal.main_arg6) = m ((c.tc : Thread nD τ).loc main_arg6)
    ∧ m' ((c.tc : Thread Cert.ReferenceIdeal.nD Cert.ReferenceIdeal.τ).loc Cert.ReferenceIdeal.main_arg7) = m ((c.tc : Thread nD τ).loc main_arg7)
    ∧ m' ((c.tc : Thread Cert.ReferenceIdeal.nD Cert.ReferenceIdeal.τ).loc Cert.ReferenceIdeal.main_arg8) = m ((c.tc : Thread nD τ).loc main_arg8)
    ∧ m' ((c.tc : Thread Cert.ReferenceIdeal.nD Cert.ReferenceIdeal.τ).loc Cert.ReferenceIdeal.main_arg9) = m ((c.tc : Thread nD τ).loc main_arg9)
    ∧ m' ((c.tc : Thread Cert.ReferenceIdeal.nD Cert.ReferenceIdeal.τ).loc Cert.ReferenceIdeal.main_arg10) = m ((c.tc : Thread nD τ).loc main_arg10)
    ∧ m' ((c.tc : Thread Cert.ReferenceIdeal.nD Cert.ReferenceIdeal.τ).loc Cert.ReferenceIdeal.main_arg11) = m ((c.tc : Thread nD τ).loc main_arg11)
    ∧ m' ((c.tc : Thread Cert.ReferenceIdeal.nD Cert.ReferenceIdeal.τ).loc Cert.ReferenceIdeal.main_arg12) = m ((c.tc : Thread nD τ).loc main_arg12)
    ∧ m' ((c.tc : Thread Cert.ReferenceIdeal.nD Cert.ReferenceIdeal.τ).loc Cert.ReferenceIdeal.main_arg13) = m ((c.tc : Thread nD τ).loc main_arg13)

/-- Row for row, the reference's arrays are the kernel's. -/
theorem ctxOut_eq {m m' c} (h : Agree m m' c) (R : Fin 4096) :
    Cert.ReferenceIdeal.Merge.ctxOut (launchContents m' c) R = ctxOut m c R := by
  obtain ⟨h0, h1, h2, h3, h4, h5, h6, h7, h8, h9, h10, h11, h12, h13⟩ := h
  unfold ctxOut
  rw [← h0, ← h1, ← h3, ← h5, ← h6, ← h7, ← h8, ← h9, ← h10, ← h11, ← h12, ← h13]
  rfl

theorem latOut_eq {m m' c} (h : Agree m m' c) (R : Fin 8192) :
    Cert.ReferenceIdeal.Merge.latOut (launchContents m' c) R = latOut m c R := by
  obtain ⟨h0, h1, h2, h3, h4, h5, h6, h7, h8, h9, h10, h11, h12, h13⟩ := h
  unfold latOut
  rw [← h0, ← h2, ← h4, ← h5, ← h6, ← h7, ← h8, ← h9, ← h10, ← h11, ← h12, ← h13]
  rfl

theorem ctx_eq {m m' c} (h : Agree m m' c) : Cert.ReferenceIdeal.Merge.ctxTerm (launchContents m' c) = ctxArr m c := by
  funext y
  exact (congrArg (Cert.ReferenceIdeal.Merge.ctxTerm (launchContents m' c)) (eq_ix2 y)).trans
    ((Cert.ReferenceIdeal.Merge.ctx_result_at _ (y 0) (y 1)).trans (congrFun (ctxOut_eq h (y 0)) (y 1)))

theorem lat_eq {m m' c} (h : Agree m m' c) : Cert.ReferenceIdeal.Merge.latTerm (launchContents m' c) = latArr m c := by
  funext y
  exact (congrArg (Cert.ReferenceIdeal.Merge.latTerm (launchContents m' c)) (eq_ix2 y)).trans
    ((Cert.ReferenceIdeal.Merge.lat_result_at _ (y 0) (y 1)).trans (congrFun (latOut_eq h (y 0)) (y 1)))

/-- **The two programs compute the same results over the extended reals.** -/
theorem algebraic : @Cert.algebraic_KernelIdeal_ReferenceIdeal Cert.KernelIdeal.Gen.facts Cert.ReferenceIdeal.Gen.facts := by
  intro m g m' g' _ hagree
  refine ⟨fun c => ctxArr m c, fun c => latArr m c, results_run m g, ?_⟩
  refine (θ_run _ _ _).mono (fun r h c => ?_) (Cert.ReferenceIdeal.Value.run m' g')
  obtain ⟨h0, h1, hargs⟩ := h c
  exact ⟨h0.trans (ctx_eq (hagree c)), h1.trans (lat_eq (hagree c)), hargs⟩

end Cert.KernelIdeal.Merge

end
-- ==== Proof.Merge.KernelFrame.lean ====
/- The frame of the merge call at the machine's own floats: the program has the same text as the one at ideal
floats, so it has the same table of bodies, and the run proved over any floats is its run too. -/
module

public import proofs.«01_k».proof.Defs
public import proofs.«01_k».proof.Proof.Gen.Kernel
public import proofs.«01_k».proof.Proof.Merge.Run

@[expose] public section

set_option maxRecDepth 65536

namespace Cert.Kernel.Merge

open Idealize.ShloMosaic Idealize.SL.Sem

attribute [local instance] Cert.Kernel.Gen.facts Cert.KernelIdeal.Gen.facts

/-- The two programs have one body. -/
theorem body_eq : @Cert.Kernel.cc0_merge_ffn2 Bits _ _ = @Cert.KernelIdeal.cc0_merge_ffn2 Bits _ _ := rfl

/-- They have one grid. -/
theorem coords_eq (t : Fin Cert.Kernel.grid0.N) :
    Cert.Kernel.grid0.coords t = Cert.KernelIdeal.grid0.coords t := rfl

theorem stage0_eq : Cert.Kernel.stage0_0 = Cert.KernelIdeal.stage0_0 := rfl
theorem stage1_eq : Cert.Kernel.stage0_1 = Cert.KernelIdeal.stage0_1 := rfl
theorem stage2_eq : Cert.Kernel.stage0_2 = Cert.KernelIdeal.stage0_2 := rfl
theorem stage3_eq : Cert.Kernel.stage0_3 = Cert.KernelIdeal.stage0_3 := rfl
theorem stage4_eq : Cert.Kernel.stage0_4 = Cert.KernelIdeal.stage0_4 := rfl
theorem stage5_eq : Cert.Kernel.stage0_5 = Cert.KernelIdeal.stage0_5 := rfl
theorem stage6_eq : Cert.Kernel.stage0_6 = Cert.KernelIdeal.stage0_6 := rfl
theorem stage7_eq : Cert.Kernel.stage0_7 = Cert.KernelIdeal.stage0_7 := rfl
theorem stage8_eq : Cert.Kernel.stage0_8 = Cert.KernelIdeal.stage0_8 := rfl
theorem stage9_eq : Cert.Kernel.stage0_9 = Cert.KernelIdeal.stage0_9 := rfl
theorem stage10_eq : Cert.Kernel.stage0_10 = Cert.KernelIdeal.stage0_10 := rfl
theorem stage11_eq : Cert.Kernel.stage0_11 = Cert.KernelIdeal.stage0_11 := rfl
theorem stage12_eq : Cert.Kernel.stage0_12 = Cert.KernelIdeal.stage0_12 := rfl
theorem stage13_eq : Cert.Kernel.stage0_13 = Cert.KernelIdeal.stage0_13 := rfl
theorem stage14_eq : Cert.Kernel.stage0_14 = Cert.KernelIdeal.stage0_14 := rfl
theorem stage15_eq : Cert.Kernel.stage0_15 = Cert.KernelIdeal.stage0_15 := rfl
theorem scratch0_eq : Cert.Kernel.cc0_scratch0 = Cert.KernelIdeal.cc0_scratch0 := rfl
theorem scratch1_eq : Cert.Kernel.cc0_scratch1 = Cert.KernelIdeal.cc0_scratch1 := rfl

/-- The windows and the scratch are the same, so the tables of bodies are. -/
theorem bodies_eq : Cert.Kernel.defs₀ (F := Bits) = Cert.KernelIdeal.defs₀ (F := Bits) := by
  refine congrArg Defs.onTc (funext fun l => funext fun x => ?_)
  match l, x with
  | 0, (t, s) =>
    dsimp only
    rw [body_eq]
    simp only [
      coords_eq, scratch0_eq, scratch1_eq, stage0_eq, stage1_eq, stage2_eq, stage3_eq, stage4_eq,
      stage5_eq, stage6_eq, stage7_eq, stage8_eq, stage9_eq, stage10_eq, stage11_eq, stage12_eq,
      stage13_eq, stage14_eq, stage15_eq]
    with_reducible rfl

/-- So are the tables with the pipeline's own steps. -/
theorem defs_eq : Cert.Kernel.defs (F := Bits) = Cert.KernelIdeal.defs (F := Bits) :=
  congrArg (Pipeline.defs Cert.KernelIdeal.pcfgs) bodies_eq

/-- The frame of the merge call at the machine's floats. -/
theorem frame : @Cert.quiescent_Kernel Cert.Kernel.Gen.facts := fun m g _ => by
  rw [defs_eq]
  exact Cert.KernelIdeal.Merge.frame_run (F := Bits) m g

end Cert.Kernel.Merge

end
-- ==== Proof.Entry.Block.lean ====
/- What one grid point of the entry call computes, block by block, from the blocks of its operands. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Entry

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Columns 0 to 255 of the gated hidden layer. -/
def chunk0 (xn : Vec F S256x1024 .bf16) (w : Vec F S1024x5632 .bf16) : FVec F S256x256 .bf16 :=
  k0_pay16 xn (View.ld w (Rect.unit (s := S1024x5632) ![0, 0] S1024x256.size inb_S1024x5632_S1024x256_0_0)) (View.ld w (Rect.unit (s := S1024x5632) ![0, 2816] S1024x256.size inb_S1024x5632_S1024x256_0_2816))

/-- Columns 256 to 511 of the gated hidden layer. -/
def chunk1 (xn : Vec F S256x1024 .bf16) (w : Vec F S1024x5632 .bf16) : FVec F S256x256 .bf16 :=
  k0_pay20 (k0_pay17 xn (View.ld w (Rect.unit (s := S1024x5632) ![0, 256] S1024x256.size inb_S1024x5632_S1024x256_0_256))) (k0_pay18 xn (View.ld w (Rect.unit (s := S1024x5632) ![0, 3072] S1024x256.size inb_S1024x5632_S1024x256_0_3072))) (k0_pay19 xn (View.ld w (Rect.unit (s := S1024x5632) ![0, 256] S1024x256.size inb_S1024x5632_S1024x256_0_256)))

/-- Columns 512 to 767 of the gated hidden layer. -/
def chunk2 (xn : Vec F S256x1024 .bf16) (w : Vec F S1024x5632 .bf16) : FVec F S256x256 .bf16 :=
  k0_pay21 xn (View.ld w (Rect.unit (s := S1024x5632) ![0, 512] S1024x256.size inb_S1024x5632_S1024x256_0_512)) (View.ld w (Rect.unit (s := S1024x5632) ![0, 3328] S1024x256.size inb_S1024x5632_S1024x256_0_3328))

/-- Columns 768 to 1023 of the gated hidden layer. -/
def chunk3 (xn : Vec F S256x1024 .bf16) (w : Vec F S1024x5632 .bf16) : FVec F S256x256 .bf16 :=
  k0_pay25 (k0_pay22 xn (View.ld w (Rect.unit (s := S1024x5632) ![0, 768] S1024x256.size inb_S1024x5632_S1024x256_0_768))) (k0_pay23 xn (View.ld w (Rect.unit (s := S1024x5632) ![0, 3584] S1024x256.size inb_S1024x5632_S1024x256_0_3584))) (k0_pay24 xn (View.ld w (Rect.unit (s := S1024x5632) ![0, 768] S1024x256.size inb_S1024x5632_S1024x256_0_768))) (Scalar.ofBits .f32 0x3F000000#32)

/-- Columns 1024 to 1279 of the gated hidden layer. -/
def chunk4 (xn : Vec F S256x1024 .bf16) (w : Vec F S1024x5632 .bf16) : FVec F S256x256 .bf16 :=
  k0_pay26 xn (View.ld w (Rect.unit (s := S1024x5632) ![0, 1024] S1024x256.size inb_S1024x5632_S1024x256_0_1024)) (View.ld w (Rect.unit (s := S1024x5632) ![0, 3840] S1024x256.size inb_S1024x5632_S1024x256_0_3840))

/-- Columns 1280 to 1535 of the gated hidden layer. -/
def chunk5 (xn : Vec F S256x1024 .bf16) (w : Vec F S1024x5632 .bf16) : FVec F S256x256 .bf16 :=
  k0_pay30 (k0_pay27 xn (View.ld w (Rect.unit (s := S1024x5632) ![0, 1280] S1024x256.size inb_S1024x5632_S1024x256_0_1280))) (k0_pay28 xn (View.ld w (Rect.unit (s := S1024x5632) ![0, 4096] S1024x256.size inb_S1024x5632_S1024x256_0_4096))) (k0_pay29 xn (View.ld w (Rect.unit (s := S1024x5632) ![0, 1280] S1024x256.size inb_S1024x5632_S1024x256_0_1280)))

/-- Columns 1536 to 1791 of the gated hidden layer. -/
def chunk6 (xn : Vec F S256x1024 .bf16) (w : Vec F S1024x5632 .bf16) : FVec F S256x256 .bf16 :=
  k0_pay31 xn (View.ld w (Rect.unit (s := S1024x5632) ![0, 1536] S1024x256.size inb_S1024x5632_S1024x256_0_1536)) (View.ld w (Rect.unit (s := S1024x5632) ![0, 4352] S1024x256.size inb_S1024x5632_S1024x256_0_4352))

/-- Columns 1792 to 2047 of the gated hidden layer. -/
def chunk7 (xn : Vec F S256x1024 .bf16) (w : Vec F S1024x5632 .bf16) : FVec F S256x256 .bf16 :=
  k0_pay36 (k0_pay32 xn (View.ld w (Rect.unit (s := S1024x5632) ![0, 1792] S1024x256.size inb_S1024x5632_S1024x256_0_1792))) (k0_pay33 xn (View.ld w (Rect.unit (s := S1024x5632) ![0, 4608] S1024x256.size inb_S1024x5632_S1024x256_0_4608))) (k0_pay34 xn (View.ld w (Rect.unit (s := S1024x5632) ![0, 1792] S1024x256.size inb_S1024x5632_S1024x256_0_1792))) k0_pay35

/-- Columns 2048 to 2303 of the gated hidden layer. -/
def chunk8 (xn : Vec F S256x1024 .bf16) (w : Vec F S1024x5632 .bf16) : FVec F S256x256 .bf16 :=
  k0_pay37 xn (View.ld w (Rect.unit (s := S1024x5632) ![0, 2048] S1024x256.size inb_S1024x5632_S1024x256_0_2048)) (View.ld w (Rect.unit (s := S1024x5632) ![0, 4864] S1024x256.size inb_S1024x5632_S1024x256_0_4864))

/-- Columns 2304 to 2559 of the gated hidden layer. -/
def chunk9 (xn : Vec F S256x1024 .bf16) (w : Vec F S1024x5632 .bf16) : FVec F S256x256 .bf16 :=
  k0_pay40 (k0_pay38 xn (View.ld w (Rect.unit (s := S1024x5632) ![0, 5120] S1024x256.size inb_S1024x5632_S1024x256_0_5120))) (k0_pay39 xn (View.ld w (Rect.unit (s := S1024x5632) ![0, 2304] S1024x256.size inb_S1024x5632_S1024x256_0_2304)))

/-- Columns 2560 to 2815 of the gated hidden layer. -/
def chunk10 (xn : Vec F S256x1024 .bf16) (w : Vec F S1024x5632 .bf16) : FVec F S256x256 .bf16 :=
  k0_pay41 xn (View.ld w (Rect.unit (s := S1024x5632) ![0, 2560] S1024x256.size inb_S1024x5632_S1024x256_0_2560)) (View.ld w (Rect.unit (s := S1024x5632) ![0, 5376] S1024x256.size inb_S1024x5632_S1024x256_0_5376))

/-- The eleven stores that fill the hidden layer's buffer, the last one first. -/
def hidPieces (xn : Vec F S256x1024 .bf16) (w : Vec F S1024x5632 .bf16) : List (View.Piece (Elt F) S256x2816 .bf16) :=
  [⟨Rect.unit (s := S256x2816) ![0, 2560] S256x256.size inb_S256x2816_S256x256_0_2560, chunk10 xn w⟩,
   ⟨Rect.unit (s := S256x2816) ![0, 2304] S256x256.size inb_S256x2816_S256x256_0_2304, chunk9 xn w⟩,
   ⟨Rect.unit (s := S256x2816) ![0, 2048] S256x256.size inb_S256x2816_S256x256_0_2048, chunk8 xn w⟩,
   ⟨Rect.unit (s := S256x2816) ![0, 1792] S256x256.size inb_S256x2816_S256x256_0_1792, chunk7 xn w⟩,
   ⟨Rect.unit (s := S256x2816) ![0, 1536] S256x256.size inb_S256x2816_S256x256_0_1536, chunk6 xn w⟩,
   ⟨Rect.unit (s := S256x2816) ![0, 1280] S256x256.size inb_S256x2816_S256x256_0_1280, chunk5 xn w⟩,
   ⟨Rect.unit (s := S256x2816) ![0, 1024] S256x256.size inb_S256x2816_S256x256_0_1024, chunk4 xn w⟩,
   ⟨Rect.unit (s := S256x2816) ![0, 768] S256x256.size inb_S256x2816_S256x256_0_768, chunk3 xn w⟩,
   ⟨Rect.unit (s := S256x2816) ![0, 512] S256x256.size inb_S256x2816_S256x256_0_512, chunk2 xn w⟩,
   ⟨Rect.unit (s := S256x2816) ![0, 256] S256x256.size inb_S256x2816_S256x256_0_256, chunk1 xn w⟩,
   ⟨Rect.unit (s := S256x2816) ![0, 0] S256x256.size inb_S256x2816_S256x256_0_0, chunk0 xn w⟩]

/-- The hidden layer of one block: the buffer after its eleven stores. -/
def hid (xn : Vec F S256x1024 .bf16) (w : Vec F S1024x5632 .bf16) : Vec F S256x2816 .bf16 :=
  View.canon (hidPieces xn w)

/-- The modulation row that grid point `i` loads. -/
def modRow (i : grid0.Coords) (mods : Vec F S16x9216 .f32) : Vec F S1x9216 .f32 :=
  View.ld mods (Rect.unit (s := S16x9216) (k0_off1 i) S1x9216.size (k0_off1_inb i))

/-- Row 0 of the normalisation weights. -/
def normRow0 (norm : Vec F S3x1024 .f32) : Vec F S1x1024 .f32 :=
  View.ld norm (Rect.unit (s := S3x1024) ![0, 0] S1x1024.size inb_S3x1024_S1x1024_0_0)

/-- Row 1 of the normalisation weights. -/
def normRow1 (norm : Vec F S3x1024 .f32) : Vec F S1x1024 .f32 :=
  View.ld norm (Rect.unit (s := S3x1024) ![1, 0] S1x1024.size inb_S3x1024_S1x1024_1_0)

/-- The normalised and modulated block: the feed-forward layer's operand. -/
def normBlk (i : grid0.Coords) (x0 x1 : Vec F S256x1024 .f32) (x2 : Vec F S16x9216 .f32) (x3 : Vec F S3x1024 .f32) : FVec F S256x1024 .bf16 :=
  k0_pay14 (k0_pay7 (modRow i x2)) (k0_pay8 (modRow i x2)) (k0_pay12 (k0_pay6 i x0 x1) (normRow0 x3)) k0_pay13

/-- The block after the feed-forward layer: the first result's. -/
def resBlk (i : grid0.Coords) (x0 x1 : Vec F S256x1024 .f32) (x2 : Vec F S16x9216 .f32) (x3 : Vec F S3x1024 .f32)
    (x4 : Vec F S1024x5632 .bf16) (x5 : Vec F S2816x1024 .bf16) : FVec F S256x1024 .f32 :=
  k0_pay42 (k0_pay6 i x0 x1) (k0_pay15 (k0_pay9 (modRow i x2))) (hid (normBlk i x0 x1 x2 x3) x4) x5

/-- The mean squares of that block's rows, a column. -/
def meanBlk (i : grid0.Coords) (x0 x1 : Vec F S256x1024 .f32) (x2 : Vec F S16x9216 .f32) (x3 : Vec F S3x1024 .f32)
    (x4 : Vec F S1024x5632 .bf16) (x5 : Vec F S2816x1024 .bf16) : FVec F S256x1 .f32 :=
  k0_pay44 (k0_pay6 i x0 x1) (k0_pay15 (k0_pay9 (modRow i x2))) (hid (normBlk i x0 x1 x2 x3) x4) x5

/-- That block normalised and modulated: the in-projection's operand. -/
def projBlk (i : grid0.Coords) (x0 x1 : Vec F S256x1024 .f32) (x2 : Vec F S16x9216 .f32) (x3 : Vec F S3x1024 .f32)
    (x4 : Vec F S1024x5632 .bf16) (x5 : Vec F S2816x1024 .bf16) : FVec F S256x1024 .bf16 :=
  k0_pay45 (k0_pay10 (modRow i x2)) (k0_pay11 (modRow i x2)) (resBlk i x0 x1 x2 x3 x4 x5) (k0_pay43 (normRow1 x3)) (meanBlk i x0 x1 x2 x3 x4 x5)

/-- The first 1536 columns of the in-projection's weights. -/
def wQkv (x6 : Vec F S1024x5632 .bf16) : Vec F S1024x1536 .bf16 :=
  View.ld x6 (Rect.unit (s := S1024x5632) ![0, 0] S1024x1536.size inb_S1024x5632_S1024x1536_0_0)

/-- The queries, keys and values of the block, before rounding. -/
def qkvBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S256x1536 .f32 :=
  k0_pay46 (k0_pay10 (modRow i x2)) (k0_pay11 (modRow i x2)) (resBlk i x0 x1 x2 x3 x4 x5) (k0_pay43 (normRow1 x3)) (meanBlk i x0 x1 x2 x3 x4 x5) (wQkv x6)

/-- The second result's block: the scaled queries in columns 0 to 511, the keys and values beside them. -/
def qkvOut (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : Vec F S256x1536 .bf16 :=
  View.canon
    [⟨Rect.unit (s := S256x1536) ![0, 512] S256x1024.size inb_S256x1536_S256x1024_0_512,
      k0_pay48 (k0_pay10 (modRow i x2)) (k0_pay11 (modRow i x2)) (resBlk i x0 x1 x2 x3 x4 x5) (k0_pay43 (normRow1 x3)) (meanBlk i x0 x1 x2 x3 x4 x5) (wQkv x6)⟩,
     ⟨Rect.unit (s := S256x1536) ![0, 0] S256x512.size inb_S256x1536_S256x512_0_0,
      k0_pay47 (k0_pay10 (modRow i x2)) (k0_pay11 (modRow i x2)) (resBlk i x0 x1 x2 x3 x4 x5) (k0_pay43 (normRow1 x3)) (meanBlk i x0 x1 x2 x3 x4 x5) (wQkv x6)⟩]

/-- The two stores of the second result's block cover it. -/
theorem qkv_covers (p : (Rect.unit (s := S256x1536) ![0, 512] S256x1024.size inb_S256x1536_S256x1024_0_512).shape.Idx → Elt F .bf16)
    (q : (Rect.unit (s := S256x1536) ![0, 0] S256x512.size inb_S256x1536_S256x512_0_0).shape.Idx → Elt F .bf16) (y : S256x1536.Idx) :
    ∃ u ∈ [(⟨Rect.unit (s := S256x1536) ![0, 512] S256x1024.size inb_S256x1536_S256x1024_0_512, p⟩ : View.Piece (Elt F) S256x1536 .bf16),
      ⟨Rect.unit (s := S256x1536) ![0, 0] S256x512.size inb_S256x1536_S256x512_0_0, q⟩], y ∈ u.1.set := by
  have h0 : (y 0).val < 256 := (y 0).isLt
  have h1 : (y 1).val < 1536 := (y 1).isLt
  by_cases h : (y 1).val < 512
  · refine ⟨⟨Rect.unit (s := S256x1536) ![0, 0] S256x512.size inb_S256x1536_S256x512_0_0, q⟩,
      List.mem_cons_of_mem _ (List.mem_singleton.mpr rfl), ?_⟩
    refine (Rect.mem_set_unit (inb := inb_S256x1536_S256x512_0_0)).mpr fun a => ?_
    match a with
    | 0 => exact ⟨Nat.zero_le _, by simpa using h0⟩
    | 1 => exact ⟨Nat.zero_le _, by simpa using h⟩
  · refine ⟨⟨Rect.unit (s := S256x1536) ![0, 512] S256x1024.size inb_S256x1536_S256x1024_0_512, p⟩,
      List.mem_cons_self, ?_⟩
    refine (Rect.mem_set_unit (inb := inb_S256x1536_S256x1024_0_512)).mpr fun a => ?_
    match a with
    | 0 => exact ⟨Nat.zero_le _, by simpa using h0⟩
    | 1 => exact ⟨by simpa using h, by simpa using h1⟩

/-- The key cache's block: the keys, a head at a time. -/
def keyBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S1x1x8x256x64 .f32 :=
  k0_pay51 (k0_pay50 (k0_pay10 (modRow i x2)) (k0_pay11 (modRow i x2)) (resBlk i x0 x1 x2 x3 x4 x5) (k0_pay43 (normRow1 x3)) (meanBlk i x0 x1 x2 x3 x4 x5) (wQkv x6))

/-- The value cache's block: the values, a head at a time. -/
def valBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S1x1x8x256x64 .f32 :=
  k0_pay53 (qkvBlk i x0 x1 x2 x3 x4 x5 x6)

/-- The third result's block: the recurrent branch's input. -/
def xlBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S256x1024 .f32 :=
  k0_pay55 (projBlk i x0 x1 x2 x3 x4 x5) (View.ld x6 (Rect.unit (s := S1024x5632) ![0, 1536] S1024x1024.size inb_S1024x5632_S1024x1024_0_1536))

/-- The fourth result's block: the recurrent branch's gate. -/
def glBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S256x1024 .f32 :=
  k0_pay56 (projBlk i x0 x1 x2 x3 x4 x5) (View.ld x6 (Rect.unit (s := S1024x5632) ![0, 2560] S1024x1024.size inb_S1024x5632_S1024x1024_0_2560))

/-- The fifth result's block: the gates of the two branches. -/
def gatesBlk (i : grid0.Coords) (x0 x1 : Vec F S256x1024 .f32) (x2 : Vec F S16x9216 .f32) (x3 : Vec F S3x1024 .f32)
    (x4 : Vec F S1024x5632 .bf16) (x5 : Vec F S2816x1024 .bf16) (x6 : Vec F S1024x5632 .bf16) : FVec F S256x2048 .f32 :=
  k0_pay57 (projBlk i x0 x1 x2 x3 x4 x5) (View.ld x6 (Rect.unit (s := S1024x5632) ![0, 3584] S1024x2048.size inb_S1024x5632_S1024x2048_0_3584))

end Cert.Kernel2Ideal.Entry

end
-- ==== Proof.Entry.Body.lean ====
/- The body of the entry call, run once: what it leaves in each of its buffers. -/
module

public import proofs.«01_k».proof.Proof.Gen.Kernel2Ideal.Frame
public import proofs.«01_k».proof.Proof.Entry.Block
public import proofs.«01_k».proof.Proof.Layer.Memory

@[expose] public section

set_option maxRecDepth 16384

noncomputable section

namespace Cert.Kernel2Ideal.Entry

open Cert.Kernel2Ideal Cert.Kernel2Ideal.Gen Cert.Layer
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The bit of the context stream: grid points 0 to 15. -/
theorem lt_bit (i : grid0.Coords) : Scalar.cmpi .slt (BitVec.ofNat 32 (i 0).val) 16#32 = if (i 0).val < 16 then 1#1 else 0#1 := by
  revert i; decide +kernel

/-- The key cache's mask is that bit everywhere. -/
theorem mask_key (i : grid0.Coords) (j : S1x1x8x256x64.Idx) :
    k0_pay52 (k0_pay49 (Scalar.cmpi .slt (BitVec.ofNat 32 (i 0).val) 16#32)) j = if (i 0).val < 16 then 1#1 else 0#1 :=
  lt_bit i

/-- So is the value cache's. -/
theorem mask_val (i : grid0.Coords) (j : S1x1x8x256x64.Idx) :
    k0_pay54 (k0_pay49 (Scalar.cmpi .slt (BitVec.ofNat 32 (i 0).val) 16#32)) j = if (i 0).val < 16 then 1#1 else 0#1 :=
  lt_bit i

set_option maxHeartbeats 8000000 in
/-- The body run once: it leaves its operands as they were, stores a block of each result, and of the two caches'
blocks only under the mask. -/
theorem body_run (c : Dev nD) (i : grid0.Coords)
    (arg1 : Memref sig .tc .vmem S256x1024 .f32) (harg1 : arg1.IsWhole)
    (arg2 : Memref sig .tc .vmem S256x1024 .f32) (harg2 : arg2.IsWhole)
    (arg3 : Memref sig .tc .vmem S16x9216 .f32) (harg3 : arg3.IsWhole)
    (arg4 : Memref sig .tc .vmem S3x1024 .f32) (harg4 : arg4.IsWhole)
    (arg5 : Memref sig .tc .vmem S1024x5632 .bf16) (harg5 : arg5.IsWhole)
    (arg6 : Memref sig .tc .vmem S2816x1024 .bf16) (harg6 : arg6.IsWhole)
    (arg7 : Memref sig .tc .vmem S1024x5632 .bf16) (harg7 : arg7.IsWhole)
    (arg8 : Memref sig .tc .vmem S16x1024 .f32) (harg8 : arg8.IsWhole)
    (arg9 : Memref sig .tc .vmem S32x1024 .f32) (harg9 : arg9.IsWhole)
    (arg10 : Memref sig .tc .vmem S32x1024 .f32) (harg10 : arg10.IsWhole)
    (arg11 : Memref sig .tc .vmem S32x5632 .f32) (harg11 : arg11.IsWhole)
    (arg12 : Memref sig .tc .vmem S64x1024 .f32) (harg12 : arg12.IsWhole)
    (arg13 : Memref sig .tc .vmem S256x1024 .f32) (harg13 : arg13.IsWhole)
    (arg14 : Memref sig .tc .vmem S256x1536 .bf16) (harg14 : arg14.IsWhole)
    (arg15 : Memref sig .tc .vmem S256x1024 .f32) (harg15 : arg15.IsWhole)
    (arg16 : Memref sig .tc .vmem S256x1024 .f32) (harg16 : arg16.IsWhole)
    (arg17 : Memref sig .tc .vmem S256x2048 .f32) (harg17 : arg17.IsWhole)
    (arg18 : Memref sig .tc .vmem S1x1x8x256x64 .f32) (harg18 : arg18.IsWhole)
    (arg19 : Memref sig .tc .vmem S1x1x8x256x64 .f32) (harg19 : arg19.IsWhole)
    (arg20 : Memref sig .tc .vmem S16x1024 .bf16) (harg20 : arg20.IsWhole)
    (arg21 : Memref sig .tc .vmem S32x1024 .bf16) (harg21 : arg21.IsWhole)
    (arg22 : Memref sig .tc .vmem S32x1024 .bf16) (harg22 : arg22.IsWhole)
    (arg23 : Memref sig .tc .vmem S32x5632 .bf16) (harg23 : arg23.IsWhole)
    (arg24 : Memref sig .tc .vmem S64x1024 .bf16) (harg24 : arg24.IsWhole)
    (arg25 : Memref sig .tc .vmem S256x2816 .bf16) (harg25 : arg25.IsWhole)
    (arg26 : Memref sig .tc .vmem S256x1024 .bf16) (harg26 : arg26.IsWhole)
    (x0 : Vec F S256x1024 .f32) (x1 : Vec F S256x1024 .f32) (x2 : Vec F S16x9216 .f32) (x3 : Vec F S3x1024 .f32) (x4 : Vec F S1024x5632 .bf16) (x5 : Vec F S2816x1024 .bf16) (x6 : Vec F S1024x5632 .bf16) (x7 : Vec F S16x1024 .f32) (x8 : Vec F S32x1024 .f32) (x9 : Vec F S32x1024 .f32) (x10 : Vec F S32x5632 .f32) (x11 : Vec F S64x1024 .f32)
    (d12 : Vec F S256x1024 .f32) (d13 : Vec F S256x1536 .bf16) (d14 : Vec F S256x1024 .f32) (d15 : Vec F S256x1024 .f32) (d16 : Vec F S256x2048 .f32) (d17 : Vec F S1x1x8x256x64 .f32) (d18 : Vec F S1x1x8x256x64 .f32) (d19 : Vec F S16x1024 .bf16) (d20 : Vec F S32x1024 .bf16) (d21 : Vec F S32x1024 .bf16) (d22 : Vec F S32x5632 .bf16) (d23 : Vec F S64x1024 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
        ∗ owns (c : Thread nD τ) arg13 fullShare d12
        ∗ owns (c : Thread nD τ) arg14 fullShare d13
        ∗ owns (c : Thread nD τ) arg15 fullShare d14
        ∗ owns (c : Thread nD τ) arg16 fullShare d15
        ∗ owns (c : Thread nD τ) arg17 fullShare d16
        ∗ owns (c : Thread nD τ) arg18 fullShare d17
        ∗ owns (c : Thread nD τ) arg19 fullShare d18
        ∗ owns (c : Thread nD τ) arg20 fullShare d19
        ∗ owns (c : Thread nD τ) arg21 fullShare d20
        ∗ owns (c : Thread nD τ) arg22 fullShare d21
        ∗ owns (c : Thread nD τ) arg23 fullShare d22
        ∗ owns (c : Thread nD τ) arg24 fullShare d23
        ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11
            ∗ owns (c : Thread nD τ) arg13 fullShare (resBlk i x0 x1 x2 x3 x4 x5)
            ∗ owns (c : Thread nD τ) arg14 fullShare (qkvOut i x0 x1 x2 x3 x4 x5 x6)
            ∗ owns (c : Thread nD τ) arg15 fullShare (xlBlk i x0 x1 x2 x3 x4 x5 x6)
            ∗ owns (c : Thread nD τ) arg16 fullShare (glBlk i x0 x1 x2 x3 x4 x5 x6)
            ∗ owns (c : Thread nD τ) arg17 fullShare (gatesBlk i x0 x1 x2 x3 x4 x5 x6)
            ∗ owns (c : Thread nD τ) arg18 fullShare (if (i 0).val < 16 then keyBlk i x0 x1 x2 x3 x4 x5 x6 else d17)
            ∗ owns (c : Thread nD τ) arg19 fullShare (if (i 0).val < 16 then valBlk i x0 x1 x2 x3 x4 x5 x6 else d18)
            ∗ owns (c : Thread nD τ) arg20 fullShare (k0_pay1 x7)
            ∗ owns (c : Thread nD τ) arg21 fullShare (k0_pay2 x8)
            ∗ owns (c : Thread nD τ) arg22 fullShare (k0_pay3 x9)
            ∗ owns (c : Thread nD τ) arg23 fullShare (k0_pay4 x10)
            ∗ owns (c : Thread nD τ) arg24 fullShare (k0_pay5 x11)
            ∗ (∃ d, owns (c : Thread nD τ) arg25 fullShare d) ∗ (∃ d, owns (c : Thread nD τ) arg26 fullShare d)) -∗ K ⟨⟩))
      ⊢ wp frame (wpE (defs₀ (F := F)) Variants.none c none) E (cc0_ffn1_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_ffn1_inproj_eq_skeleton]; unfold cc0_ffn1_inproj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23
  sl_exec
  sl_step
  have hr : body_run.sl.r (F := F) c i arg1 harg1 arg2 harg2 x0 x1 = k0_pay6 i x0 x1 := by
    delta body_run.sl.r; beta_reduce
    set_option backward.isDefEq.respectTransparency false in
    simp only [readAt_unread_ld, ld_whole (S := S256x1024) hz, ld_whole (S := S2816x1024) hz]
  have h1 : body_run.sl.r_1 (F := F) c i arg3 harg3 x2 = k0_pay7 (modRow i x2) := by
    delta body_run.sl.r_1; beta_reduce; rw [readAt_unread_ld]; rfl
  have h2 : body_run.sl.r_2 (F := F) c i arg3 harg3 x2 = k0_pay8 (modRow i x2) := by
    delta body_run.sl.r_2; beta_reduce; rw [readAt_unread_ld]; rfl
  have h3 : body_run.sl.r_3 (F := F) c i arg3 harg3 x2 = k0_pay9 (modRow i x2) := by
    delta body_run.sl.r_3; beta_reduce; rw [readAt_unread_ld]; rfl
  have h4 : body_run.sl.r_4 (F := F) c i arg3 harg3 x2 = k0_pay10 (modRow i x2) := by
    delta body_run.sl.r_4; beta_reduce; rw [readAt_unread_ld]; rfl
  have h5 : body_run.sl.r_5 (F := F) c i arg3 harg3 x2 = k0_pay11 (modRow i x2) := by
    delta body_run.sl.r_5; beta_reduce; rw [readAt_unread_ld]; rfl
  have h6 : body_run.sl.r_6 (F := F) c i arg1 harg1 arg2 harg2 arg4 harg4 x0 x1 x3 = k0_pay12 (k0_pay6 i x0 x1) (normRow0 x3) := by
    delta body_run.sl.r_6; beta_reduce; rw [hr, readAt_unread_ld]; rfl
  have h7 : body_run.sl.r_7 (F := F) c i arg3 harg3 x2 = k0_pay15 (k0_pay9 (modRow i x2)) := by
    delta body_run.sl.r_7; beta_reduce; rw [h3]
  have h23 : body_run.sl.r_23 (F := F) c arg4 harg4 x3 = k0_pay43 (normRow1 x3) := by
    delta body_run.sl.r_23; beta_reduce; rw [readAt_unread_ld]; rfl
  have hs1 : body_run.sl.HS1_1 (F := F) c i arg1 harg1 arg2 harg2 arg3 harg3 arg4 harg4 x0 x1 x2 x3 = [⟨Rect.unit (s := S256x1024) ![0, 0] S256x1024.size inb_S256x1024_S256x1024_0_0, normBlk i x0 x1 x2 x3⟩] := by
    delta body_run.sl.HS1_1; beta_reduce; rw [h1, h2, h6]; rfl
  have hv81 : body_run.sl.v81 (F := F) c i arg1 harg1 arg2 harg2 arg3 harg3 arg4 harg4 arg26 x0 x1 x2 x3 = normBlk i x0 x1 x2 x3 := by
    delta body_run.sl.v81; beta_reduce; rw [hs1]
    set_option backward.isDefEq.respectTransparency false in
    rw [readCov_whole (s := S256x1024) _ hz, canon_whole (S := S256x1024) hz]
  have hs0 : body_run.sl.HS0_11 (F := F) c i arg1 harg1 arg2 harg2 arg3 harg3 arg4 harg4 arg5 harg5 arg26 x0 x1 x2 x3 x4 = hidPieces (normBlk i x0 x1 x2 x3) x4 := by
    delta body_run.sl.HS0_11 body_run.sl.r_8 body_run.sl.r_9 body_run.sl.r_10 body_run.sl.r_11 body_run.sl.r_12 body_run.sl.r_13 body_run.sl.r_14 body_run.sl.r_15 body_run.sl.r_16 body_run.sl.r_17 body_run.sl.r_18 body_run.sl.r_19 body_run.sl.r_20 body_run.sl.r_21 body_run.sl.cst_76
    beta_reduce
    simp only [hv81, readAt_unread_ld]
    rfl
  have hv269 : body_run.sl.v269 (F := F) c i arg1 harg1 arg2 harg2 arg3 harg3 arg4 harg4 arg5 harg5 arg25 arg26 x0 x1 x2 x3 x4 = hid (normBlk i x0 x1 x2 x3) x4 := by
    delta body_run.sl.v269; beta_reduce; rw [hs0]
    set_option backward.isDefEq.respectTransparency false in
    rw [readCov_whole (s := S256x2816) _ hz]
    rfl
  have h22 : body_run.sl.r_22 (F := F) c i arg1 harg1 arg2 harg2 arg3 harg3 arg4 harg4 arg5 harg5 arg6 harg6 arg25 arg26 x0 x1 x2 x3 x4 x5 = resBlk i x0 x1 x2 x3 x4 x5 := by
    delta body_run.sl.r_22; beta_reduce; rw [hr, h7, hv269, readAt_unread_ld]
    set_option backward.isDefEq.respectTransparency false in
    rw [ld_whole (S := S2816x1024) hz]
    rfl
  have h24 : body_run.sl.r_24 (F := F) c i arg1 harg1 arg2 harg2 arg3 harg3 arg4 harg4 arg5 harg5 arg6 harg6 arg25 arg26 x0 x1 x2 x3 x4 x5 = meanBlk i x0 x1 x2 x3 x4 x5 := by
    delta body_run.sl.r_24; beta_reduce; rw [hr, h7, hv269, readAt_unread_ld]
    set_option backward.isDefEq.respectTransparency false in
    rw [ld_whole (S := S2816x1024) hz]
    rfl
  have h25 : body_run.sl.r_25 (F := F) c i arg1 harg1 arg2 harg2 arg3 harg3 arg4 harg4 arg5 harg5 arg6 harg6 arg25 arg26 x0 x1 x2 x3 x4 x5 = projBlk i x0 x1 x2 x3 x4 x5 := by
    delta body_run.sl.r_25; beta_reduce; rw [h4, h5, h22, h23, h24]; rfl
  have h26 : body_run.sl.r_26 (F := F) c i arg1 harg1 arg2 harg2 arg3 harg3 arg4 harg4 arg5 harg5 arg6 harg6 arg7 harg7 arg25 arg26 x0 x1 x2 x3 x4 x5 x6 = qkvBlk i x0 x1 x2 x3 x4 x5 x6 := by
    delta body_run.sl.r_26; beta_reduce; rw [h4, h5, h22, h23, h24, readAt_unread_ld]; rfl
  have h28 : k0_pay51 (body_run.sl.r_28 (F := F) c i arg1 harg1 arg2 harg2 arg3 harg3 arg4 harg4 arg5 harg5 arg6 harg6 arg7 harg7 arg25 arg26 x0 x1 x2 x3 x4 x5 x6) = keyBlk i x0 x1 x2 x3 x4 x5 x6 := by
    delta body_run.sl.r_28; beta_reduce; rw [h4, h5, h22, h23, h24, readAt_unread_ld]; rfl
  have h29 : body_run.sl.r_29 (F := F) c i arg1 harg1 arg2 harg2 arg3 harg3 arg4 harg4 arg5 harg5 arg6 harg6 arg7 harg7 arg25 arg26 x0 x1 x2 x3 x4 x5 x6 = gatesBlk i x0 x1 x2 x3 x4 x5 x6 := by
    delta body_run.sl.r_29; beta_reduce; rw [h25, readAt_unread_ld]; rfl
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg3.read_unread _
  isplitl [H3]
  · iexists _; isplitr; swap; · iexact H3
    ipureintro; exact harg4.read_unread _
  isplitl [H4]
  · iexists _; isplitr; swap; · iexact H4
    ipureintro; exact harg5.read_unread _
  isplitl [H5]
  · iexists _; isplitr; swap; · iexact H5
    ipureintro; exact harg6.read_unread _
  isplitl [H6]
  · iexists _; isplitr; swap; · iexact H6
    ipureintro; exact harg7.read_unread _
  isplitl [H7]
  · iexists _; isplitr; swap; · iexact H7
    ipureintro; exact harg8.read_unread _
  isplitl [H8]
  · iexists _; isplitr; swap; · iexact H8
    ipureintro; exact harg9.read_unread _
  isplitl [H9]
  · iexists _; isplitr; swap; · iexact H9
    ipureintro; exact harg10.read_unread _
  isplitl [H10]
  · iexists _; isplitr; swap; · iexact H10
    ipureintro; exact harg11.read_unread _
  isplitl [H11]
  · iexists _; isplitr; swap; · iexact H11
    ipureintro; exact harg12.read_unread _
  isplitl [H12]
  · iexists _; isplitr; swap; · iexact H12
    ipureintro
    exact (View.read_writes_full _ _ _ _ []).trans h22
  isplitl [H13]
  · iexists _; isplitr; swap; · iexact H13
    ipureintro
    refine (View.read_writes_eq_canon _ _ _ (fun y => qkv_covers _ _ y)).trans ?_
    rw [h4, h5, h22, h23, h24, readAt_unread_ld]
    rfl
  isplitl [H14]
  · iexists _; isplitr; swap; · iexact H14
    ipureintro
    refine (View.read_writes_full _ _ _ _ []).trans ?_
    rw [h25, readAt_unread_ld]
    rfl
  isplitl [H15]
  · iexists _; isplitr; swap; · iexact H15
    ipureintro
    refine (View.read_writes_full _ _ _ _ []).trans ?_
    rw [h25, readAt_unread_ld]
    rfl
  isplitl [H16]
  · iexists _; isplitr; swap; · iexact H16
    ipureintro
    exact (View.read_writes_full _ _ _ _ []).trans h29
  isplitl [H17]
  · iexists _; isplitr; swap; · iexact H17
    ipureintro
    delta body_run.sl.H17_w1
    refine (read_masked_store harg18 _ _ _ _ _ (mask_key i)).trans ?_
    rw [h28]
  isplitl [H18]
  · iexists _; isplitr; swap; · iexact H18
    ipureintro
    delta body_run.sl.H18_w2
    refine (read_masked_store harg19 _ _ _ _ _ (mask_val i)).trans ?_
    rw [h26]
    rfl
  isplitl [H19]
  · iexists _; isplitr; swap; · iexact H19
    ipureintro
    refine (View.read_writes_full _ _ _ _ []).trans ?_
    rw [readAt_unread_ld]
    set_option backward.isDefEq.respectTransparency false in
    rw [ld_whole (S := S16x1024) hz]
  isplitl [H20]
  · iexists _; isplitr; swap; · iexact H20
    ipureintro
    refine (View.read_writes_full _ _ _ _ []).trans ?_
    rw [readAt_unread_ld]
    set_option backward.isDefEq.respectTransparency false in
    rw [ld_whole (S := S32x1024) hz]
  isplitl [H21]
  · iexists _; isplitr; swap; · iexact H21
    ipureintro
    refine (View.read_writes_full _ _ _ _ []).trans ?_
    rw [readAt_unread_ld]
    set_option backward.isDefEq.respectTransparency false in
    rw [ld_whole (S := S32x1024) hz]
  isplitl [H22]
  · iexists _; isplitr; swap; · iexact H22
    ipureintro
    refine (View.read_writes_full _ _ _ _ []).trans ?_
    rw [readAt_unread_ld]
    set_option backward.isDefEq.respectTransparency false in
    rw [ld_whole (S := S32x5632) hz]
  isplitl [H23]
  · iexists _; isplitr; swap; · iexact H23
    ipureintro
    refine (View.read_writes_full _ _ _ _ []).trans ?_
    rw [readAt_unread_ld]
    set_option backward.isDefEq.respectTransparency false in
    rw [ld_whole (S := S64x1024) hz]
  isplitl [HS0]
  · iexists _; iexists _; isplitr; swap; · iexact HS0
    ipureintro; rfl
  iexists _; iexists _; isplitr; swap; · iexact HS1
  ipureintro; rfl

end Cert.Kernel2Ideal.Entry

end
-- ==== Proof.Entry.Run.lean ====
/- The entry call's run: what its buffers hold at every grid point, and what the launch leaves. -/
module

public import proofs.«01_k».proof.Proof.Entry.Body
public import Idealize.ShloMosaic.Lib.Pipeline.ArrRel
public import Idealize.ShloMosaic.Lib.Pipeline.DatRel
public import Idealize.ShloMosaic.Lib.Claim

@[expose] public section

set_option maxRecDepth 16384

noncomputable section

namespace Cert.Kernel2Ideal.Entry

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result's block computed at point `t`. -/
def resAt (c : Dev nD) (t : Fin cfg0.N) : Vec F S256x1024 .f32 :=
  resBlk (grid0.coords t) (iblk m c 0 t) (iblk m c 1 t) (iblk m c 2 t) (iblk m c 3 t) (iblk m c 4 t) (iblk m c 5 t)

/-- The second result's block computed at point `t`. -/
def qkvAt (c : Dev nD) (t : Fin cfg0.N) : Vec F S256x1536 .bf16 :=
  qkvOut (grid0.coords t) (iblk m c 0 t) (iblk m c 1 t) (iblk m c 2 t) (iblk m c 3 t) (iblk m c 4 t) (iblk m c 5 t) (iblk m c 6 t)

/-- The third result's block computed at point `t`. -/
def xlAt (c : Dev nD) (t : Fin cfg0.N) : Vec F S256x1024 .f32 :=
  xlBlk (grid0.coords t) (iblk m c 0 t) (iblk m c 1 t) (iblk m c 2 t) (iblk m c 3 t) (iblk m c 4 t) (iblk m c 5 t) (iblk m c 6 t)

/-- The fourth result's block computed at point `t`. -/
def glAt (c : Dev nD) (t : Fin cfg0.N) : Vec F S256x1024 .f32 :=
  glBlk (grid0.coords t) (iblk m c 0 t) (iblk m c 1 t) (iblk m c 2 t) (iblk m c 3 t) (iblk m c 4 t) (iblk m c 5 t) (iblk m c 6 t)

/-- The fifth result's block computed at point `t`. -/
def gatesAt (c : Dev nD) (t : Fin cfg0.N) : Vec F S256x2048 .f32 :=
  gatesBlk (grid0.coords t) (iblk m c 0 t) (iblk m c 1 t) (iblk m c 2 t) (iblk m c 3 t) (iblk m c 4 t) (iblk m c 5 t) (iblk m c 6 t)

/-- The key cache's block computed at point `t`. -/
def keyAt (c : Dev nD) (t : Fin cfg0.N) : Vec F S1x1x8x256x64 .f32 :=
  keyBlk (grid0.coords t) (iblk m c 0 t) (iblk m c 1 t) (iblk m c 2 t) (iblk m c 3 t) (iblk m c 4 t) (iblk m c 5 t) (iblk m c 6 t)

/-- The value cache's block computed at point `t`. -/
def valAt (c : Dev nD) (t : Fin cfg0.N) : Vec F S1x1x8x256x64 .f32 :=
  valBlk (grid0.coords t) (iblk m c 0 t) (iblk m c 1 t) (iblk m c 2 t) (iblk m c 3 t) (iblk m c 4 t) (iblk m c 5 t) (iblk m c 6 t)

/-- The last point up to `t` that stores a block of the caches. -/
def ctxPt (t : Fin cfg0.N) : Fin cfg0.N := ⟨min t.val 15, lt_of_le_of_lt (Nat.min_le_left _ _) t.isLt⟩

/-- What the pipeline's buffers hold after each point: an operand its block, a result's buffer the block computed, a
cache's buffer the last block stored in it. -/
def dats (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => resAt m c t
    | ⟨13, _⟩ => qkvAt m c t
    | ⟨14, _⟩ => xlAt m c t
    | ⟨15, _⟩ => glAt m c t
    | ⟨16, _⟩ => gatesAt m c t
    | ⟨17, _⟩ => keyAt m c (ctxPt t)
    | ⟨18, _⟩ => valAt m c (ctxPt t)
    | ⟨19, _⟩ => k0_pay1 (iblk m c 7 t)
    | ⟨20, _⟩ => k0_pay2 (iblk m c 8 t)
    | ⟨21, _⟩ => k0_pay3 (iblk m c 9 t)
    | ⟨22, _⟩ => k0_pay4 (iblk m c 10 t)
    | ⟨23, _⟩ => k0_pay5 (iblk m c 11 t)
    | ⟨_ + 24, h⟩ => absurd h (Nat.not_lt.2 (Nat.le_add_left _ _))
  Φ _ := Pipeline.ΦA spec0 c
  q _ := fullShare
  owed _ := 0

theorem A_eq (c : Dev nD) (w : Fin cfg0.W) : (dats m c).A w = V m c (Pipeline.arrRef spec0 w) := by
  dsimp only [dats]

theorem after_0 (c : Dev nD) (t : Fin cfg0.N) : (dats m c).after 0 t = iblk m c 0 t := by dsimp only [dats]
theorem after_1 (c : Dev nD) (t : Fin cfg0.N) : (dats m c).after 1 t = iblk m c 1 t := by dsimp only [dats]
theorem after_2 (c : Dev nD) (t : Fin cfg0.N) : (dats m c).after 2 t = iblk m c 2 t := by dsimp only [dats]
theorem after_3 (c : Dev nD) (t : Fin cfg0.N) : (dats m c).after 3 t = iblk m c 3 t := by dsimp only [dats]
theorem after_4 (c : Dev nD) (t : Fin cfg0.N) : (dats m c).after 4 t = iblk m c 4 t := by dsimp only [dats]
theorem after_5 (c : Dev nD) (t : Fin cfg0.N) : (dats m c).after 5 t = iblk m c 5 t := by dsimp only [dats]
theorem after_6 (c : Dev nD) (t : Fin cfg0.N) : (dats m c).after 6 t = iblk m c 6 t := by dsimp only [dats]
theorem after_7 (c : Dev nD) (t : Fin cfg0.N) : (dats m c).after 7 t = iblk m c 7 t := by dsimp only [dats]
theorem after_8 (c : Dev nD) (t : Fin cfg0.N) : (dats m c).after 8 t = iblk m c 8 t := by dsimp only [dats]
theorem after_9 (c : Dev nD) (t : Fin cfg0.N) : (dats m c).after 9 t = iblk m c 9 t := by dsimp only [dats]
theorem after_10 (c : Dev nD) (t : Fin cfg0.N) : (dats m c).after 10 t = iblk m c 10 t := by dsimp only [dats]
theorem after_11 (c : Dev nD) (t : Fin cfg0.N) : (dats m c).after 11 t = iblk m c 11 t := by dsimp only [dats]
theorem after_12 (c : Dev nD) (t : Fin cfg0.N) : (dats m c).after 12 t = resAt m c t := by dsimp only [dats]
theorem after_13 (c : Dev nD) (t : Fin cfg0.N) : (dats m c).after 13 t = qkvAt m c t := by dsimp only [dats]
theorem after_14 (c : Dev nD) (t : Fin cfg0.N) : (dats m c).after 14 t = xlAt m c t := by dsimp only [dats]
theorem after_15 (c : Dev nD) (t : Fin cfg0.N) : (dats m c).after 15 t = glAt m c t := by dsimp only [dats]
theorem after_16 (c : Dev nD) (t : Fin cfg0.N) : (dats m c).after 16 t = gatesAt m c t := by dsimp only [dats]
theorem after_17 (c : Dev nD) (t : Fin cfg0.N) : (dats m c).after 17 t = keyAt m c (ctxPt t) := by dsimp only [dats]
theorem after_18 (c : Dev nD) (t : Fin cfg0.N) : (dats m c).after 18 t = valAt m c (ctxPt t) := by dsimp only [dats]
theorem after_19 (c : Dev nD) (t : Fin cfg0.N) : (dats m c).after 19 t = k0_pay1 (iblk m c 7 t) := by dsimp only [dats]
theorem after_20 (c : Dev nD) (t : Fin cfg0.N) : (dats m c).after 20 t = k0_pay2 (iblk m c 8 t) := by dsimp only [dats]
theorem after_21 (c : Dev nD) (t : Fin cfg0.N) : (dats m c).after 21 t = k0_pay3 (iblk m c 9 t) := by dsimp only [dats]
theorem after_22 (c : Dev nD) (t : Fin cfg0.N) : (dats m c).after 22 t = k0_pay4 (iblk m c 10 t) := by dsimp only [dats]
theorem after_23 (c : Dev nD) (t : Fin cfg0.N) : (dats m c).after 23 t = k0_pay5 (iblk m c 11 t) := by dsimp only [dats]

theorem before_0 (c : Dev nD) (t : Fin cfg0.N) (d) : (dats m c).before 0 t d = iblk m c 0 t :=
  before0_0_of m (dats m c) (A_eq m c 0) (after_0 m c) t d
theorem before_1 (c : Dev nD) (t : Fin cfg0.N) (d) : (dats m c).before 1 t d = iblk m c 1 t :=
  before0_1_of m (dats m c) (A_eq m c 1) (after_1 m c) t d
theorem before_2 (c : Dev nD) (t : Fin cfg0.N) (d) : (dats m c).before 2 t d = iblk m c 2 t :=
  before0_2_of m (dats m c) (A_eq m c 2) (after_2 m c) t d
theorem before_3 (c : Dev nD) (t : Fin cfg0.N) (d) : (dats m c).before 3 t d = iblk m c 3 t :=
  before0_3_of m (dats m c) (A_eq m c 3) (after_3 m c) t d
theorem before_4 (c : Dev nD) (t : Fin cfg0.N) (d) : (dats m c).before 4 t d = iblk m c 4 t :=
  before0_4_of m (dats m c) (A_eq m c 4) (after_4 m c) t d
theorem before_5 (c : Dev nD) (t : Fin cfg0.N) (d) : (dats m c).before 5 t d = iblk m c 5 t :=
  before0_5_of m (dats m c) (A_eq m c 5) (after_5 m c) t d
theorem before_6 (c : Dev nD) (t : Fin cfg0.N) (d) : (dats m c).before 6 t d = iblk m c 6 t :=
  before0_6_of m (dats m c) (A_eq m c 6) (after_6 m c) t d
theorem before_7 (c : Dev nD) (t : Fin cfg0.N) (d) : (dats m c).before 7 t d = iblk m c 7 t :=
  before0_7_of m (dats m c) (A_eq m c 7) (after_7 m c) t d
theorem before_8 (c : Dev nD) (t : Fin cfg0.N) (d) : (dats m c).before 8 t d = iblk m c 8 t :=
  before0_8_of m (dats m c) (A_eq m c 8) (after_8 m c) t d
theorem before_9 (c : Dev nD) (t : Fin cfg0.N) (d) : (dats m c).before 9 t d = iblk m c 9 t :=
  before0_9_of m (dats m c) (A_eq m c 9) (after_9 m c) t d
theorem before_10 (c : Dev nD) (t : Fin cfg0.N) (d) : (dats m c).before 10 t d = iblk m c 10 t :=
  before0_10_of m (dats m c) (A_eq m c 10) (after_10 m c) t d
theorem before_11 (c : Dev nD) (t : Fin cfg0.N) (d) : (dats m c).before 11 t d = iblk m c 11 t :=
  before0_11_of m (dats m c) (A_eq m c 11) (after_11 m c) t d

theorem coords_val : ∀ t : Fin cfg0.N, ((grid0.coords t) 0).val = t.val := by decide +kernel

theorem flush_17 : ∀ t : Fin cfg0.N, (cfg0.win 17).flush t = true ↔ (t.val < 15 ∨ t.val = 47) := by decide +kernel

theorem flush_18 : ∀ t : Fin cfg0.N, (cfg0.win 18).flush t = true ↔ (t.val < 15 ∨ t.val = 47) := by decide +kernel

/-- From point 16 on the key cache's buffer is found as point 15 left it. -/
theorem before_17 (c : Dev nD) (t : Fin cfg0.N) (ht : 16 ≤ t.val) (d) : (dats m c).before 17 t d = keyAt m c (ctxPt t) := by
  have hN : t.val < 48 := N_0 ▸ t.isLt
  rw [(dats m c).before_out_kept 17 rfl t (by omega) ?_ (fun _ => rfl) (fun _ _ => rfl) d, after_17]
  · congr 1
    unfold ctxPt
    ext
    simp only
    omega
  · rw [← Bool.not_eq_true, flush_17]
    simp only
    omega

/-- The key cache's buffer after the body. -/
theorem left_17 (c : Dev nD) (t : Fin cfg0.N) (d) :
    (if ((grid0.coords t) 0).val < 16 then keyAt m c t else (dats m c).before 17 t d) = (dats m c).after 17 t := by
  rw [coords_val, after_17]
  by_cases h : t.val < 16
  · rw [if_pos h]
    congr 1
    unfold ctxPt
    ext
    simp only
    omega
  · rw [if_neg h]
    exact before_17 m c t (by omega) d

/-- From point 16 on the value cache's buffer is found as point 15 left it. -/
theorem before_18 (c : Dev nD) (t : Fin cfg0.N) (ht : 16 ≤ t.val) (d) : (dats m c).before 18 t d = valAt m c (ctxPt t) := by
  have hN : t.val < 48 := N_0 ▸ t.isLt
  rw [(dats m c).before_out_kept 18 rfl t (by omega) ?_ (fun _ => rfl) (fun _ _ => rfl) d, after_18]
  · congr 1
    unfold ctxPt
    ext
    simp only
    omega
  · rw [← Bool.not_eq_true, flush_18]
    simp only
    omega

/-- The value cache's buffer after the body. -/
theorem left_18 (c : Dev nD) (t : Fin cfg0.N) (d) :
    (if ((grid0.coords t) 0).val < 16 then valAt m c t else (dats m c).before 18 t d) = (dats m c).after 18 t := by
  rw [coords_val, after_18]
  by_cases h : t.val < 16
  · rw [if_pos h]
    congr 1
    unfold ctxPt
    ext
    simp only
    omega
  · rw [if_neg h]
    exact before_18 m c t (by omega) d

/-- No window's buffer is stated only in part. -/
def late : Fin 24 → Bool := fun _ => false

/-- Nothing more is stated of any. -/
def held (c : Dev nD) (w : Fin cfg0.W) (t : Fin cfg0.N) (X : (cfg0.win w).block.Idx → Elt F (cfg0.win w).elt) : Prop := True

abbrev ms_0 (t : Fin cfg0.N) : Memref sig .tc .vmem S256x1024 .f32 := win0_0.stage (cfg0.slots t 0)
abbrev ms_1 (t : Fin cfg0.N) : Memref sig .tc .vmem S256x1024 .f32 := win0_1.stage (cfg0.slots t 1)
abbrev ms_2 (t : Fin cfg0.N) : Memref sig .tc .vmem S16x9216 .f32 := win0_2.stage (cfg0.slots t 2)
abbrev ms_3 (t : Fin cfg0.N) : Memref sig .tc .vmem S3x1024 .f32 := win0_3.stage (cfg0.slots t 3)
abbrev ms_4 (t : Fin cfg0.N) : Memref sig .tc .vmem S1024x5632 .bf16 := win0_4.stage (cfg0.slots t 4)
abbrev ms_5 (t : Fin cfg0.N) : Memref sig .tc .vmem S2816x1024 .bf16 := win0_5.stage (cfg0.slots t 5)
abbrev ms_6 (t : Fin cfg0.N) : Memref sig .tc .vmem S1024x5632 .bf16 := win0_6.stage (cfg0.slots t 6)
abbrev ms_7 (t : Fin cfg0.N) : Memref sig .tc .vmem S16x1024 .f32 := win0_7.stage (cfg0.slots t 7)
abbrev ms_8 (t : Fin cfg0.N) : Memref sig .tc .vmem S32x1024 .f32 := win0_8.stage (cfg0.slots t 8)
abbrev ms_9 (t : Fin cfg0.N) : Memref sig .tc .vmem S32x1024 .f32 := win0_9.stage (cfg0.slots t 9)
abbrev ms_10 (t : Fin cfg0.N) : Memref sig .tc .vmem S32x5632 .f32 := win0_10.stage (cfg0.slots t 10)
abbrev ms_11 (t : Fin cfg0.N) : Memref sig .tc .vmem S64x1024 .f32 := win0_11.stage (cfg0.slots t 11)
abbrev ms_12 (t : Fin cfg0.N) : Memref sig .tc .vmem S256x1024 .f32 := win0_12.stage (cfg0.slots t 12)
abbrev ms_13 (t : Fin cfg0.N) : Memref sig .tc .vmem S256x1536 .bf16 := win0_13.stage (cfg0.slots t 13)
abbrev ms_14 (t : Fin cfg0.N) : Memref sig .tc .vmem S256x1024 .f32 := win0_14.stage (cfg0.slots t 14)
abbrev ms_15 (t : Fin cfg0.N) : Memref sig .tc .vmem S256x1024 .f32 := win0_15.stage (cfg0.slots t 15)
abbrev ms_16 (t : Fin cfg0.N) : Memref sig .tc .vmem S256x2048 .f32 := win0_16.stage (cfg0.slots t 16)
abbrev ms_17 (t : Fin cfg0.N) : Memref sig .tc .vmem S1x1x8x256x64 .f32 := win0_17.stage (cfg0.slots t 17)
abbrev ms_18 (t : Fin cfg0.N) : Memref sig .tc .vmem S1x1x8x256x64 .f32 := win0_18.stage (cfg0.slots t 18)
abbrev ms_19 (t : Fin cfg0.N) : Memref sig .tc .vmem S16x1024 .bf16 := win0_19.stage (cfg0.slots t 19)
abbrev ms_20 (t : Fin cfg0.N) : Memref sig .tc .vmem S32x1024 .bf16 := win0_20.stage (cfg0.slots t 20)
abbrev ms_21 (t : Fin cfg0.N) : Memref sig .tc .vmem S32x1024 .bf16 := win0_21.stage (cfg0.slots t 21)
abbrev ms_22 (t : Fin cfg0.N) : Memref sig .tc .vmem S32x5632 .bf16 := win0_22.stage (cfg0.slots t 22)
abbrev ms_23 (t : Fin cfg0.N) : Memref sig .tc .vmem S64x1024 .bf16 := win0_23.stage (cfg0.slots t 23)

abbrev hid0 : Memref sig .tc .vmem S256x2816 .bf16 := Memref.whole cc0_scratch0
abbrev norm0 : Memref sig .tc .vmem S256x1024 .bf16 := Memref.whole cc0_scratch1

theorem scoped_eq (c : Dev nD) :
    (Pipeline.ΦA spec0 c : sProp 𝕄)
      = iprop(iprop((∃ d, owns (c : Thread nD τ) hid0 fullShare d) ∗ (∃ d, owns (c : Thread nD τ) norm0 fullShare d)) ∗ (∃ r, prngReg c r)) := by
  unfold Pipeline.ΦA; rw [scopedRest0_eq]; simp only [hid0, norm0, owns_whole]; try rfl

/-- What the body is handed at point `t`. -/
def bodyPre (c : Dev nD) (t : Fin cfg0.N) : sProp 𝕄 :=
  iprop((dats m c).Φ t.castSucc ∗ (dats m c).owesAt () t.castSucc
    ∗ (∃ d, owns (c : Thread nD τ) (ms_0 t) fullShare ((dats m c).before 0 t d))
    ∗ (∃ d, owns (c : Thread nD τ) (ms_1 t) fullShare ((dats m c).before 1 t d))
    ∗ (∃ d, owns (c : Thread nD τ) (ms_2 t) fullShare ((dats m c).before 2 t d))
    ∗ (∃ d, owns (c : Thread nD τ) (ms_3 t) fullShare ((dats m c).before 3 t d))
    ∗ (∃ d, owns (c : Thread nD τ) (ms_4 t) fullShare ((dats m c).before 4 t d))
    ∗ (∃ d, owns (c : Thread nD τ) (ms_5 t) fullShare ((dats m c).before 5 t d))
    ∗ (∃ d, owns (c : Thread nD τ) (ms_6 t) fullShare ((dats m c).before 6 t d))
    ∗ (∃ d, owns (c : Thread nD τ) (ms_7 t) fullShare ((dats m c).before 7 t d))
    ∗ (∃ d, owns (c : Thread nD τ) (ms_8 t) fullShare ((dats m c).before 8 t d))
    ∗ (∃ d, owns (c : Thread nD τ) (ms_9 t) fullShare ((dats m c).before 9 t d))
    ∗ (∃ d, owns (c : Thread nD τ) (ms_10 t) fullShare ((dats m c).before 10 t d))
    ∗ (∃ d, owns (c : Thread nD τ) (ms_11 t) fullShare ((dats m c).before 11 t d))
    ∗ (∃ d, owns (c : Thread nD τ) (ms_12 t) fullShare ((dats m c).before 12 t d))
    ∗ (∃ d, owns (c : Thread nD τ) (ms_13 t) fullShare ((dats m c).before 13 t d))
    ∗ (∃ d, owns (c : Thread nD τ) (ms_14 t) fullShare ((dats m c).before 14 t d))
    ∗ (∃ d, owns (c : Thread nD τ) (ms_15 t) fullShare ((dats m c).before 15 t d))
    ∗ (∃ d, owns (c : Thread nD τ) (ms_16 t) fullShare ((dats m c).before 16 t d))
    ∗ (∃ d, owns (c : Thread nD τ) (ms_17 t) fullShare ((dats m c).before 17 t d))
    ∗ (∃ d, owns (c : Thread nD τ) (ms_18 t) fullShare ((dats m c).before 18 t d))
    ∗ (∃ d, owns (c : Thread nD τ) (ms_19 t) fullShare ((dats m c).before 19 t d))
    ∗ (∃ d, owns (c : Thread nD τ) (ms_20 t) fullShare ((dats m c).before 20 t d))
    ∗ (∃ d, owns (c : Thread nD τ) (ms_21 t) fullShare ((dats m c).before 21 t d))
    ∗ (∃ d, owns (c : Thread nD τ) (ms_22 t) fullShare ((dats m c).before 22 t d))
    ∗ (∃ d, owns (c : Thread nD τ) (ms_23 t) fullShare ((dats m c).before 23 t d)))

/-- What it hands back. -/
def bodyPost (c : Dev nD) (t : Fin cfg0.N) : sProp 𝕄 :=
  iprop((dats m c).Φ t.succ ∗ (dats m c).owesAt () t.succ
    ∗ owns (c : Thread nD τ) (ms_0 t) fullShare ((dats m c).after 0 t)
    ∗ owns (c : Thread nD τ) (ms_1 t) fullShare ((dats m c).after 1 t)
    ∗ owns (c : Thread nD τ) (ms_2 t) fullShare ((dats m c).after 2 t)
    ∗ owns (c : Thread nD τ) (ms_3 t) fullShare ((dats m c).after 3 t)
    ∗ owns (c : Thread nD τ) (ms_4 t) fullShare ((dats m c).after 4 t)
    ∗ owns (c : Thread nD τ) (ms_5 t) fullShare ((dats m c).after 5 t)
    ∗ owns (c : Thread nD τ) (ms_6 t) fullShare ((dats m c).after 6 t)
    ∗ owns (c : Thread nD τ) (ms_7 t) fullShare ((dats m c).after 7 t)
    ∗ owns (c : Thread nD τ) (ms_8 t) fullShare ((dats m c).after 8 t)
    ∗ owns (c : Thread nD τ) (ms_9 t) fullShare ((dats m c).after 9 t)
    ∗ owns (c : Thread nD τ) (ms_10 t) fullShare ((dats m c).after 10 t)
    ∗ owns (c : Thread nD τ) (ms_11 t) fullShare ((dats m c).after 11 t)
    ∗ owns (c : Thread nD τ) (ms_12 t) fullShare ((dats m c).after 12 t)
    ∗ owns (c : Thread nD τ) (ms_13 t) fullShare ((dats m c).after 13 t)
    ∗ owns (c : Thread nD τ) (ms_14 t) fullShare ((dats m c).after 14 t)
    ∗ owns (c : Thread nD τ) (ms_15 t) fullShare ((dats m c).after 15 t)
    ∗ owns (c : Thread nD τ) (ms_16 t) fullShare ((dats m c).after 16 t)
    ∗ owns (c : Thread nD τ) (ms_17 t) fullShare ((dats m c).after 17 t)
    ∗ owns (c : Thread nD τ) (ms_18 t) fullShare ((dats m c).after 18 t)
    ∗ owns (c : Thread nD τ) (ms_19 t) fullShare ((dats m c).after 19 t)
    ∗ owns (c : Thread nD τ) (ms_20 t) fullShare ((dats m c).after 20 t)
    ∗ owns (c : Thread nD τ) (ms_21 t) fullShare ((dats m c).after 21 t)
    ∗ owns (c : Thread nD τ) (ms_22 t) fullShare ((dats m c).after 22 t)
    ∗ owns (c : Thread nD τ) (ms_23 t) fullShare ((dats m c).after 23 t))

set_option maxHeartbeats 1600000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11]
  rw [show (dats m c).Φ t.succ = (dats m c).Φ t.castSucc from rfl,
    show (dats m c).owesAt () t.succ = (dats m c).owesAt () t.castSucc from rfl,
    after_0, after_1, after_2, after_3, after_4, after_5, after_6, after_7, after_8, after_9, after_10, after_11, after_12, after_13, after_14, after_15, after_16, after_19, after_20, after_21, after_22, after_23]
  rw [show (dats m c).Φ t.castSucc = Pipeline.ΦA spec0 c from rfl, scoped_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (body_run c (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((dats m c).before 12 t d12) ((dats m c).before 13 t d13) ((dats m c).before 14 t d14) ((dats m c).before 15 t d15) ((dats m c).before 16 t d16) ((dats m c).before 17 t d17) ((dats m c).before 18 t d18) ((dats m c).before 19 t d19) ((dats m c).before 20 t d20) ((dats m c).before 21 t d21) ((dats m c).before 22 t d22) ((dats m c).before 23 t d23) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS0]; · iexact HS0
  isplitl [HS1]; · iexact HS1
  iintro ⟨H0, H1, H2, H3, H4, H5, H6, H7, H8, H9, H10, H11, H12, H13, H14, H15, H16, H17, H18, H19, H20, H21, H22, H23, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]
  · rw [← left_17 m c t d17]; iexact H17
  isplitl [H18]
  · rw [← left_18 m c t d18]; iexact H18
  isplitl [H19]; · iexact H19
  isplitl [H20]; · iexact H20
  isplitl [H21]; · iexact H21
  isplitl [H22]; · iexact H22
  iexact H23

/-- The body table's row at point `t`. -/
theorem row_at (t : Fin cfg0.N) : defs₀ (F := F) .tc cfg0.body (cfg0.bodyArgs t (cfg0.slots t)) = bodyAt0 t := by
  unfold defs₀; rw [Defs.onTc_tc]

theorem obligation (c : Dev nD) :
    Pipeline.BodyObligationRel (dats (F := F) m c) (defs₀ (F := F)) Variants.none () Set.univ late (held c) := fun t => by
  rw [bigSep_W0, bigSep_W0, row_at]
  exact triple_restated (body_at m c t) rfl .rfl fun _ => .rfl

set_option backward.isDefEq.respectTransparency.types false in
/-- The launch: the arrays end at contents the data allow, and every semaphore at zero. -/
theorem run : θ_run defs (onTc (τ := τ) (main (F := F))) (s₀ m ρ)
    (fun r => Pipeline.RDat.FramePost (cfgs 0) (fun c => (dats m c).toRRel late (held c)) (V m) r ∧ r.2.sem = fun _ => 0) :=
  Pipeline.RDat.θ_run_frame (Q' := _) cfgs (0 : Fin 1) launch0 defs₀ Variants.none (fun c => (dats m c).toRRel late (held c)) m ρ main
    (hbody := fun c => (obligation m c).toRRel) (hshare := fun c => (dats m c).share_full fun _ => rfl)
    (howed := fun _ _ => rfl) (V := V m) (hmain := hmain m Variants.none) (hA := A_eq m) (hΦ := fun _ _ => rfl) (hQ' := fun _ h => h)

/-- No argument array is written. -/
theorem args_of {r : PUnit × MemSt nD τ sig (Elt F)}
    (h : Pipeline.RDat.FramePost (cfgs 0) (fun c => (dats m c).toRRel late (held c)) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).2 main_arg0 (Pipeline.mem_restRefs_of main_arg0 (by decide) (by decide))).trans (V_main_arg0 m c),
   ((h c).2 main_arg1 (Pipeline.mem_restRefs_of main_arg1 (by decide) (by decide))).trans (V_main_arg1 m c),
   (Pipeline.RDat.FramePost.arr_in h c 2 rfl).trans ((A_eq m c 2).trans (V_main_arg2 m c)),
   ((h c).2 main_arg3 (Pipeline.mem_restRefs_of main_arg3 (by decide) (by decide))).trans (V_main_arg3 m c),
   (Pipeline.RDat.FramePost.arr_in h c 4 rfl).trans ((A_eq m c 4).trans (V_main_arg4 m c)),
   (Pipeline.RDat.FramePost.arr_in h c 5 rfl).trans ((A_eq m c 5).trans (V_main_arg5 m c)),
   (Pipeline.RDat.FramePost.arr_in h c 6 rfl).trans ((A_eq m c 6).trans (V_main_arg6 m c)),
   ((h c).2 main_arg7 (Pipeline.mem_restRefs_of main_arg7 (by decide) (by decide))).trans (V_main_arg7 m c),
   ((h c).2 main_arg8 (Pipeline.mem_restRefs_of main_arg8 (by decide) (by decide))).trans (V_main_arg8 m c),
   ((h c).2 main_arg9 (Pipeline.mem_restRefs_of main_arg9 (by decide) (by decide))).trans (V_main_arg9 m c),
   ((h c).2 main_arg10 (Pipeline.mem_restRefs_of main_arg10 (by decide) (by decide))).trans (V_main_arg10 m c),
   ((h c).2 main_arg11 (Pipeline.mem_restRefs_of main_arg11 (by decide) (by decide))).trans (V_main_arg11 m c)⟩

/-- The frame: the argument arrays end unchanged and every semaphore at zero. -/
theorem frame_run : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0) :=
  (θ_run defs _ _).mono (fun _ h => ⟨fun c => args_of m h.1 c, h.2⟩) (run m ρ)

/-- What the run leaves in the result arrays: the arrays of data whose buffers hold what the body leaves in them. -/
theorem results_of {r : PUnit × MemSt nD τ sig (Elt F)}
    (h : Pipeline.RDat.FramePost (cfgs 0) (fun c => (dats m c).toRRel late (held c)) (V m) r) (c : Dev nD) :
    ∃ dat : Dat τ (Elt F) Unit ℕ (UR sig nD τ) ℕ cfg0 c,
      (∀ (w : Fin cfg0.W) (u : Fin cfg0.N), (cfg0.win w).flush u = true → dat.after w u = (dats m c).after w u)
        ∧ ∀ w, r.2.mem ((cfg0.spec w).arr.view.loc (c.tc : Thread nD τ)) = dat.arrAt w cfg0.N := by
  obtain ⟨after, hL, hA⟩ := Pipeline.RDat.FramePost.exists_exact h c
  refine ⟨_, fun w u hu => ?_, hA⟩
  obtain ⟨Y, hY, hX⟩ := hL w u hu
  rw [(dats m c).toRRel_after_of_eq_false (by rfl)] at hX
  exact hX

end Cert.Kernel2Ideal.Entry

end
-- ==== Proof.Layer.Entry.lean ====
module

public import proofs.«01_k».proof.Proof.Layer.Rows

@[expose] public section

/-!
# What the first stage of the layer computes for one token

The first feed-forward layer and the in-projection of a token's row, and the rows of the stacked tokens:
4096 context tokens in 16 groups of 256, then 8192 latent tokens in 8 groups of 1024.
-/

set_option maxRecDepth 16384

noncomputable section

open Idealize.ShloMosaic

namespace Cert.Layer

/-- The scale of the queries, one eighth, as a constant of the programs. -/
abbrev eighth : EReal := Ideal.ofBits .f32 0x3E000000#32

/-- A row after the first feed-forward layer. The modulation row holds nine vectors; the shift, the scale
and the gate of this layer are the first three. -/
def firstStage (v : Fin 1024 → EReal) (mods : Fin 9216 → EReal) (g : Fin 1024 → EReal) (wIn : Fin 1024 → Fin 5632 → EReal)
    (wOut : Fin 2816 → Fin 1024 → EReal) : Fin 1024 → EReal :=
  ffn v g (fun k => mods ⟨1024 + k.val, by omega⟩) (fun k => mods ⟨k.val, by omega⟩) (fun k => mods ⟨2048 + k.val, by omega⟩) wIn wOut

/-- The in-projection of a row: normalised, modulated by the fourth and fifth vectors, times the weights. -/
def inProj (v : Fin 1024 → EReal) (mods : Fin 9216 → EReal) (g : Fin 1024 → EReal) (w : Fin 1024 → Fin 5632 → EReal) : Fin 5632 → EReal :=
  rowDot (modulated v g (fun k => mods ⟨4096 + k.val, by omega⟩) (fun k => mods ⟨3072 + k.val, by omega⟩)) w

/-- The queries, keys and values of a projected row: the queries scaled, the others as they are. -/
def scaledQkv (p : Fin 5632 → EReal) (j : Fin 1536) : EReal :=
  if j.val < 512 then p ⟨j.val, by omega⟩ * eighth else p ⟨j.val, by omega⟩

/-- Row `R` of the stacked tokens. -/
def tokenRow (ctx : Fin 16 → Fin 256 → Fin 1024 → EReal) (lat : Fin 8 → Fin 1024 → Fin 1024 → EReal) (R : Fin 12288) : Fin 1024 → EReal :=
  if h : R.val < 4096 then ctx ⟨R.val / 256, by omega⟩ ⟨R.val % 256, by omega⟩
  else lat ⟨(R.val - 4096) / 1024, by omega⟩ ⟨(R.val - 4096) % 1024, by omega⟩

/-- The modulation row of the stacked token `R`: the first for the context tokens, one per group of 1024
for the latent tokens. -/
def modsIdx (R : Fin 12288) : Fin 16 :=
  if h : R.val < 4096 then 0 else ⟨1 + (R.val - 4096) / 1024, by omega⟩

/-- Row `R` of the stacked tokens after the first feed-forward layer. -/
def resOut (ctx : Fin 16 → Fin 256 → Fin 1024 → EReal) (lat : Fin 8 → Fin 1024 → Fin 1024 → EReal) (mods : Fin 16 → Fin 9216 → EReal)
    (norm : Fin 3 → Fin 1024 → EReal) (wIn : Fin 1024 → Fin 5632 → EReal) (wOut : Fin 2816 → Fin 1024 → EReal) (R : Fin 12288) : Fin 1024 → EReal :=
  firstStage (tokenRow ctx lat R) (mods (modsIdx R)) (norm 0) wIn wOut

/-- Row `R` of the in-projection of the stacked tokens. -/
def projOut (ctx : Fin 16 → Fin 256 → Fin 1024 → EReal) (lat : Fin 8 → Fin 1024 → Fin 1024 → EReal) (mods : Fin 16 → Fin 9216 → EReal)
    (norm : Fin 3 → Fin 1024 → EReal) (wIn : Fin 1024 → Fin 5632 → EReal) (wOut : Fin 2816 → Fin 1024 → EReal)
    (wProj : Fin 1024 → Fin 5632 → EReal) (R : Fin 12288) : Fin 5632 → EReal :=
  inProj (resOut ctx lat mods norm wIn wOut R) (mods (modsIdx R)) (norm 1) wProj

/-- The stacked token of a context token. -/
def ctxPos (b : Fin 16) (s : Fin 256) : Fin 12288 := ⟨b.val * 256 + s.val, by omega⟩

/-- The stacked token of a latent token. -/
def latPos (b : Fin 8) (s : Fin 1024) : Fin 12288 := ⟨4096 + (b.val * 1024 + s.val), by omega⟩

theorem tokenRow_ctx (ctx : Fin 16 → Fin 256 → Fin 1024 → EReal) (lat : Fin 8 → Fin 1024 → Fin 1024 → EReal) (b : Fin 16) (s : Fin 256) :
    tokenRow ctx lat (ctxPos b s) = ctx b s := by
  have h : (ctxPos b s).val < 256 * 16 := by show b.val * 256 + s.val < 256 * 16; omega
  have eb : (⟨(ctxPos b s).val / 256, Nat.div_lt_of_lt_mul h⟩ : Fin 16) = b := Fin.ext (by show (b.val * 256 + s.val) / 256 = b.val; omega)
  have es : (⟨(ctxPos b s).val % 256, by omega⟩ : Fin 256) = s := Fin.ext (by show (b.val * 256 + s.val) % 256 = s.val; omega)
  exact (dif_pos h).trans (congrArg₂ ctx eb es)

theorem tokenRow_lat (ctx : Fin 16 → Fin 256 → Fin 1024 → EReal) (lat : Fin 8 → Fin 1024 → Fin 1024 → EReal) (b : Fin 8) (s : Fin 1024) :
    tokenRow ctx lat (latPos b s) = lat b s := by
  have h : ¬ (latPos b s).val < 4096 := Nat.not_lt.mpr (Nat.le_add_right _ _)
  have eb : (⟨((latPos b s).val - 4096) / 1024, by omega⟩ : Fin 8) = b :=
    Fin.ext (by show (4096 + (b.val * 1024 + s.val) - 4096) / 1024 = b.val; omega)
  have es : (⟨((latPos b s).val - 4096) % 1024, by omega⟩ : Fin 1024) = s :=
    Fin.ext (by show (4096 + (b.val * 1024 + s.val) - 4096) % 1024 = s.val; omega)
  exact (dif_neg h).trans (congrArg₂ lat eb es)

theorem modsIdx_ctx (b : Fin 16) (s : Fin 256) : modsIdx (ctxPos b s) = 0 := by
  have h : (ctxPos b s).val < 4096 := by show b.val * 256 + s.val < 4096; omega
  exact dif_pos h

theorem modsIdx_lat (b : Fin 8) (s : Fin 1024) : modsIdx (latPos b s) = ⟨1 + b.val, by omega⟩ := by
  have h : ¬ (latPos b s).val < 4096 := Nat.not_lt.mpr (Nat.le_add_right _ _)
  exact (dif_neg h).trans (Fin.ext (by show 1 + (4096 + (b.val * 1024 + s.val) - 4096) / 1024 = 1 + b.val; omega))

/-- Every stacked token is a context token or a latent token. -/
theorem pos_cases (R : Fin 12288) : (∃ b s, R = ctxPos b s) ∨ ∃ b s, R = latPos b s := by
  by_cases h : R.val < 4096
  · refine .inl ⟨⟨R.val / 256, by omega⟩, ⟨R.val % 256, by omega⟩, Fin.ext ?_⟩
    show R.val = R.val / 256 * 256 + R.val % 256
    omega
  · refine .inr ⟨⟨(R.val - 4096) / 1024, by omega⟩, ⟨(R.val - 4096) % 1024, by omega⟩, Fin.ext ?_⟩
    show R.val = 4096 + ((R.val - 4096) / 1024 * 1024 + (R.val - 4096) % 1024)
    omega

end Cert.Layer

end
-- ==== Proof.Entry.BlockValue.lean ====
module

public import proofs.«01_k».proof.Proof.Entry.Block
public import proofs.«01_k».proof.Proof.Layer.Entry
public import Idealize.ShloMosaic.Lib.Pointwise
public import Idealize.ShloMosaic.Lib.Pipeline.ValueKit

@[expose] public section

/-!
# One block of the entry kernel, row by row

Over the extended reals, row `r` of each block that the body computes is the layer's function of row `r`
of each operand's block.
-/

set_option maxRecDepth 16384

noncomputable section

namespace Cert.Kernel2Ideal.Entry

open Cert.Kernel2Ideal Cert.Kernel2Ideal.Gen Cert.Layer
open Idealize.ShloMosaic Idealize.ShloMosaic.TcCoe Idealize.ShloMosaic.Tactic
open Idealize.SL.Sem

/-! ## The hidden layer -/

theorem chunk0_at (xn : Vec Ideal S256x1024 .bf16) (w : Vec Ideal S1024x5632 .bf16) (r : Fin 256) (j : Fin 256) :
    chunk0 (F := Ideal) xn w (ix2 r j)
      = gatedRow (fun k => xn (ix2 r k)) (fun x l => w (ix2 x l)) ⟨0 + j.val, by omega⟩ := by
  unfold gatedRow
  rw [← tanh_form]
  unfold rowDot half
  simp only [← Nat.add_assoc, Nat.reduceAdd]
  pointwise [chunk0, k0_pay16]

theorem chunk1_at (xn : Vec Ideal S256x1024 .bf16) (w : Vec Ideal S1024x5632 .bf16) (r : Fin 256) (j : Fin 256) :
    chunk1 (F := Ideal) xn w (ix2 r j)
      = gatedRow (fun k => xn (ix2 r k)) (fun x l => w (ix2 x l)) ⟨256 + j.val, by omega⟩ := by
  unfold gatedRow
  rw [← tanh_form]
  unfold rowDot half
  simp only [← Nat.add_assoc, Nat.reduceAdd]
  pointwise [chunk1, k0_pay17, k0_pay18, k0_pay19, k0_pay20]

theorem chunk2_at (xn : Vec Ideal S256x1024 .bf16) (w : Vec Ideal S1024x5632 .bf16) (r : Fin 256) (j : Fin 256) :
    chunk2 (F := Ideal) xn w (ix2 r j)
      = gatedRow (fun k => xn (ix2 r k)) (fun x l => w (ix2 x l)) ⟨512 + j.val, by omega⟩ := by
  unfold gatedRow
  rw [← tanh_form]
  unfold rowDot half
  simp only [← Nat.add_assoc, Nat.reduceAdd]
  pointwise [chunk2, k0_pay21]

theorem chunk3_at (xn : Vec Ideal S256x1024 .bf16) (w : Vec Ideal S1024x5632 .bf16) (r : Fin 256) (j : Fin 256) :
    chunk3 (F := Ideal) xn w (ix2 r j)
      = gatedRow (fun k => xn (ix2 r k)) (fun x l => w (ix2 x l)) ⟨768 + j.val, by omega⟩ := by
  unfold gatedRow
  rw [← tanh_form]
  unfold rowDot half
  simp only [← Nat.add_assoc, Nat.reduceAdd]
  pointwise [chunk3, k0_pay22, k0_pay23, k0_pay24, k0_pay25]

theorem chunk4_at (xn : Vec Ideal S256x1024 .bf16) (w : Vec Ideal S1024x5632 .bf16) (r : Fin 256) (j : Fin 256) :
    chunk4 (F := Ideal) xn w (ix2 r j)
      = gatedRow (fun k => xn (ix2 r k)) (fun x l => w (ix2 x l)) ⟨1024 + j.val, by omega⟩ := by
  unfold gatedRow
  rw [← tanh_form]
  unfold rowDot half
  simp only [← Nat.add_assoc, Nat.reduceAdd]
  pointwise [chunk4, k0_pay26]

theorem chunk5_at (xn : Vec Ideal S256x1024 .bf16) (w : Vec Ideal S1024x5632 .bf16) (r : Fin 256) (j : Fin 256) :
    chunk5 (F := Ideal) xn w (ix2 r j)
      = gatedRow (fun k => xn (ix2 r k)) (fun x l => w (ix2 x l)) ⟨1280 + j.val, by omega⟩ := by
  unfold gatedRow
  rw [← tanh_form]
  unfold rowDot half
  simp only [← Nat.add_assoc, Nat.reduceAdd]
  pointwise [chunk5, k0_pay27, k0_pay28, k0_pay29, k0_pay30]

theorem chunk6_at (xn : Vec Ideal S256x1024 .bf16) (w : Vec Ideal S1024x5632 .bf16) (r : Fin 256) (j : Fin 256) :
    chunk6 (F := Ideal) xn w (ix2 r j)
      = gatedRow (fun k => xn (ix2 r k)) (fun x l => w (ix2 x l)) ⟨1536 + j.val, by omega⟩ := by
  unfold gatedRow
  rw [← tanh_form]
  unfold rowDot half
  simp only [← Nat.add_assoc, Nat.reduceAdd]
  pointwise [chunk6, k0_pay31]

theorem chunk7_at (xn : Vec Ideal S256x1024 .bf16) (w : Vec Ideal S1024x5632 .bf16) (r : Fin 256) (j : Fin 256) :
    chunk7 (F := Ideal) xn w (ix2 r j)
      = gatedRow (fun k => xn (ix2 r k)) (fun x l => w (ix2 x l)) ⟨1792 + j.val, by omega⟩ := by
  unfold gatedRow
  rw [← tanh_form]
  unfold rowDot half
  simp only [← Nat.add_assoc, Nat.reduceAdd]
  pointwise [chunk7, k0_pay32, k0_pay33, k0_pay34, k0_pay35, k0_pay36]

theorem chunk8_at (xn : Vec Ideal S256x1024 .bf16) (w : Vec Ideal S1024x5632 .bf16) (r : Fin 256) (j : Fin 256) :
    chunk8 (F := Ideal) xn w (ix2 r j)
      = gatedRow (fun k => xn (ix2 r k)) (fun x l => w (ix2 x l)) ⟨2048 + j.val, by omega⟩ := by
  unfold gatedRow
  rw [← tanh_form]
  unfold rowDot half
  simp only [← Nat.add_assoc, Nat.reduceAdd]
  pointwise [chunk8, k0_pay37]

theorem chunk9_at (xn : Vec Ideal S256x1024 .bf16) (w : Vec Ideal S1024x5632 .bf16) (r : Fin 256) (j : Fin 256) :
    chunk9 (F := Ideal) xn w (ix2 r j)
      = gatedRow (fun k => xn (ix2 r k)) (fun x l => w (ix2 x l)) ⟨2304 + j.val, by omega⟩ := by
  unfold gatedRow
  rw [← tanh_form]
  unfold rowDot half
  simp only [← Nat.add_assoc, Nat.reduceAdd]
  pointwise [chunk9, k0_pay38, k0_pay39, k0_pay40]

theorem chunk10_at (xn : Vec Ideal S256x1024 .bf16) (w : Vec Ideal S1024x5632 .bf16) (r : Fin 256) (j : Fin 256) :
    chunk10 (F := Ideal) xn w (ix2 r j)
      = gatedRow (fun k => xn (ix2 r k)) (fun x l => w (ix2 x l)) ⟨2560 + j.val, by omega⟩ := by
  unfold gatedRow
  rw [← tanh_form]
  unfold rowDot half
  simp only [← Nat.add_assoc, Nat.reduceAdd]
  pointwise [chunk10, k0_pay41]

/-- A function given by its values on one chunk of columns, read at an index of that chunk. -/
theorem chunk_col {C : FVec Ideal S256x256 .bf16} {f : Fin 256 → Fin 2816 → EReal} {o : ℕ} {ho : ∀ j : Fin 256, o + j.val < 2816}
    (hC : ∀ (r : Fin 256) (j : Fin 256), C (ix2 r j) = f r ⟨o + j.val, ho j⟩) (x : S256x256.Idx) {r : Fin 256} {l : Fin 2816}
    (h0 : r.val = (x 0).val) (h1 : l.val = o + (x 1).val) : C x = f r l := by
  obtain rfl : r = x 0 := Fin.ext h0
  obtain rfl : l = ⟨o + (x 1).val, ho (x 1)⟩ := Fin.ext h1
  refine Eq.trans (congrArg C ?_) (hC (x 0) (x 1))
  exact eq_ix2 x

/-- The hidden layer of the block, at a row and a column. -/
theorem hid_at (xn : Vec Ideal S256x1024 .bf16) (w : Vec Ideal S1024x5632 .bf16) (r : Fin 256) (l : Fin 2816) :
    hid (F := Ideal) xn w (ix2 r l) = gatedRow (fun k => xn (ix2 r k)) (fun x l => w (ix2 x l)) l := by
  unfold hid hidPieces
  canon_tiles x h
  · exact chunk_col (f := fun r l => gatedRow (fun k => xn (ix2 r k)) (fun x l => w (ix2 x l)) l) (chunk10_at xn w) x h0 h1
  · exact chunk_col (f := fun r l => gatedRow (fun k => xn (ix2 r k)) (fun x l => w (ix2 x l)) l) (chunk9_at xn w) x h0 h1
  · exact chunk_col (f := fun r l => gatedRow (fun k => xn (ix2 r k)) (fun x l => w (ix2 x l)) l) (chunk8_at xn w) x h0 h1
  · exact chunk_col (f := fun r l => gatedRow (fun k => xn (ix2 r k)) (fun x l => w (ix2 x l)) l) (chunk7_at xn w) x h0 h1
  · exact chunk_col (f := fun r l => gatedRow (fun k => xn (ix2 r k)) (fun x l => w (ix2 x l)) l) (chunk6_at xn w) x h0 h1
  · exact chunk_col (f := fun r l => gatedRow (fun k => xn (ix2 r k)) (fun x l => w (ix2 x l)) l) (chunk5_at xn w) x h0 h1
  · exact chunk_col (f := fun r l => gatedRow (fun k => xn (ix2 r k)) (fun x l => w (ix2 x l)) l) (chunk4_at xn w) x h0 h1
  · exact chunk_col (f := fun r l => gatedRow (fun k => xn (ix2 r k)) (fun x l => w (ix2 x l)) l) (chunk3_at xn w) x h0 h1
  · exact chunk_col (f := fun r l => gatedRow (fun k => xn (ix2 r k)) (fun x l => w (ix2 x l)) l) (chunk2_at xn w) x h0 h1
  · exact chunk_col (f := fun r l => gatedRow (fun k => xn (ix2 r k)) (fun x l => w (ix2 x l)) l) (chunk1_at xn w) x h0 h1
  · exact chunk_col (f := fun r l => gatedRow (fun k => xn (ix2 r k)) (fun x l => w (ix2 x l)) l) (chunk0_at xn w) x h0 (h1.trans (Nat.zero_add _).symm)

/-! ## The normalised row -/

/-- Choosing one of two blocks by the grid coordinate. -/
theorem select_at (i : grid0.Coords) (a b : EReal) :
    Scalar.select (Scalar.cmpi .slt (BitVec.ofNat 32 (i 0).val) 16#32) a b = if (i 0).val < 16 then a else b := by
  have h : Scalar.cmpi .slt (BitVec.ofNat 32 (i 0).val) 16#32 = if (i 0).val < 16 then 1#1 else 0#1 := by
    revert i; decide +kernel
  rw [h]
  by_cases h : (i 0).val < 16 <;> simp [h, Scalar.select]

/-- Row `r` of the block that the point works on. -/
def inRow (i : grid0.Coords) (x0 x1 : Vec Ideal S256x1024 .f32) (r : Fin 256) : Fin 1024 → EReal :=
  fun k => if (i 0).val < 16 then x0 (ix2 r k) else x1 (ix2 r k)

theorem in_at (i : grid0.Coords) (x0 x1 : Vec Ideal S256x1024 .f32) (r : Fin 256) (j : Fin 1024) :
    k0_pay6 (F := Ideal) i x0 x1 (ix2 r j) = inRow i x0 x1 r j := by
  unfold inRow
  rw [← select_at]
  pointwise [k0_pay6]

/-- The modulation row, as a function of the column. -/
def modFn (i : grid0.Coords) (x2 : Vec Ideal S16x9216 .f32) : Fin 9216 → EReal := fun k => modRow (F := Ideal) i x2 (ix2 0 k)

/-- The operand of the feed-forward layer, at a row and a column. -/
theorem normBlk_at (i : grid0.Coords) (x0 x1 : Vec Ideal S256x1024 .f32) (x2 : Vec Ideal S16x9216 .f32) (x3 : Vec Ideal S3x1024 .f32) (r : Fin 256) (j : Fin 1024) :
    normBlk (F := Ideal) i x0 x1 x2 x3 (ix2 r j)
      = modulated (inRow i x0 x1 r) (fun k => x3 (ix2 0 k)) (fun k => modFn i x2 ⟨1024 + k.val, by omega⟩)
          (fun k => modFn i x2 ⟨k.val, by omega⟩) j := by
  unfold modulated rms meanSq modFn
  simp only [← in_at]
  pointwise [normBlk, k0_pay14, k0_pay12, k0_pay13, k0_pay7, k0_pay8, normRow0]

/-! ## The row after the feed-forward layer -/

/-- Row `r` of the block after the feed-forward layer. -/
def resRow (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (r : Fin 256) : Fin 1024 → EReal :=
  firstStage (inRow i x0 x1 r) (modFn i x2) (fun k => x3 (ix2 0 k)) (fun x l => x4 (ix2 x l)) (fun x l => x5 (ix2 x l))

theorem resBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (r : Fin 256) (j : Fin 1024) :
    resBlk (F := Ideal) i x0 x1 x2 x3 x4 x5 (ix2 r j) = resRow i x0 x1 x2 x3 x4 x5 r j := by
  unfold resRow firstStage ffn
  rw [← in_at]
  have e : rowDot (gatedRow (modulated (inRow i x0 x1 r) (fun k => x3 (ix2 0 k)) (fun k => modFn i x2 ⟨1024 + k.val, by omega⟩)
      (fun k => modFn i x2 ⟨k.val, by omega⟩)) (fun x l => x4 (ix2 x l))) (fun x l => x5 (ix2 x l)) j
      = ∑ l : Fin 2816, hid (F := Ideal) (normBlk i x0 x1 x2 x3) x4 (ix2 r l) * x5 (ix2 l j) := by
    refine Finset.sum_congr rfl fun l _ => congrArg (· * _) ?_
    rw [hid_at]
    exact congrArg (fun h => gatedRow h _ l) (funext fun k => (normBlk_at i x0 x1 x2 x3 r k).symm)
  rw [e]
  unfold half modFn
  pointwise [resBlk, k0_pay42, k0_pay15, k0_pay9]

theorem meanBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (r : Fin 256) :
    meanBlk (F := Ideal) i x0 x1 x2 x3 x4 x5 (ix2 r 0) = Finset.sum Finset.univ fun k => resRow i x0 x1 x2 x3 x4 x5 r k * resRow i x0 x1 x2 x3 x4 x5 r k := by
  simp only [← resBlk_at]
  unfold resBlk
  pointwise [meanBlk, k0_pay44]

/-! ## The in-projection -/

/-- The operand of the in-projection, at a row and a column. -/
theorem projBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (r : Fin 256) (j : Fin 1024) :
    projBlk (F := Ideal) i x0 x1 x2 x3 x4 x5 (ix2 r j)
      = modulated (resRow i x0 x1 x2 x3 x4 x5 r) (fun k => x3 (ix2 1 k)) (fun k => modFn i x2 ⟨4096 + k.val, by omega⟩)
          (fun k => modFn i x2 ⟨3072 + k.val, by omega⟩) j := by
  unfold modulated rms meanSq modFn
  rw [← meanBlk_at, ← resBlk_at]
  pointwise [projBlk, k0_pay45, k0_pay43, k0_pay10, k0_pay11, normRow1]

/-- Row `r` of the block's in-projection. -/
def projRow (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) : Fin 5632 → EReal :=
  inProj (resRow i x0 x1 x2 x3 x4 x5 r) (modFn i x2) (fun k => x3 (ix2 1 k)) (fun x l => x6 (ix2 x l))

theorem proj_dot (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (l : Fin 5632) :
    ∑ x : Fin 1024, projBlk (F := Ideal) i x0 x1 x2 x3 x4 x5 (ix2 r x) * x6 (ix2 x l) = projRow i x0 x1 x2 x3 x4 x5 x6 r l := by
  unfold projRow inProj rowDot
  simp only [projBlk_at]

theorem qkvBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (j : Fin 1536) :
    qkvBlk (F := Ideal) i x0 x1 x2 x3 x4 x5 x6 (ix2 r j) = projRow i x0 x1 x2 x3 x4 x5 x6 r ⟨j.val, by omega⟩ := by
  rw [← proj_dot]
  unfold projBlk
  pointwise [qkvBlk, k0_pay46, wQkv]

theorem xlBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (j : Fin 1024) :
    xlBlk (F := Ideal) i x0 x1 x2 x3 x4 x5 x6 (ix2 r j) = projRow i x0 x1 x2 x3 x4 x5 x6 r ⟨1536 + j.val, by omega⟩ := by
  rw [← proj_dot]
  pointwise [xlBlk, k0_pay55]

theorem glBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (j : Fin 1024) :
    glBlk (F := Ideal) i x0 x1 x2 x3 x4 x5 x6 (ix2 r j) = projRow i x0 x1 x2 x3 x4 x5 x6 r ⟨2560 + j.val, by omega⟩ := by
  rw [← proj_dot]
  pointwise [glBlk, k0_pay56]

theorem gatesBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (j : Fin 2048) :
    gatesBlk (F := Ideal) i x0 x1 x2 x3 x4 x5 x6 (ix2 r j) = projRow i x0 x1 x2 x3 x4 x5 x6 r ⟨3584 + j.val, by omega⟩ := by
  rw [← proj_dot]
  pointwise [gatesBlk, k0_pay57]

/-- The columns of the keys and values. -/
theorem pair_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (k : Fin 1024) :
    k0_pay48 (F := Ideal) (k0_pay10 (modRow i x2)) (k0_pay11 (modRow i x2)) (resBlk i x0 x1 x2 x3 x4 x5) (k0_pay43 (normRow1 x3)) (meanBlk i x0 x1 x2 x3 x4 x5) (wQkv x6) (ix2 r k)
      = projRow i x0 x1 x2 x3 x4 x5 x6 r ⟨512 + k.val, by omega⟩ := by
  refine Eq.trans ?_ (qkvBlk_at i x0 x1 x2 x3 x4 x5 x6 r ⟨512 + k.val, by omega⟩)
  unfold qkvBlk
  pointwise [k0_pay48]

/-- The columns of the queries. -/
theorem query_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (k : Fin 512) :
    k0_pay47 (F := Ideal) (k0_pay10 (modRow i x2)) (k0_pay11 (modRow i x2)) (resBlk i x0 x1 x2 x3 x4 x5) (k0_pay43 (normRow1 x3)) (meanBlk i x0 x1 x2 x3 x4 x5) (wQkv x6) (ix2 r k)
      = projRow i x0 x1 x2 x3 x4 x5 x6 r ⟨k.val, by omega⟩ * eighth := by
  refine Eq.trans ?_ (congrArg (· * eighth) (qkvBlk_at i x0 x1 x2 x3 x4 x5 x6 r ⟨k.val, by omega⟩))
  unfold qkvBlk eighth
  pointwise [k0_pay47]

/-- The queries, keys and values, at a row and a column: the queries scaled. -/
theorem qkvOut_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (r : Fin 256) (j : Fin 1536) :
    qkvOut (F := Ideal) i x0 x1 x2 x3 x4 x5 x6 (ix2 r j) = scaledQkv (projRow i x0 x1 x2 x3 x4 x5 x6 r) j := by
  unfold qkvOut scaledQkv
  canon_tiles x h using qkv_covers _ _ _
  · obtain rfl : r = x 0 := Fin.ext h0
    have hj : j.val = 512 + (x 1).val := h1
    rw [if_neg (by omega)]
    exact (congrArg _ (eq_ix2 x)).trans ((pair_at i x0 x1 x2 x3 x4 x5 x6 (x 0) (x 1)).trans
      (congrArg (projRow i x0 x1 x2 x3 x4 x5 x6 (x 0)) (Fin.ext hj.symm)))
  · obtain rfl : r = x 0 := Fin.ext h0
    have hj : j.val = (x 1).val := h1
    rw [if_pos (lt_of_eq_of_lt hj x1_lt)]
    exact (congrArg _ (eq_ix2 x)).trans ((query_at i x0 x1 x2 x3 x4 x5 x6 (x 0) (x 1)).trans
      (congrArg (fun l => projRow i x0 x1 x2 x3 x4 x5 x6 (x 0) l * eighth) (Fin.ext hj.symm)))

/-! ## The caches -/

/-- The values, a head at a time. -/
theorem heads_val (q : FVec Ideal S256x1536 .f32) (h : Fin 8) (s : Fin 256) (d : Fin 64) :
    k0_pay53 (F := Ideal) q (ix5 0 0 h s d) = q (ix2 s ⟨1024 + (h.val * 64 + d.val), by omega⟩) := by
  match h with

  | 0 => pointwise [k0_pay53]
  | 1 => pointwise [k0_pay53]; simp only [← Nat.add_assoc, Nat.reduceAdd]
  | 2 => pointwise [k0_pay53]; simp only [← Nat.add_assoc, Nat.reduceAdd]
  | 3 => pointwise [k0_pay53]; simp only [← Nat.add_assoc, Nat.reduceAdd]
  | 4 => pointwise [k0_pay53]; simp only [← Nat.add_assoc, Nat.reduceAdd]
  | 5 => pointwise [k0_pay53]; simp only [← Nat.add_assoc, Nat.reduceAdd]
  | 6 => pointwise [k0_pay53]; simp only [← Nat.add_assoc, Nat.reduceAdd]
  | 7 => pointwise [k0_pay53]; simp only [← Nat.add_assoc, Nat.reduceAdd]

theorem valBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (h : Fin 8) (s : Fin 256) (d : Fin 64) :
    valBlk (F := Ideal) i x0 x1 x2 x3 x4 x5 x6 (ix5 0 0 h s d)
      = projRow i x0 x1 x2 x3 x4 x5 x6 s ⟨1024 + (h.val * 64 + d.val), by omega⟩ :=
  (heads_val _ h s d).trans (qkvBlk_at i x0 x1 x2 x3 x4 x5 x6 s ⟨1024 + (h.val * 64 + d.val), by omega⟩)

/-- The keys, a head at a time. -/
theorem keyBlk_at (i : grid0.Coords) (x0 x1 : Vec Ideal S256x1024 .f32) (x2 : Vec Ideal S16x9216 .f32) (x3 : Vec Ideal S3x1024 .f32)
    (x4 : Vec Ideal S1024x5632 .bf16) (x5 : Vec Ideal S2816x1024 .bf16) (x6 : Vec Ideal S1024x5632 .bf16) (h : Fin 8) (s : Fin 256) (d : Fin 64) :
    keyBlk (F := Ideal) i x0 x1 x2 x3 x4 x5 x6 (ix5 0 0 h s d)
      = projRow i x0 x1 x2 x3 x4 x5 x6 s ⟨512 + (h.val * 64 + d.val), by omega⟩ := by
  refine Eq.trans ?_ (qkvBlk_at i x0 x1 x2 x3 x4 x5 x6 s ⟨512 + (h.val * 64 + d.val), by omega⟩)
  unfold keyBlk qkvBlk k0_pay51 k0_pay50
  generalize k0_pay46 (F := Ideal) (k0_pay10 (modRow i x2)) (k0_pay11 (modRow i x2)) (resBlk i x0 x1 x2 x3 x4 x5) (k0_pay43 (normRow1 x3))
    (meanBlk i x0 x1 x2 x3 x4 x5) (wQkv x6) = q
  match h with

  | 0 => pointwise
  | 1 => pointwise; simp only [← Nat.add_assoc, Nat.reduceAdd]
  | 2 => pointwise; simp only [← Nat.add_assoc, Nat.reduceAdd]
  | 3 => pointwise; simp only [← Nat.add_assoc, Nat.reduceAdd]
  | 4 => pointwise; simp only [← Nat.add_assoc, Nat.reduceAdd]
  | 5 => pointwise; simp only [← Nat.add_assoc, Nat.reduceAdd]
  | 6 => pointwise; simp only [← Nat.add_assoc, Nat.reduceAdd]
  | 7 => pointwise; simp only [← Nat.add_assoc, Nat.reduceAdd]

end Cert.Kernel2Ideal.Entry

end
-- ==== Proof.Entry.Rows.lean ====
module

public import proofs.«01_k».proof.Proof.Entry.Run
public import proofs.«01_k».proof.Proof.Entry.BlockValue

@[expose] public section

/-!
# The rows of the entry kernel's blocks

Which row of which argument array each row of an operand's block is.

-/

set_option maxRecDepth 16384

noncomputable section

namespace Cert.Kernel2Ideal.Entry

open Cert.Kernel2Ideal Cert.Kernel2Ideal.Gen Cert.Layer
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-! ## Where the blocks lie -/

/-- Every window's block index, at every grid point. -/
theorem idx : ∀ t : Fin cfg0.N,
    win0_0.index t = ![min t.val 15, 0] ∧ win0_1.index t = ![t.val - 16, 0] ∧ win0_2.index t = ![0, 0]
    ∧ win0_3.index t = ![0, 0] ∧ win0_4.index t = ![0, 0] ∧ win0_5.index t = ![0, 0] ∧ win0_6.index t = ![0, 0]
    ∧ win0_7.index t = ![min t.val 31, 0] ∧ win0_8.index t = ![min t.val 31, 0] ∧ win0_9.index t = ![min t.val 31, 0]
    ∧ win0_10.index t = ![min t.val 31, 0] ∧ win0_11.index t = ![min t.val 43, 0]
    ∧ win0_12.index t = ![t.val, 0] ∧ win0_13.index t = ![t.val, 0] ∧ win0_14.index t = ![t.val, 0]
    ∧ win0_15.index t = ![t.val, 0] ∧ win0_16.index t = ![t.val, 0]
    ∧ win0_17.index t = ![min t.val 15, 0, 0, 0, 0] ∧ win0_18.index t = ![min t.val 15, 0, 0, 0, 0]
    ∧ win0_19.index t = ![min t.val 31, 0] ∧ win0_20.index t = ![min t.val 31, 0] ∧ win0_21.index t = ![min t.val 31, 0]
    ∧ win0_22.index t = ![min t.val 31, 0] ∧ win0_23.index t = ![min t.val 43, 0] :=
  (by decide +kernel : ∀ t : Fin grid0.N, _)

/-- The row of the modulation array that a grid point reads. -/
theorem mods_idx : ∀ t : Fin cfg0.N,
    k0_off1 (grid0.coords t) 0 = (if t.val < 16 then 0 else 1 + (t.val - 16) / 4) ∧ k0_off1 (grid0.coords t) 1 = 0 :=
  (by decide +kernel : ∀ t : Fin grid0.N, _)

theorem point_lt (t : Fin cfg0.N) : t.val < 48 := lt_of_lt_of_eq t.isLt N_0

/-! ## The reshaped operands -/

theorem entry_5 (c : Dev nD) (R : Fin 4096) (k : Fin 1024) : V m c main_v5 (ix2 R k) = m ((c.tc : Thread nD τ).loc main_arg0) (ix3 ⟨R.val / 256, by omega⟩ ⟨R.val % 256, by omega⟩ k) := by
  entry_read
  pointwise

theorem entry_6 (c : Dev nD) (R : Fin 8192) (k : Fin 1024) : V m c main_v6 (ix2 R k) = m ((c.tc : Thread nD τ).loc main_arg1) (ix3 ⟨R.val / 1024, by omega⟩ ⟨R.val % 1024, by omega⟩ k) := by
  entry_read
  pointwise

theorem entry_7 (c : Dev nD) (q : Fin 3) (k : Fin 1024) : V m c main_v7 (ix2 q k) = m ((c.tc : Thread nD τ).loc main_arg3) (ix3 0 q k) := by
  entry_read
  pointwise

theorem entry_0 (c : Dev nD) (x : Fin 512) (l : Fin 1024) : V m c main_v0 (ix2 x l) = m ((c.tc : Thread nD τ).loc main_arg7) (ix3 0 x l) := by
  entry_read
  pointwise

theorem entry_1 (c : Dev nD) (x : Fin 1024) (l : Fin 1024) : V m c main_v1 (ix2 x l) = m ((c.tc : Thread nD τ).loc main_arg8) (ix3 0 x l) := by
  entry_read
  pointwise

theorem entry_2 (c : Dev nD) (x : Fin 1024) (l : Fin 1024) : V m c main_v2 (ix2 x l) = m ((c.tc : Thread nD τ).loc main_arg9) (ix3 0 x l) := by
  entry_read
  pointwise

theorem entry_3 (c : Dev nD) (x : Fin 1024) (l : Fin 5632) : V m c main_v3 (ix2 x l) = m ((c.tc : Thread nD τ).loc main_arg10) (ix3 0 x l) := by
  entry_read
  pointwise

theorem entry_4 (c : Dev nD) (x : Fin 2816) (l : Fin 1024) : V m c main_v4 (ix2 x l) = m ((c.tc : Thread nD τ).loc main_arg11) (ix3 0 x l) := by
  entry_read
  pointwise

/-! ## The rows of the operands' blocks -/

theorem row_0 (c : Dev nD) (t : Fin cfg0.N) (h : t.val < 16) (r : Fin 256) (k : Fin 1024) :
    iblk m c 0 t (ix2 r k) = V m c main_v5 (ix2 ⟨256 * t.val + r.val, by omega⟩ k) := by
  blk_ext [iblk, idx t]

theorem row_1 (c : Dev nD) (t : Fin cfg0.N) (h : ¬ t.val < 16) (r : Fin 256) (k : Fin 1024) :
    iblk m c 1 t (ix2 r k) = V m c main_v6 (ix2 ⟨256 * t.val + r.val - 4096, by have := point_lt t; omega⟩ k) := by
  blk_ext [iblk, idx t]

theorem row_2 (c : Dev nD) (t : Fin cfg0.N) (q : Fin 16) (hq : q.val = if t.val < 16 then 0 else 1 + (t.val - 16) / 4) (k : Fin 9216) :
    modFn (grid0.coords t) (iblk m c 2 t) k = m ((c.tc : Thread nD τ).loc main_arg2) (ix2 q k) := by
  have e := mods_idx t
  pointwise [modFn, modRow]
  blk_point [iblk, V, idx t, e]

theorem row_3 (c : Dev nD) (t : Fin cfg0.N) (q : Fin 3) (k : Fin 1024) : iblk m c 3 t (ix2 q k) = m ((c.tc : Thread nD τ).loc main_arg3) (ix3 0 q k) := by
  refine Eq.trans (b := V m c main_v7 (ix2 q k)) ?_ (entry_7 m c q k)
  blk_ext [iblk, idx t]

theorem row_4 (c : Dev nD) (t : Fin cfg0.N) (x : Fin 1024) (l : Fin 5632) :
    iblk m c 4 t (ix2 x l) = m ((c.tc : Thread nD τ).loc main_arg4) (ix2 x l) := by
  blk_point [iblk, V, idx t]

theorem row_5 (c : Dev nD) (t : Fin cfg0.N) (x : Fin 2816) (l : Fin 1024) :
    iblk m c 5 t (ix2 x l) = m ((c.tc : Thread nD τ).loc main_arg5) (ix2 x l) := by
  blk_point [iblk, V, idx t]

theorem row_6 (c : Dev nD) (t : Fin cfg0.N) (x : Fin 1024) (l : Fin 5632) :
    iblk m c 6 t (ix2 x l) = m ((c.tc : Thread nD τ).loc main_arg6) (ix2 x l) := by
  blk_point [iblk, V, idx t]

theorem row_7 (c : Dev nD) (t : Fin cfg0.N) (x : Fin 16) (l : Fin 1024) :
    k0_pay1 (F := Ideal) (iblk m c 7 t) (ix2 x l) = m ((c.tc : Thread nD τ).loc main_arg7) (ix3 0 ⟨16 * min t.val 31 + x.val, by omega⟩ l) := by
  refine Eq.trans (b := V m c main_v0 (ix2 ⟨16 * min t.val 31 + x.val, by omega⟩ l)) ?_ (entry_0 m c _ l)
  pointwise [k0_pay1]
  blk_ext [iblk, idx t]

theorem row_8 (c : Dev nD) (t : Fin cfg0.N) (x : Fin 32) (l : Fin 1024) :
    k0_pay2 (F := Ideal) (iblk m c 8 t) (ix2 x l) = m ((c.tc : Thread nD τ).loc main_arg8) (ix3 0 ⟨32 * min t.val 31 + x.val, by omega⟩ l) := by
  refine Eq.trans (b := V m c main_v1 (ix2 ⟨32 * min t.val 31 + x.val, by omega⟩ l)) ?_ (entry_1 m c _ l)
  pointwise [k0_pay2]
  blk_ext [iblk, idx t]

theorem row_9 (c : Dev nD) (t : Fin cfg0.N) (x : Fin 32) (l : Fin 1024) :
    k0_pay3 (F := Ideal) (iblk m c 9 t) (ix2 x l) = m ((c.tc : Thread nD τ).loc main_arg9) (ix3 0 ⟨32 * min t.val 31 + x.val, by omega⟩ l) := by
  refine Eq.trans (b := V m c main_v2 (ix2 ⟨32 * min t.val 31 + x.val, by omega⟩ l)) ?_ (entry_2 m c _ l)
  pointwise [k0_pay3]
  blk_ext [iblk, idx t]

theorem row_10 (c : Dev nD) (t : Fin cfg0.N) (x : Fin 32) (l : Fin 5632) :
    k0_pay4 (F := Ideal) (iblk m c 10 t) (ix2 x l) = m ((c.tc : Thread nD τ).loc main_arg10) (ix3 0 ⟨32 * min t.val 31 + x.val, by omega⟩ l) := by
  refine Eq.trans (b := V m c main_v3 (ix2 ⟨32 * min t.val 31 + x.val, by omega⟩ l)) ?_ (entry_3 m c _ l)
  pointwise [k0_pay4]
  blk_ext [iblk, idx t]

theorem row_11 (c : Dev nD) (t : Fin cfg0.N) (x : Fin 64) (l : Fin 1024) :
    k0_pay5 (F := Ideal) (iblk m c 11 t) (ix2 x l) = m ((c.tc : Thread nD τ).loc main_arg11) (ix3 0 ⟨64 * min t.val 43 + x.val, by omega⟩ l) := by
  refine Eq.trans (b := V m c main_v4 (ix2 ⟨64 * min t.val 43 + x.val, by omega⟩ l)) ?_ (entry_4 m c _ l)
  pointwise [k0_pay5]
  blk_ext [iblk, idx t]

end Cert.Kernel2Ideal.Entry

end
-- ==== Proof.Entry.Result.lean ====
module

public import proofs.«01_k».proof.Proof.Entry.Rows

@[expose] public section

/-!
# The results of the entry kernel

Row `r` of the blocks computed at grid point `t` belongs to the stacked token `256·t + r`. So the result
arrays hold, row by row, the first stage of the layer and its in-projection; the caches hold the keys and
values of the context tokens, a head at a time; and the last five hold the weights of the later stages.

-/

set_option maxRecDepth 16384

noncomputable section

namespace Cert.Kernel2Ideal.Entry

open Cert.Kernel2Ideal Cert.Kernel2Ideal.Gen Cert.Layer
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The stacked token `R` after the first feed-forward layer, of the argument arrays. -/
def tokRes (c : Dev nD) (R : Fin 12288) : Fin 1024 → EReal :=
  resOut (fun b s k => m ((c.tc : Thread nD τ).loc main_arg0) (ix3 b s k)) (fun b s k => m ((c.tc : Thread nD τ).loc main_arg1) (ix3 b s k)) (fun q k => m ((c.tc : Thread nD τ).loc main_arg2) (ix2 q k))
    (fun q k => m ((c.tc : Thread nD τ).loc main_arg3) (ix3 0 q k)) (fun x l => m ((c.tc : Thread nD τ).loc main_arg4) (ix2 x l)) (fun x l => m ((c.tc : Thread nD τ).loc main_arg5) (ix2 x l)) R

/-- The in-projection of the stacked token `R`, of the argument arrays. -/
def tokProj (c : Dev nD) (R : Fin 12288) : Fin 5632 → EReal :=
  projOut (fun b s k => m ((c.tc : Thread nD τ).loc main_arg0) (ix3 b s k)) (fun b s k => m ((c.tc : Thread nD τ).loc main_arg1) (ix3 b s k)) (fun q k => m ((c.tc : Thread nD τ).loc main_arg2) (ix2 q k))
    (fun q k => m ((c.tc : Thread nD τ).loc main_arg3) (ix3 0 q k)) (fun x l => m ((c.tc : Thread nD τ).loc main_arg4) (ix2 x l)) (fun x l => m ((c.tc : Thread nD τ).loc main_arg5) (ix2 x l)) (fun x l => m ((c.tc : Thread nD τ).loc main_arg6) (ix2 x l)) R

/-- The stacked token of row `r` of the block of point `t`. -/
def tok (t : Fin cfg0.N) (r : Fin 256) : Fin 12288 := ⟨256 * t.val + r.val, by have := point_lt t; omega⟩

/-! ## The rows of a block, of the argument arrays -/

theorem inRow_tok (c : Dev nD) (t : Fin cfg0.N) (r : Fin 256) :
    inRow (grid0.coords t) (iblk m c 0 t) (iblk m c 1 t) r = tokenRow (fun b s k => m ((c.tc : Thread nD τ).loc main_arg0) (ix3 b s k)) (fun b s k => m ((c.tc : Thread nD τ).loc main_arg1) (ix3 b s k)) (tok t r) := by
  funext k
  unfold inRow
  by_cases h : t.val < 16
  · have hR : (tok t r).val < 4096 := by show 256 * t.val + r.val < 4096; omega
    rw [if_pos (by rw [coords_val]; exact h), row_0 m c t h r k, entry_5]
    unfold tokenRow
    rw [dif_pos hR]
    rfl
  · have hR : ¬ (tok t r).val < 4096 := by show ¬ 256 * t.val + r.val < 4096; omega
    rw [if_neg (by rw [coords_val]; exact h), row_1 m c t h r k, entry_6]
    unfold tokenRow
    rw [dif_neg hR]
    rfl

theorem modFn_tok (c : Dev nD) (t : Fin cfg0.N) (r : Fin 256) :
    modFn (grid0.coords t) (iblk m c 2 t) = fun k => m ((c.tc : Thread nD τ).loc main_arg2) (ix2 (modsIdx (tok t r)) k) := by
  funext k
  refine row_2 m c t (modsIdx (tok t r)) ?_ k
  unfold modsIdx
  by_cases h : t.val < 16
  · have hR : (tok t r).val < 4096 := by show 256 * t.val + r.val < 4096; omega
    rw [dif_pos hR, if_pos h]
    rfl
  · have hR : ¬ (tok t r).val < 4096 := by show ¬ 256 * t.val + r.val < 4096; omega
    rw [dif_neg hR, if_neg h]
    show 1 + (256 * t.val + r.val - 4096) / 1024 = 1 + (t.val - 16) / 4
    omega

theorem resRow_tok (c : Dev nD) (t : Fin cfg0.N) (r : Fin 256) :
    resRow (grid0.coords t) (iblk m c 0 t) (iblk m c 1 t) (iblk m c 2 t) (iblk m c 3 t) (iblk m c 4 t) (iblk m c 5 t) r = tokRes m c (tok t r) := by
  unfold resRow tokRes resOut
  rw [inRow_tok m c t r, modFn_tok m c t r]
  simp only [row_3 m c t, row_4 m c t, row_5 m c t]

theorem projRow_tok (c : Dev nD) (t : Fin cfg0.N) (r : Fin 256) :
    projRow (grid0.coords t) (iblk m c 0 t) (iblk m c 1 t) (iblk m c 2 t) (iblk m c 3 t) (iblk m c 4 t) (iblk m c 5 t) (iblk m c 6 t) r = tokProj m c (tok t r) := by
  unfold projRow tokProj projOut
  rw [resRow_tok m c t r, modFn_tok m c t r]
  simp only [row_3 m c t, row_6 m c t]
  rfl

/-! ## The result arrays -/

/-- The tokens after the first feed-forward layer. -/
def resArr (c : Dev nD) : FVec Ideal S12288x1024 .f32 := fun y => tokRes m c (y 0) (y 1)

/-- The queries, scaled, the keys and the values. -/
def qkvArr (c : Dev nD) : FVec Ideal S12288x1536 .bf16 := fun y => scaledQkv (tokProj m c (y 0)) (y 1)

/-- Column `j` of the recurrent branch's input. -/
def xlOut (c : Dev nD) (R : Fin 12288) (j : Fin 1024) : EReal := tokProj m c R ⟨1536 + j.val, by omega⟩

/-- Column `j` of the recurrent branch's gate. -/
def glOut (c : Dev nD) (R : Fin 12288) (j : Fin 1024) : EReal := tokProj m c R ⟨2560 + j.val, by omega⟩

/-- Column `j` of the gates of the two branches. -/
def gatesOut (c : Dev nD) (R : Fin 12288) (j : Fin 2048) : EReal := tokProj m c R ⟨3584 + j.val, by omega⟩

/-- The recurrent branch's input. -/
def xlArr (c : Dev nD) : FVec Ideal S12288x1024 .f32 := fun y => xlOut m c (y 0) (y 1)

/-- The recurrent branch's gate. -/
def glArr (c : Dev nD) : FVec Ideal S12288x1024 .f32 := fun y => glOut m c (y 0) (y 1)

/-- The gates of the two branches. -/
def gatesArr (c : Dev nD) : FVec Ideal S12288x2048 .f32 := fun y => gatesOut m c (y 0) (y 1)

/-- The key of context token `(b, s)`, head `h`, column `d`. -/
def keyOut (c : Dev nD) (b : Fin 16) (h : Fin 8) (s : Fin 256) (d : Fin 64) : EReal :=
  tokProj m c (ctxPos b s) ⟨512 + (h.val * 64 + d.val), by omega⟩

/-- The value of context token `(b, s)`, head `h`, column `d`. -/
def valOut (c : Dev nD) (b : Fin 16) (h : Fin 8) (s : Fin 256) (d : Fin 64) : EReal :=
  tokProj m c (ctxPos b s) ⟨1024 + (h.val * 64 + d.val), by omega⟩

/-- The key cache. -/
def keyArr (c : Dev nD) : FVec Ideal S16x1x8x256x64 .f32 := fun y => keyOut m c (y 0) (y 2) (y 3) (y 4)

/-- The value cache. -/
def valArr (c : Dev nD) : FVec Ideal S16x1x8x256x64 .f32 := fun y => valOut m c (y 0) (y 2) (y 3) (y 4)

/-- The weights of the attention branch's projection. -/
def waArr (c : Dev nD) : FVec Ideal S512x1024 .bf16 := fun y => m ((c.tc : Thread nD τ).loc main_arg7) (ix3 0 (y 0) (y 1))

/-- The weights of the recurrent branch's projection. -/
def wlArr (c : Dev nD) : FVec Ideal S1024x1024 .bf16 := fun y => m ((c.tc : Thread nD τ).loc main_arg8) (ix3 0 (y 0) (y 1))

/-- The weights of the merge's projection. -/
def woArr (c : Dev nD) : FVec Ideal S1024x1024 .bf16 := fun y => m ((c.tc : Thread nD τ).loc main_arg9) (ix3 0 (y 0) (y 1))

/-- The weights of the second feed-forward layer, first matrix. -/
def wInArr (c : Dev nD) : FVec Ideal S1024x5632 .bf16 := fun y => m ((c.tc : Thread nD τ).loc main_arg10) (ix3 0 (y 0) (y 1))

/-- The weights of the second feed-forward layer, second matrix. -/
def wOutArr (c : Dev nD) : FVec Ideal S2816x1024 .bf16 := fun y => m ((c.tc : Thread nD τ).loc main_arg11) (ix3 0 (y 0) (y 1))

/-! ## The blocks are pieces of the arrays -/

theorem resAt_row (c : Dev nD) (t : Fin cfg0.N) (r : Fin 256) (j : Fin 1024) : resAt m c t (ix2 r j) = tokRes m c (tok t r) j :=
  (resBlk_at (grid0.coords t) (iblk m c 0 t) (iblk m c 1 t) (iblk m c 2 t) (iblk m c 3 t) (iblk m c 4 t) (iblk m c 5 t) r j).trans (congrFun (resRow_tok m c t r) j)

theorem resAt_arr (c : Dev nD) (t : Fin cfg0.N) (y : S256x1024.Idx) (i : S12288x1024.Idx)
    (h0 : (i 0).val = 256 * t.val + (y 0).val) (h1 : (i 1).val = (y 1).val) : resAt m c t y = resArr m c i :=
  (congrArg (resAt m c t) (eq_ix2 y)).trans ((resAt_row m c t (y 0) (y 1)).trans
    (congrArg₂ (fun R k => tokRes m c R k) (Fin.ext h0.symm) (Fin.ext h1.symm)))

theorem qkvAt_row (c : Dev nD) (t : Fin cfg0.N) (r : Fin 256) (j : Fin 1536) : qkvAt m c t (ix2 r j) = scaledQkv (tokProj m c (tok t r)) j :=
  (qkvOut_at (grid0.coords t) (iblk m c 0 t) (iblk m c 1 t) (iblk m c 2 t) (iblk m c 3 t) (iblk m c 4 t) (iblk m c 5 t) (iblk m c 6 t) r j).trans (congrArg (fun p => scaledQkv p j) (projRow_tok m c t r))

theorem qkvAt_arr (c : Dev nD) (t : Fin cfg0.N) (y : S256x1536.Idx) (i : S12288x1536.Idx)
    (h0 : (i 0).val = 256 * t.val + (y 0).val) (h1 : (i 1).val = (y 1).val) : qkvAt m c t y = qkvArr m c i :=
  (congrArg (qkvAt m c t) (eq_ix2 y)).trans ((qkvAt_row m c t (y 0) (y 1)).trans
    (congrArg₂ (fun R k => scaledQkv (tokProj m c R) k) (Fin.ext h0.symm) (Fin.ext h1.symm)))

theorem xlAt_row (c : Dev nD) (t : Fin cfg0.N) (r : Fin 256) (j : Fin 1024) : xlAt m c t (ix2 r j) = xlOut m c (tok t r) j :=
  (xlBlk_at (grid0.coords t) (iblk m c 0 t) (iblk m c 1 t) (iblk m c 2 t) (iblk m c 3 t) (iblk m c 4 t) (iblk m c 5 t) (iblk m c 6 t) r j).trans (congrFun (projRow_tok m c t r) _)

theorem xlAt_arr (c : Dev nD) (t : Fin cfg0.N) (y : S256x1024.Idx) (i : S12288x1024.Idx)
    (h0 : (i 0).val = 256 * t.val + (y 0).val) (h1 : (i 1).val = (y 1).val) : xlAt m c t y = xlArr m c i :=
  (congrArg (xlAt m c t) (eq_ix2 y)).trans ((xlAt_row m c t (y 0) (y 1)).trans
    (congrArg₂ (fun R k => xlOut m c R k) (Fin.ext h0.symm) (Fin.ext h1.symm)))

theorem glAt_row (c : Dev nD) (t : Fin cfg0.N) (r : Fin 256) (j : Fin 1024) : glAt m c t (ix2 r j) = glOut m c (tok t r) j :=
  (glBlk_at (grid0.coords t) (iblk m c 0 t) (iblk m c 1 t) (iblk m c 2 t) (iblk m c 3 t) (iblk m c 4 t) (iblk m c 5 t) (iblk m c 6 t) r j).trans (congrFun (projRow_tok m c t r) _)

theorem glAt_arr (c : Dev nD) (t : Fin cfg0.N) (y : S256x1024.Idx) (i : S12288x1024.Idx)
    (h0 : (i 0).val = 256 * t.val + (y 0).val) (h1 : (i 1).val = (y 1).val) : glAt m c t y = glArr m c i :=
  (congrArg (glAt m c t) (eq_ix2 y)).trans ((glAt_row m c t (y 0) (y 1)).trans
    (congrArg₂ (fun R k => glOut m c R k) (Fin.ext h0.symm) (Fin.ext h1.symm)))

theorem gatesAt_row (c : Dev nD) (t : Fin cfg0.N) (r : Fin 256) (j : Fin 2048) : gatesAt m c t (ix2 r j) = gatesOut m c (tok t r) j :=
  (gatesBlk_at (grid0.coords t) (iblk m c 0 t) (iblk m c 1 t) (iblk m c 2 t) (iblk m c 3 t) (iblk m c 4 t) (iblk m c 5 t) (iblk m c 6 t) r j).trans (congrFun (projRow_tok m c t r) _)

theorem gatesAt_arr (c : Dev nD) (t : Fin cfg0.N) (y : S256x2048.Idx) (i : S12288x2048.Idx)
    (h0 : (i 0).val = 256 * t.val + (y 0).val) (h1 : (i 1).val = (y 1).val) : gatesAt m c t y = gatesArr m c i :=
  (congrArg (gatesAt m c t) (eq_ix2 y)).trans ((gatesAt_row m c t (y 0) (y 1)).trans
    (congrArg₂ (fun R k => gatesOut m c R k) (Fin.ext h0.symm) (Fin.ext h1.symm)))

theorem keyAt_row (c : Dev nD) (t : Fin cfg0.N) (ht : t.val < 16) (h : Fin 8) (s : Fin 256) (d : Fin 64) :
    keyAt m c t (ix5 0 0 h s d) = keyOut m c ⟨t.val, ht⟩ h s d := by
  have e : tok t s = ctxPos ⟨t.val, ht⟩ s := Fin.ext (by show 256 * t.val + s.val = t.val * 256 + s.val; omega)
  refine (keyBlk_at (grid0.coords t) (iblk m c 0 t) (iblk m c 1 t) (iblk m c 2 t) (iblk m c 3 t) (iblk m c 4 t) (iblk m c 5 t) (iblk m c 6 t) h s d).trans ?_
  unfold keyOut
  rw [projRow_tok m c t s, e]

theorem keyAt_arr (c : Dev nD) (t : Fin cfg0.N) (ht : t.val < 16) (y : S1x1x8x256x64.Idx) (i : S16x1x8x256x64.Idx)
    (h0 : (i 0).val = t.val) (h2 : (i 2).val = (y 2).val) (h3 : (i 3).val = (y 3).val) (h4 : (i 4).val = (y 4).val) :
    keyAt m c t y = keyArr m c i := by
  have ey : y = ix5 0 0 (y 2) (y 3) (y 4) := by
    have z : ∀ a : Fin 1, a = 0 := fun a => Subsingleton.elim a 0
    exact (eq_ix5 y).trans (congrArg₂ (fun a b : Fin 1 => (ix5 a b (y 2) (y 3) (y 4) : S1x1x8x256x64.Idx)) (z (y 0)) (z (y 1)))
  refine (congrArg (keyAt m c t) ey).trans ((keyAt_row m c t ht (y 2) (y 3) (y 4)).trans ?_)
  have e0 : (⟨t.val, ht⟩ : Fin 16) = i 0 := Fin.ext h0.symm
  have e2 : (y 2 : Fin 8) = i 2 := Fin.ext h2.symm
  have e3 : (y 3 : Fin 256) = i 3 := Fin.ext h3.symm
  have e4 : (y 4 : Fin 64) = i 4 := Fin.ext h4.symm
  exact congr (congr (congrArg₂ (keyOut m c) e0 e2) e3) e4

theorem valAt_row (c : Dev nD) (t : Fin cfg0.N) (ht : t.val < 16) (h : Fin 8) (s : Fin 256) (d : Fin 64) :
    valAt m c t (ix5 0 0 h s d) = valOut m c ⟨t.val, ht⟩ h s d := by
  have e : tok t s = ctxPos ⟨t.val, ht⟩ s := Fin.ext (by show 256 * t.val + s.val = t.val * 256 + s.val; omega)
  refine (valBlk_at (grid0.coords t) (iblk m c 0 t) (iblk m c 1 t) (iblk m c 2 t) (iblk m c 3 t) (iblk m c 4 t) (iblk m c 5 t) (iblk m c 6 t) h s d).trans ?_
  unfold valOut
  rw [projRow_tok m c t s, e]

theorem valAt_arr (c : Dev nD) (t : Fin cfg0.N) (ht : t.val < 16) (y : S1x1x8x256x64.Idx) (i : S16x1x8x256x64.Idx)
    (h0 : (i 0).val = t.val) (h2 : (i 2).val = (y 2).val) (h3 : (i 3).val = (y 3).val) (h4 : (i 4).val = (y 4).val) :
    valAt m c t y = valArr m c i := by
  have ey : y = ix5 0 0 (y 2) (y 3) (y 4) := by
    have z : ∀ a : Fin 1, a = 0 := fun a => Subsingleton.elim a 0
    exact (eq_ix5 y).trans (congrArg₂ (fun a b : Fin 1 => (ix5 a b (y 2) (y 3) (y 4) : S1x1x8x256x64.Idx)) (z (y 0)) (z (y 1)))
  refine (congrArg (valAt m c t) ey).trans ((valAt_row m c t ht (y 2) (y 3) (y 4)).trans ?_)
  have e0 : (⟨t.val, ht⟩ : Fin 16) = i 0 := Fin.ext h0.symm
  have e2 : (y 2 : Fin 8) = i 2 := Fin.ext h2.symm
  have e3 : (y 3 : Fin 256) = i 3 := Fin.ext h3.symm
  have e4 : (y 4 : Fin 64) = i 4 := Fin.ext h4.symm
  exact congr (congr (congrArg₂ (valOut m c) e0 e2) e3) e4

theorem wa_piece (c : Dev nD) (t : Fin cfg0.N) (y : S16x1024.Idx) (i : S512x1024.Idx)
    (h0 : (i 0).val = 16 * min t.val 31 + (y 0).val) (h1 : (i 1).val = (y 1).val) :
    k0_pay1 (F := Ideal) (iblk m c 7 t) y = waArr m c i :=
  (congrArg (k0_pay1 (F := Ideal) (iblk m c 7 t)) (eq_ix2 y)).trans ((row_7 m c t (y 0) (y 1)).trans
    (congrArg₂ (fun (R : Fin 512) (k : Fin 1024) => m ((c.tc : Thread nD τ).loc main_arg7) (ix3 0 R k)) (Fin.ext h0.symm) (Fin.ext h1.symm)))

theorem wl_piece (c : Dev nD) (t : Fin cfg0.N) (y : S32x1024.Idx) (i : S1024x1024.Idx)
    (h0 : (i 0).val = 32 * min t.val 31 + (y 0).val) (h1 : (i 1).val = (y 1).val) :
    k0_pay2 (F := Ideal) (iblk m c 8 t) y = wlArr m c i :=
  (congrArg (k0_pay2 (F := Ideal) (iblk m c 8 t)) (eq_ix2 y)).trans ((row_8 m c t (y 0) (y 1)).trans
    (congrArg₂ (fun (R : Fin 1024) (k : Fin 1024) => m ((c.tc : Thread nD τ).loc main_arg8) (ix3 0 R k)) (Fin.ext h0.symm) (Fin.ext h1.symm)))

theorem wo_piece (c : Dev nD) (t : Fin cfg0.N) (y : S32x1024.Idx) (i : S1024x1024.Idx)
    (h0 : (i 0).val = 32 * min t.val 31 + (y 0).val) (h1 : (i 1).val = (y 1).val) :
    k0_pay3 (F := Ideal) (iblk m c 9 t) y = woArr m c i :=
  (congrArg (k0_pay3 (F := Ideal) (iblk m c 9 t)) (eq_ix2 y)).trans ((row_9 m c t (y 0) (y 1)).trans
    (congrArg₂ (fun (R : Fin 1024) (k : Fin 1024) => m ((c.tc : Thread nD τ).loc main_arg9) (ix3 0 R k)) (Fin.ext h0.symm) (Fin.ext h1.symm)))

theorem wIn_piece (c : Dev nD) (t : Fin cfg0.N) (y : S32x5632.Idx) (i : S1024x5632.Idx)
    (h0 : (i 0).val = 32 * min t.val 31 + (y 0).val) (h1 : (i 1).val = (y 1).val) :
    k0_pay4 (F := Ideal) (iblk m c 10 t) y = wInArr m c i :=
  (congrArg (k0_pay4 (F := Ideal) (iblk m c 10 t)) (eq_ix2 y)).trans ((row_10 m c t (y 0) (y 1)).trans
    (congrArg₂ (fun (R : Fin 1024) (k : Fin 5632) => m ((c.tc : Thread nD τ).loc main_arg10) (ix3 0 R k)) (Fin.ext h0.symm) (Fin.ext h1.symm)))

theorem wOut_piece (c : Dev nD) (t : Fin cfg0.N) (y : S64x1024.Idx) (i : S2816x1024.Idx)
    (h0 : (i 0).val = 64 * min t.val 43 + (y 0).val) (h1 : (i 1).val = (y 1).val) :
    k0_pay5 (F := Ideal) (iblk m c 11 t) y = wOutArr m c i :=
  (congrArg (k0_pay5 (F := Ideal) (iblk m c 11 t)) (eq_ix2 y)).trans ((row_11 m c t (y 0) (y 1)).trans
    (congrArg₂ (fun (R : Fin 2816) (k : Fin 1024) => m ((c.tc : Thread nD τ).loc main_arg11) (ix3 0 R k)) (Fin.ext h0.symm) (Fin.ext h1.symm)))

/-! ## The arrays after the last point -/

theorem final_res (c : Dev nD) (dat : Dat τ (Elt Ideal) Unit ℕ (UR sig nD τ) ℕ cfg0 c)
    (h : ∀ u : Fin cfg0.N, (cfg0.win 12).flush u = true → dat.after 12 u = resAt m c u) :
    dat.arrAt 12 cfg0.N = resArr m c := by
  refine dat.arrAt_eq_of_covers 12 _ (by decide +kernel) fun t hf y => ?_
  rw [h t hf]
  blk_simp
  refine resAt_arr m c t y _ ?_ ?_
  · blk_simp [idx t]
    omega
  · blk_simp [idx t]

theorem final_qkv (c : Dev nD) (dat : Dat τ (Elt Ideal) Unit ℕ (UR sig nD τ) ℕ cfg0 c)
    (h : ∀ u : Fin cfg0.N, (cfg0.win 13).flush u = true → dat.after 13 u = qkvAt m c u) :
    dat.arrAt 13 cfg0.N = qkvArr m c := by
  refine dat.arrAt_eq_of_covers 13 _ (by decide +kernel) fun t hf y => ?_
  rw [h t hf]
  blk_simp
  refine qkvAt_arr m c t y _ ?_ ?_
  · blk_simp [idx t]
    omega
  · blk_simp [idx t]

theorem final_xl (c : Dev nD) (dat : Dat τ (Elt Ideal) Unit ℕ (UR sig nD τ) ℕ cfg0 c)
    (h : ∀ u : Fin cfg0.N, (cfg0.win 14).flush u = true → dat.after 14 u = xlAt m c u) :
    dat.arrAt 14 cfg0.N = xlArr m c := by
  refine dat.arrAt_eq_of_covers 14 _ (by decide +kernel) fun t hf y => ?_
  rw [h t hf]
  blk_simp
  refine xlAt_arr m c t y _ ?_ ?_
  · blk_simp [idx t]
    omega
  · blk_simp [idx t]

theorem final_gl (c : Dev nD) (dat : Dat τ (Elt Ideal) Unit ℕ (UR sig nD τ) ℕ cfg0 c)
    (h : ∀ u : Fin cfg0.N, (cfg0.win 15).flush u = true → dat.after 15 u = glAt m c u) :
    dat.arrAt 15 cfg0.N = glArr m c := by
  refine dat.arrAt_eq_of_covers 15 _ (by decide +kernel) fun t hf y => ?_
  rw [h t hf]
  blk_simp
  refine glAt_arr m c t y _ ?_ ?_
  · blk_simp [idx t]
    omega
  · blk_simp [idx t]

theorem final_gates (c : Dev nD) (dat : Dat τ (Elt Ideal) Unit ℕ (UR sig nD τ) ℕ cfg0 c)
    (h : ∀ u : Fin cfg0.N, (cfg0.win 16).flush u = true → dat.after 16 u = gatesAt m c u) :
    dat.arrAt 16 cfg0.N = gatesArr m c := by
  refine dat.arrAt_eq_of_covers 16 _ (by decide +kernel) fun t hf y => ?_
  rw [h t hf]
  blk_simp
  refine gatesAt_arr m c t y _ ?_ ?_
  · blk_simp [idx t]
    omega
  · blk_simp [idx t]

theorem final_key (c : Dev nD) (dat : Dat τ (Elt Ideal) Unit ℕ (UR sig nD τ) ℕ cfg0 c)
    (h : ∀ u : Fin cfg0.N, (cfg0.win 17).flush u = true → dat.after 17 u = keyAt m c (ctxPt u)) :
    dat.arrAt 17 cfg0.N = keyArr m c := by
  refine dat.arrAt_eq_of_covers 17 _ (by decide +kernel) fun t hf y => ?_
  rw [h t hf]
  blk_simp
  refine keyAt_arr m c (ctxPt t) (lt_of_le_of_lt (Nat.min_le_right _ _) (by decide)) y _ ?_ ?_ ?_ ?_
  · have hy : (y 0).val < 1 := (y 0).isLt
    blk_simp [idx t]
    rfl
  · blk_simp [idx t]
  · blk_simp [idx t]
  · blk_simp [idx t]

theorem final_val (c : Dev nD) (dat : Dat τ (Elt Ideal) Unit ℕ (UR sig nD τ) ℕ cfg0 c)
    (h : ∀ u : Fin cfg0.N, (cfg0.win 18).flush u = true → dat.after 18 u = valAt m c (ctxPt u)) :
    dat.arrAt 18 cfg0.N = valArr m c := by
  refine dat.arrAt_eq_of_covers 18 _ (by decide +kernel) fun t hf y => ?_
  rw [h t hf]
  blk_simp
  refine valAt_arr m c (ctxPt t) (lt_of_le_of_lt (Nat.min_le_right _ _) (by decide)) y _ ?_ ?_ ?_ ?_
  · have hy : (y 0).val < 1 := (y 0).isLt
    blk_simp [idx t]
    rfl
  · blk_simp [idx t]
  · blk_simp [idx t]
  · blk_simp [idx t]

theorem final_wa (c : Dev nD) (dat : Dat τ (Elt Ideal) Unit ℕ (UR sig nD τ) ℕ cfg0 c)
    (h : ∀ u : Fin cfg0.N, (cfg0.win 19).flush u = true → dat.after 19 u = k0_pay1 (F := Ideal) (iblk m c 7 u)) :
    dat.arrAt 19 cfg0.N = waArr m c := by
  refine dat.arrAt_eq_of_covers 19 _ (by decide +kernel) fun t hf y => ?_
  rw [h t hf]
  blk_simp
  refine wa_piece m c t y _ ?_ ?_
  · blk_simp [idx t]
    omega
  · blk_simp [idx t]

theorem final_wl (c : Dev nD) (dat : Dat τ (Elt Ideal) Unit ℕ (UR sig nD τ) ℕ cfg0 c)
    (h : ∀ u : Fin cfg0.N, (cfg0.win 20).flush u = true → dat.after 20 u = k0_pay2 (F := Ideal) (iblk m c 8 u)) :
    dat.arrAt 20 cfg0.N = wlArr m c := by
  refine dat.arrAt_eq_of_covers 20 _ (by decide +kernel) fun t hf y => ?_
  rw [h t hf]
  blk_simp
  refine wl_piece m c t y _ ?_ ?_
  · blk_simp [idx t]
    omega
  · blk_simp [idx t]

theorem final_wo (c : Dev nD) (dat : Dat τ (Elt Ideal) Unit ℕ (UR sig nD τ) ℕ cfg0 c)
    (h : ∀ u : Fin cfg0.N, (cfg0.win 21).flush u = true → dat.after 21 u = k0_pay3 (F := Ideal) (iblk m c 9 u)) :
    dat.arrAt 21 cfg0.N = woArr m c := by
  refine dat.arrAt_eq_of_covers 21 _ (by decide +kernel) fun t hf y => ?_
  rw [h t hf]
  blk_simp
  refine wo_piece m c t y _ ?_ ?_
  · blk_simp [idx t]
    omega
  · blk_simp [idx t]

theorem final_wIn (c : Dev nD) (dat : Dat τ (Elt Ideal) Unit ℕ (UR sig nD τ) ℕ cfg0 c)
    (h : ∀ u : Fin cfg0.N, (cfg0.win 22).flush u = true → dat.after 22 u = k0_pay4 (F := Ideal) (iblk m c 10 u)) :
    dat.arrAt 22 cfg0.N = wInArr m c := by
  refine dat.arrAt_eq_of_covers 22 _ (by decide +kernel) fun t hf y => ?_
  rw [h t hf]
  blk_simp
  refine wIn_piece m c t y _ ?_ ?_
  · blk_simp [idx t]
    omega
  · blk_simp [idx t]

theorem final_wOut (c : Dev nD) (dat : Dat τ (Elt Ideal) Unit ℕ (UR sig nD τ) ℕ cfg0 c)
    (h : ∀ u : Fin cfg0.N, (cfg0.win 23).flush u = true → dat.after 23 u = k0_pay5 (F := Ideal) (iblk m c 11 u)) :
    dat.arrAt 23 cfg0.N = wOutArr m c := by
  refine dat.arrAt_eq_of_covers 23 _ (by decide +kernel) fun t hf y => ?_
  rw [h t hf]
  blk_simp
  refine wOut_piece m c t y _ ?_ ?_
  · blk_simp [idx t]
    omega
  · blk_simp [idx t]

end Cert.Kernel2Ideal.Entry

end
-- ==== Proof.Entry.Reference.lean ====
module

public import proofs.«01_k».proof.Proof.Gen.Reference2Ideal.Run
public import proofs.«01_k».proof.Proof.Layer.Entry
public import Idealize.ShloMosaic.Lib.Pointwise

@[expose] public section

/-!
# What the reference of the entry call computes, row by row

Over the extended reals: the first feed-forward layer and the in-projection of each token, the context
tokens with the first modulation row, the latent tokens with the modulation row of their group of 1024;
the results are those rows stacked, and columns of them.
-/

set_option maxRecDepth 16384

noncomputable section

namespace Cert.Reference2Ideal.Entry

open Cert.Reference2Ideal Cert.Reference2Ideal.Gen Cert.Reference2Ideal.Value Cert.Layer
open Idealize.ShloMosaic Idealize.ShloMosaic.TcCoe Idealize.ShloMosaic.Tactic
open Idealize.SL.Sem
variable (V0 : Valuation τ sig (Elt Ideal))

/-! ## The context tokens -/

/-- The row of a token. -/
def ctxTok (b : Fin 16) (s : Fin 256) : Fin 1024 → EReal := fun k => V0 (Proc.devRef .tc main_arg0) (ix3 b s k)

/-- The modulated row of a token. -/
def ctxModulated (b : Fin 16) (s : Fin 256) : Fin 1024 → EReal :=
  modulated (ctxTok V0 b s) (fun k => V0 (Proc.devRef .tc main_arg3) (ix3 0 0 k)) (fun k => V0 (Proc.devRef .tc main_arg2) (ix2 0 ⟨1024 + k.val, by omega⟩))
    (fun k => V0 (Proc.devRef .tc main_arg2) (ix2 0 ⟨k.val, by omega⟩))

theorem ctx_hidden_at (b : Fin 16) (s : Fin 256) (j : Fin 5632) :
    res_main_v39 (F := Ideal) V0 (ix3 b s j) = rowDot (ctxModulated V0 b s) (fun x l => V0 (Proc.devRef .tc main_arg4) (ix2 x l)) j := by
  unfold ctxModulated ctxTok modulated rms meanSq rowDot
  pointwise [res_main_v39, res_main_v3, res_main_v0]

/-- The row of a token after the feed-forward layer. -/
def ctxRes (b : Fin 16) (s : Fin 256) : Fin 1024 → EReal :=
  firstStage (ctxTok V0 b s) (fun k => V0 (Proc.devRef .tc main_arg2) (ix2 0 k)) (fun k => V0 (Proc.devRef .tc main_arg3) (ix3 0 0 k)) (fun x l => V0 (Proc.devRef .tc main_arg4) (ix2 x l)) (fun x l => V0 (Proc.devRef .tc main_arg5) (ix2 x l))

theorem ctx_res_at (b : Fin 16) (s : Fin 256) (j : Fin 1024) :
    res_main_v47 (F := Ideal) V0 (ix3 b s j) = ctxRes V0 b s j := by
  change _ = ctxTok V0 b s j + half * _ * ∑ l : Fin 2816,
    (rowDot (ctxModulated V0 b s) (fun x l => V0 (Proc.devRef .tc main_arg4) (ix2 x l)) ⟨l.val, by omega⟩
      * sigm (rowDot (ctxModulated V0 b s) (fun x l => V0 (Proc.devRef .tc main_arg4) (ix2 x l)) ⟨l.val, by omega⟩)
      * rowDot (ctxModulated V0 b s) (fun x l => V0 (Proc.devRef .tc main_arg4) (ix2 x l)) ⟨2816 + l.val, by omega⟩) * _
  simp only [← ctx_hidden_at, sigm, half, ctxTok]
  pointwise [res_main_v47, res_main_v3, res_main_v40, res_main_v1]

/-- The in-projection of a token's row. -/
def ctxProj (b : Fin 16) (s : Fin 256) : Fin 5632 → EReal :=
  inProj (ctxRes V0 b s) (fun k => V0 (Proc.devRef .tc main_arg2) (ix2 0 k)) (fun k => V0 (Proc.devRef .tc main_arg3) (ix3 0 1 k)) (fun x l => V0 (Proc.devRef .tc main_arg6) (ix2 x l))

theorem ctx_proj_at (b : Fin 16) (s : Fin 256) (j : Fin 5632) :
    res_main_v71 (F := Ideal) V0 (ix3 b s j) = ctxProj V0 b s j := by
  unfold ctxProj inProj modulated rms meanSq rowDot
  simp only [← ctx_res_at]
  pointwise [res_main_v71, res_main_v3, res_main_v2]

/-! ## The latent tokens -/

/-- The row of a token. -/
def latTok (b : Fin 8) (s : Fin 1024) : Fin 1024 → EReal := fun k => V0 (Proc.devRef .tc main_arg1) (ix3 b s k)

/-- The modulated row of a token. -/
def latModulated (b : Fin 8) (s : Fin 1024) : Fin 1024 → EReal :=
  modulated (latTok V0 b s) (fun k => V0 (Proc.devRef .tc main_arg3) (ix3 0 0 k)) (fun k => V0 (Proc.devRef .tc main_arg2) (ix2 ⟨1 + b.val, by omega⟩ ⟨1024 + k.val, by omega⟩))
    (fun k => V0 (Proc.devRef .tc main_arg2) (ix2 ⟨1 + b.val, by omega⟩ ⟨k.val, by omega⟩))

theorem lat_hidden_at (b : Fin 8) (s : Fin 1024) (j : Fin 5632) :
    res_main_v116 (F := Ideal) V0 (ix3 b s j) = rowDot (latModulated V0 b s) (fun x l => V0 (Proc.devRef .tc main_arg4) (ix2 x l)) j := by
  unfold latModulated latTok modulated rms meanSq rowDot
  pointwise [res_main_v116, res_main_v80, res_main_v0]

/-- The row of a token after the feed-forward layer. -/
def latRes (b : Fin 8) (s : Fin 1024) : Fin 1024 → EReal :=
  firstStage (latTok V0 b s) (fun k => V0 (Proc.devRef .tc main_arg2) (ix2 ⟨1 + b.val, by omega⟩ k)) (fun k => V0 (Proc.devRef .tc main_arg3) (ix3 0 0 k)) (fun x l => V0 (Proc.devRef .tc main_arg4) (ix2 x l)) (fun x l => V0 (Proc.devRef .tc main_arg5) (ix2 x l))

theorem lat_res_at (b : Fin 8) (s : Fin 1024) (j : Fin 1024) :
    res_main_v124 (F := Ideal) V0 (ix3 b s j) = latRes V0 b s j := by
  change _ = latTok V0 b s j + half * _ * ∑ l : Fin 2816,
    (rowDot (latModulated V0 b s) (fun x l => V0 (Proc.devRef .tc main_arg4) (ix2 x l)) ⟨l.val, by omega⟩
      * sigm (rowDot (latModulated V0 b s) (fun x l => V0 (Proc.devRef .tc main_arg4) (ix2 x l)) ⟨l.val, by omega⟩)
      * rowDot (latModulated V0 b s) (fun x l => V0 (Proc.devRef .tc main_arg4) (ix2 x l)) ⟨2816 + l.val, by omega⟩) * _
  simp only [← lat_hidden_at, sigm, half, latTok]
  pointwise [res_main_v124, res_main_v80, res_main_v117, res_main_v1]

/-- The in-projection of a token's row. -/
def latProj (b : Fin 8) (s : Fin 1024) : Fin 5632 → EReal :=
  inProj (latRes V0 b s) (fun k => V0 (Proc.devRef .tc main_arg2) (ix2 ⟨1 + b.val, by omega⟩ k)) (fun k => V0 (Proc.devRef .tc main_arg3) (ix3 0 1 k)) (fun x l => V0 (Proc.devRef .tc main_arg6) (ix2 x l))

theorem lat_proj_at (b : Fin 8) (s : Fin 1024) (j : Fin 5632) :
    res_main_v148 (F := Ideal) V0 (ix3 b s j) = latProj V0 b s j := by
  unfold latProj inProj modulated rms meanSq rowDot
  simp only [← lat_res_at]
  pointwise [res_main_v148, res_main_v80, res_main_v2]

/-! ## The stacked rows -/

/-- Row `R` after the feed-forward layer. -/
def resRow (R : Fin 12288) : Fin 1024 → EReal :=
  resOut (fun b s k => V0 (Proc.devRef .tc main_arg0) (ix3 b s k)) (fun b s k => V0 (Proc.devRef .tc main_arg1) (ix3 b s k)) (fun q k => V0 (Proc.devRef .tc main_arg2) (ix2 q k))
    (fun q k => V0 (Proc.devRef .tc main_arg3) (ix3 0 q k)) (fun x l => V0 (Proc.devRef .tc main_arg4) (ix2 x l)) (fun x l => V0 (Proc.devRef .tc main_arg5) (ix2 x l)) R

/-- Row `R` of the in-projection. -/
def projRow (R : Fin 12288) : Fin 5632 → EReal :=
  projOut (fun b s k => V0 (Proc.devRef .tc main_arg0) (ix3 b s k)) (fun b s k => V0 (Proc.devRef .tc main_arg1) (ix3 b s k)) (fun q k => V0 (Proc.devRef .tc main_arg2) (ix2 q k))
    (fun q k => V0 (Proc.devRef .tc main_arg3) (ix3 0 q k)) (fun x l => V0 (Proc.devRef .tc main_arg4) (ix2 x l)) (fun x l => V0 (Proc.devRef .tc main_arg5) (ix2 x l)) (fun x l => V0 (Proc.devRef .tc main_arg6) (ix2 x l)) R

theorem resRow_ctx (b : Fin 16) (s : Fin 256) : resRow V0 (ctxPos b s) = ctxRes V0 b s := by
  unfold resRow resOut ctxRes
  rw [tokenRow_ctx, modsIdx_ctx]
  rfl

theorem projRow_ctx (b : Fin 16) (s : Fin 256) : projRow V0 (ctxPos b s) = ctxProj V0 b s := by
  unfold projRow projOut ctxProj
  rw [modsIdx_ctx]
  exact congrArg (fun v => inProj v _ _ _) (resRow_ctx V0 b s)

theorem resRow_lat (b : Fin 8) (s : Fin 1024) : resRow V0 (latPos b s) = latRes V0 b s := by
  unfold resRow resOut latRes
  rw [tokenRow_lat, modsIdx_lat]
  rfl

theorem projRow_lat (b : Fin 8) (s : Fin 1024) : projRow V0 (latPos b s) = latProj V0 b s := by
  unfold projRow projOut latProj
  rw [modsIdx_lat]
  exact congrArg (fun v => inProj v _ _ _) (resRow_lat V0 b s)

theorem resRow_lt (R : Fin 12288) (h : R.val < 4096) :
    resRow V0 R = ctxRes V0 ⟨R.val / 256, by omega⟩ ⟨R.val % 256, by omega⟩ := by
  rw [← resRow_ctx]
  exact congrArg (resRow V0) (Fin.ext (by show R.val = R.val / 256 * 256 + R.val % 256; omega))

theorem resRow_ge (R : Fin 12288) (h : ¬ R.val < 4096) :
    resRow V0 R = latRes V0 ⟨(R.val - 4096) / 1024, by omega⟩ ⟨(R.val - 4096) % 1024, by omega⟩ := by
  rw [← resRow_lat]
  exact congrArg (resRow V0) (Fin.ext (by show R.val = 4096 + ((R.val - 4096) / 1024 * 1024 + (R.val - 4096) % 1024); omega))

theorem projRow_lt (R : Fin 12288) (h : R.val < 4096) :
    projRow V0 R = ctxProj V0 ⟨R.val / 256, by omega⟩ ⟨R.val % 256, by omega⟩ := by
  rw [← projRow_ctx]
  exact congrArg (projRow V0) (Fin.ext (by show R.val = R.val / 256 * 256 + R.val % 256; omega))

theorem projRow_ge (R : Fin 12288) (h : ¬ R.val < 4096) :
    projRow V0 R = latProj V0 ⟨(R.val - 4096) / 1024, by omega⟩ ⟨(R.val - 4096) % 1024, by omega⟩ := by
  rw [← projRow_lat]
  exact congrArg (projRow V0) (Fin.ext (by show R.val = 4096 + ((R.val - 4096) / 1024 * 1024 + (R.val - 4096) % 1024); omega))

/-- A stacked row of 512 columns past the context is a latent row. -/
theorem stack512_ge (a : FVec Ideal S16x256x512 .f32) (w : FVec Ideal S8x1024x512 .f32) (R : Fin 12288) (h : ¬ R.val < 4096) (j : Fin 512) :
    concatenate S12288x512 0 [⟨S4096x512, (shapeCast _ a shapeCasts_S16x256x512_S4096x512)⟩, ⟨S8192x512, (shapeCast _ w shapeCasts_S8x1024x512_S8192x512)⟩] concatenates_S4096x512_S8192x512_S12288x512_d0 (ix2 R j)
      = w (ix3 ⟨(R.val - 4096) / 1024, by omega⟩ ⟨(R.val - 4096) % 1024, by omega⟩ j) := by
  pointwise [h]

/-- A stacked row of 1024 columns past the context is a latent row. -/
theorem stack1024_ge (a : FVec Ideal S16x256x1024 .f32) (w : FVec Ideal S8x1024x1024 .f32) (R : Fin 12288) (h : ¬ R.val < 4096) (j : Fin 1024) :
    concatenate S12288x1024 0 [⟨S4096x1024, (shapeCast _ a shapeCasts_S16x256x1024_S4096x1024)⟩, ⟨S8192x1024, (shapeCast _ w shapeCasts_S8x1024x1024_S8192x1024)⟩] concatenates_S4096x1024_S8192x1024_S12288x1024_d0 (ix2 R j)
      = w (ix3 ⟨(R.val - 4096) / 1024, by omega⟩ ⟨(R.val - 4096) % 1024, by omega⟩ j) := by
  pointwise [h]

/-- A stacked row of 2048 columns past the context is a latent row. -/
theorem stack2048_ge (a : FVec Ideal S16x256x2048 .f32) (w : FVec Ideal S8x1024x2048 .f32) (R : Fin 12288) (h : ¬ R.val < 4096) (j : Fin 2048) :
    concatenate S12288x2048 0 [⟨S4096x2048, (shapeCast _ a shapeCasts_S16x256x2048_S4096x2048)⟩, ⟨S8192x2048, (shapeCast _ w shapeCasts_S8x1024x2048_S8192x2048)⟩] concatenates_S4096x2048_S8192x2048_S12288x2048_d0 (ix2 R j)
      = w (ix3 ⟨(R.val - 4096) / 1024, by omega⟩ ⟨(R.val - 4096) % 1024, by omega⟩ j) := by
  pointwise [h]

theorem xl_cols (w : FVec Ideal S8x1024x5632 .f32) (b : Fin 8) (s : Fin 1024) (j : Fin 1024) :
    extractStridedSlice S8x1024x1024 ![0, 0, 1536] w slices_S8x1024x5632_S8x1024x1024_0_0_1536 (ix3 b s j) = w (ix3 b s ⟨1536 + j.val, by omega⟩) := by
  pointwise

theorem gl_cols (w : FVec Ideal S8x1024x5632 .f32) (b : Fin 8) (s : Fin 1024) (j : Fin 1024) :
    extractStridedSlice S8x1024x1024 ![0, 0, 2560] w slices_S8x1024x5632_S8x1024x1024_0_0_2560 (ix3 b s j) = w (ix3 b s ⟨2560 + j.val, by omega⟩) := by
  pointwise

theorem gates_cols (w : FVec Ideal S8x1024x5632 .f32) (b : Fin 8) (s : Fin 1024) (j : Fin 2048) :
    extractStridedSlice S8x1024x2048 ![0, 0, 3584] w slices_S8x1024x5632_S8x1024x2048_0_0_3584 (ix3 b s j) = w (ix3 b s ⟨3584 + j.val, by omega⟩) := by
  pointwise

theorem q_cols (w : FVec Ideal S8x1024x5632 .f32) (b : Fin 8) (s : Fin 1024) (j : Fin 512) :
    extractStridedSlice S8x1024x512 ![0, 0, 0] w slices_S8x1024x5632_S8x1024x512_0_0_0 (ix3 b s j) = w (ix3 b s ⟨j.val, by omega⟩) := by
  pointwise

theorem k_cols (w : FVec Ideal S8x1024x5632 .f32) (b : Fin 8) (s : Fin 1024) (j : Fin 512) :
    extractStridedSlice S8x1024x512 ![0, 0, 512] w slices_S8x1024x5632_S8x1024x512_0_0_512 (ix3 b s j) = w (ix3 b s ⟨512 + j.val, by omega⟩) := by
  pointwise

theorem v_cols (w : FVec Ideal S8x1024x5632 .f32) (b : Fin 8) (s : Fin 1024) (j : Fin 512) :
    extractStridedSlice S8x1024x512 ![0, 0, 1024] w slices_S8x1024x5632_S8x1024x512_0_0_1024 (ix3 b s j) = w (ix3 b s ⟨1024 + j.val, by omega⟩) := by
  pointwise

/-! ## The results -/

/-- The reference's first result: the rows after the first feed-forward layer. -/
def resTerm : FVec Ideal S12288x1024 .f32 :=
  concatenate S12288x1024 0 [⟨S4096x1024, (shapeCast _ (res_main_v47 V0) shapeCasts_S16x256x1024_S4096x1024)⟩, ⟨S8192x1024, (shapeCast _ (res_main_v124 V0) shapeCasts_S8x1024x1024_S8192x1024)⟩] concatenates_S4096x1024_S8192x1024_S12288x1024_d0

theorem resTerm_at (R : Fin 12288) (j : Fin 1024) : resTerm V0 (ix2 R j) = resRow V0 R j := by
  by_cases h : R.val < 4096
  · rw [resRow_lt V0 R h, ← ctx_res_at]
    pointwise [resTerm, h]
  · rw [resRow_ge V0 R h, ← lat_res_at]
    pointwise [resTerm, h]

/-- The reference's third result: the recurrent branch's input. -/
def xlTerm : FVec Ideal S12288x1024 .f32 :=
  concatenate S12288x1024 0 [⟨S4096x1024, (shapeCast _ (extractStridedSlice S16x256x1024 ![0, 0, 1536] (res_main_v71 V0) slices_S16x256x5632_S16x256x1024_0_0_1536) shapeCasts_S16x256x1024_S4096x1024)⟩, ⟨S8192x1024, (shapeCast _ (extractStridedSlice S8x1024x1024 ![0, 0, 1536] (res_main_v148 V0) slices_S8x1024x5632_S8x1024x1024_0_0_1536) shapeCasts_S8x1024x1024_S8192x1024)⟩] concatenates_S4096x1024_S8192x1024_S12288x1024_d0

theorem xlTerm_at (R : Fin 12288) (j : Fin 1024) : xlTerm V0 (ix2 R j) = projRow V0 R ⟨1536 + j.val, by omega⟩ := by
  by_cases h : R.val < 4096
  · rw [projRow_lt V0 R h, ← ctx_proj_at]
    pointwise [xlTerm, h]
  · rw [projRow_ge V0 R h, ← lat_proj_at]
    unfold xlTerm
    exact (stack1024_ge _ _ R h j).trans (xl_cols _ _ _ j)

/-- The reference's fourth result: the recurrent branch's gate. -/
def glTerm : FVec Ideal S12288x1024 .f32 :=
  concatenate S12288x1024 0 [⟨S4096x1024, (shapeCast _ (extractStridedSlice S16x256x1024 ![0, 0, 2560] (res_main_v71 V0) slices_S16x256x5632_S16x256x1024_0_0_2560) shapeCasts_S16x256x1024_S4096x1024)⟩, ⟨S8192x1024, (shapeCast _ (extractStridedSlice S8x1024x1024 ![0, 0, 2560] (res_main_v148 V0) slices_S8x1024x5632_S8x1024x1024_0_0_2560) shapeCasts_S8x1024x1024_S8192x1024)⟩] concatenates_S4096x1024_S8192x1024_S12288x1024_d0

theorem glTerm_at (R : Fin 12288) (j : Fin 1024) : glTerm V0 (ix2 R j) = projRow V0 R ⟨2560 + j.val, by omega⟩ := by
  by_cases h : R.val < 4096
  · rw [projRow_lt V0 R h, ← ctx_proj_at]
    pointwise [glTerm, h]
  · rw [projRow_ge V0 R h, ← lat_proj_at]
    unfold glTerm
    exact (stack1024_ge _ _ R h j).trans (gl_cols _ _ _ j)

/-- The reference's fifth result: the gates of the two branches. -/
def gatesTerm : FVec Ideal S12288x2048 .f32 :=
  concatenate S12288x2048 0 [⟨S4096x2048, (shapeCast _ (extractStridedSlice S16x256x2048 ![0, 0, 3584] (res_main_v71 V0) slices_S16x256x5632_S16x256x2048_0_0_3584) shapeCasts_S16x256x2048_S4096x2048)⟩, ⟨S8192x2048, (shapeCast _ (extractStridedSlice S8x1024x2048 ![0, 0, 3584] (res_main_v148 V0) slices_S8x1024x5632_S8x1024x2048_0_0_3584) shapeCasts_S8x1024x2048_S8192x2048)⟩] concatenates_S4096x2048_S8192x2048_S12288x2048_d0

theorem gatesTerm_at (R : Fin 12288) (j : Fin 2048) : gatesTerm V0 (ix2 R j) = projRow V0 R ⟨3584 + j.val, by omega⟩ := by
  by_cases h : R.val < 4096
  · rw [projRow_lt V0 R h, ← ctx_proj_at]
    pointwise [gatesTerm, h]
  · rw [projRow_ge V0 R h, ← lat_proj_at]
    unfold gatesTerm
    exact (stack2048_ge _ _ R h j).trans (gates_cols _ _ _ j)

/-- The scaled queries of the stacked tokens. -/
def qPart : FVec Ideal S12288x512 .f32 :=
  (concatenate S12288x512 0 [⟨S4096x512, (shapeCast _ (mulf (extractStridedSlice S16x256x512 ![0, 0, 0] (res_main_v71 V0) slices_S16x256x5632_S16x256x512_0_0_0) (broadcastInDim S16x256x512 ![] bcast_S_S16x256x512 (constant S_ .f32 0x3E000000#32))) shapeCasts_S16x256x512_S4096x512)⟩, ⟨S8192x512, (shapeCast _ (mulf (extractStridedSlice S8x1024x512 ![0, 0, 0] (res_main_v148 V0) slices_S8x1024x5632_S8x1024x512_0_0_0) (broadcastInDim S8x1024x512 ![] bcast_S_S8x1024x512 (constant S_ .f32 0x3E000000#32))) shapeCasts_S8x1024x512_S8192x512)⟩] concatenates_S4096x512_S8192x512_S12288x512_d0)

/-- The keys of the stacked tokens. -/
def kPart : FVec Ideal S12288x512 .f32 :=
  (concatenate S12288x512 0 [⟨S4096x512, (shapeCast _ (res_main_v73 V0) shapeCasts_S16x256x512_S4096x512)⟩, ⟨S8192x512, (shapeCast _ (extractStridedSlice S8x1024x512 ![0, 0, 512] (res_main_v148 V0) slices_S8x1024x5632_S8x1024x512_0_0_512) shapeCasts_S8x1024x512_S8192x512)⟩] concatenates_S4096x512_S8192x512_S12288x512_d0)

/-- The values of the stacked tokens. -/
def vPart : FVec Ideal S12288x512 .f32 :=
  (concatenate S12288x512 0 [⟨S4096x512, (shapeCast _ (res_main_v74 V0) shapeCasts_S16x256x512_S4096x512)⟩, ⟨S8192x512, (shapeCast _ (extractStridedSlice S8x1024x512 ![0, 0, 1024] (res_main_v148 V0) slices_S8x1024x5632_S8x1024x512_0_0_1024) shapeCasts_S8x1024x512_S8192x512)⟩] concatenates_S4096x512_S8192x512_S12288x512_d0)

/-- The reference's second result: the queries, keys and values. -/
def qkvTerm : FVec Ideal S12288x1536 .bf16 :=
  truncf .bf16 (concatenate S12288x1536 1 [⟨S12288x512, qPart V0⟩, ⟨S12288x512, kPart V0⟩, ⟨S12288x512, vPart V0⟩] concatenates_S12288x512_S12288x512_S12288x512_S12288x1536_d1 : FVec Ideal S12288x1536 .f32) bitsLt_bf16_f32

theorem qPart_at (R : Fin 12288) (j : Fin 512) : qPart V0 (ix2 R j) = projRow V0 R ⟨j.val, by omega⟩ * eighth := by
  by_cases h : R.val < 4096
  · rw [projRow_lt V0 R h, ← ctx_proj_at]
    pointwise [qPart, eighth, h]
  · rw [projRow_ge V0 R h, ← lat_proj_at]
    unfold qPart
    exact (stack512_ge _ _ R h j).trans (congrArg (· * eighth) (q_cols (res_main_v148 V0) _ _ j))

theorem kPart_at (R : Fin 12288) (j : Fin 512) : kPart V0 (ix2 R j) = projRow V0 R ⟨512 + j.val, by omega⟩ := by
  by_cases h : R.val < 4096
  · rw [projRow_lt V0 R h, ← ctx_proj_at]
    pointwise [kPart, res_main_v73, h]
  · rw [projRow_ge V0 R h, ← lat_proj_at]
    unfold kPart
    exact (stack512_ge _ _ R h j).trans (k_cols _ _ _ j)

theorem vPart_at (R : Fin 12288) (j : Fin 512) : vPart V0 (ix2 R j) = projRow V0 R ⟨1024 + j.val, by omega⟩ := by
  by_cases h : R.val < 4096
  · rw [projRow_lt V0 R h, ← ctx_proj_at]
    pointwise [vPart, res_main_v74, h]
  · rw [projRow_ge V0 R h, ← lat_proj_at]
    unfold vPart
    exact (stack512_ge _ _ R h j).trans (v_cols _ _ _ j)

theorem qkvTerm_at (R : Fin 12288) (j : Fin 1536) : qkvTerm V0 (ix2 R j) = scaledQkv (projRow V0 R) j := by
  unfold scaledQkv
  by_cases h : j.val < 512
  · rw [if_pos h, ← qPart_at V0 R ⟨j.val, h⟩]
    pointwise [qkvTerm, h]
  · rw [if_neg h]
    by_cases h' : j.val - 512 < 512
    · have e : (⟨j.val, by omega⟩ : Fin 5632) = ⟨512 + (j.val - 512), by omega⟩ := Fin.ext (by show j.val = 512 + (j.val - 512); omega)
      rw [e, ← kPart_at V0 R ⟨j.val - 512, h'⟩]
      pointwise [qkvTerm, h, h']
    · have e : (⟨j.val, by omega⟩ : Fin 5632) = ⟨1024 + (j.val - 512 - 512), by omega⟩ := Fin.ext (by show j.val = 1024 + (j.val - 512 - 512); omega)
      rw [e, ← vPart_at V0 R ⟨j.val - 512 - 512, by omega⟩]
      pointwise [qkvTerm, h, h']

/-- The key cache. -/
def keyTerm : FVec Ideal S16x1x8x256x64 .f32 :=
  broadcastInDim S16x1x8x256x64 ![0, 2, 3, 4] bcast_S16x8x256x64_S16x1x8x256x64_0_2_3_4 (transpose S16x8x256x64 [0, 2, 1, 3] (shapeCast _ (res_main_v73 V0) shapeCasts_S16x256x512_S16x256x8x64) transposes_S16x256x8x64_S16x8x256x64_0_2_1_3)

theorem keyTerm_at (b : Fin 16) (z : Fin 1) (h : Fin 8) (s : Fin 256) (d : Fin 64) :
    keyTerm V0 (ix5 b z h s d) = projRow V0 (ctxPos b s) ⟨512 + (h.val * 64 + d.val), by omega⟩ := by
  rw [projRow_ctx, ← ctx_proj_at]
  pointwise [keyTerm, res_main_v73, res_main_v74]

/-- The value cache. -/
def valTerm : FVec Ideal S16x1x8x256x64 .f32 :=
  broadcastInDim S16x1x8x256x64 ![0, 2, 3, 4] bcast_S16x8x256x64_S16x1x8x256x64_0_2_3_4 (transpose S16x8x256x64 [0, 2, 1, 3] (shapeCast _ (res_main_v74 V0) shapeCasts_S16x256x512_S16x256x8x64) transposes_S16x256x8x64_S16x8x256x64_0_2_1_3)

theorem valTerm_at (b : Fin 16) (z : Fin 1) (h : Fin 8) (s : Fin 256) (d : Fin 64) :
    valTerm V0 (ix5 b z h s d) = projRow V0 (ctxPos b s) ⟨1024 + (h.val * 64 + d.val), by omega⟩ := by
  rw [projRow_ctx, ← ctx_proj_at]
  pointwise [valTerm, res_main_v73, res_main_v74]

/-- The weights of the attention branch's projection. -/
def waTerm : FVec Ideal S512x1024 .bf16 :=
  truncf .bf16 (shapeCast _ (V0 (Proc.devRef .tc main_arg7)) shapeCasts_S1x512x1024_S512x1024) bitsLt_bf16_f32

theorem waTerm_at (x : Fin 512) (l : Fin 1024) : waTerm V0 (ix2 x l) = V0 (Proc.devRef .tc main_arg7) (ix3 0 x l) := by
  pointwise [waTerm]

/-- The weights of the recurrent branch's projection. -/
def wlTerm : FVec Ideal S1024x1024 .bf16 :=
  truncf .bf16 (shapeCast _ (V0 (Proc.devRef .tc main_arg8)) shapeCasts_S1x1024x1024_S1024x1024) bitsLt_bf16_f32

theorem wlTerm_at (x : Fin 1024) (l : Fin 1024) : wlTerm V0 (ix2 x l) = V0 (Proc.devRef .tc main_arg8) (ix3 0 x l) := by
  pointwise [wlTerm]

/-- The weights of the merge's projection. -/
def woTerm : FVec Ideal S1024x1024 .bf16 :=
  truncf .bf16 (shapeCast _ (V0 (Proc.devRef .tc main_arg9)) shapeCasts_S1x1024x1024_S1024x1024) bitsLt_bf16_f32

theorem woTerm_at (x : Fin 1024) (l : Fin 1024) : woTerm V0 (ix2 x l) = V0 (Proc.devRef .tc main_arg9) (ix3 0 x l) := by
  pointwise [woTerm]

/-- The first weights of the second feed-forward layer. -/
def wInTerm : FVec Ideal S1024x5632 .bf16 :=
  truncf .bf16 (shapeCast _ (V0 (Proc.devRef .tc main_arg10)) shapeCasts_S1x1024x5632_S1024x5632) bitsLt_bf16_f32

theorem wInTerm_at (x : Fin 1024) (l : Fin 5632) : wInTerm V0 (ix2 x l) = V0 (Proc.devRef .tc main_arg10) (ix3 0 x l) := by
  pointwise [wInTerm]

/-- The second weights of the second feed-forward layer. -/
def wOutTerm : FVec Ideal S2816x1024 .bf16 :=
  truncf .bf16 (shapeCast _ (V0 (Proc.devRef .tc main_arg11)) shapeCasts_S1x2816x1024_S2816x1024) bitsLt_bf16_f32

theorem wOutTerm_at (x : Fin 2816) (l : Fin 1024) : wOutTerm V0 (ix2 x l) = V0 (Proc.devRef .tc main_arg11) (ix3 0 x l) := by
  pointwise [wOutTerm]

end Cert.Reference2Ideal.Entry

end
-- ==== Proof.Entry.Claim.lean ====
module

public import proofs.«01_k».proof.Defs
public import proofs.«01_k».proof.Proof.Entry.Result
public import proofs.«01_k».proof.Proof.Entry.Reference

@[expose] public section

/-!
# The entry kernel computes what its reference computes

Both programs leave in their twelve results the same rows: the first stage of the layer and the pieces of
its in-projection, of the same rows of the arguments, and the weights of the later stages.
-/

set_option maxRecDepth 16384
set_option maxHeartbeats 4000000

noncomputable section

namespace Cert.Kernel2Ideal.Entry

open Cert.Kernel2Ideal Cert.Kernel2Ideal.Gen Cert.Layer
open Idealize.ShloMosaic Idealize.ShloMosaic.TcCoe Idealize.ShloMosaic.Tactic
open Idealize.ShloMosaic.StableHlo
open Idealize.SL.Sem

/-- The kernel's run leaves the twelve arrays, and its arguments as they were. -/
theorem results_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = resArr m c
      ∧ r.2.mem ((c.tc : Thread nD τ).loc main_v8_1) = qkvArr m c
      ∧ r.2.mem ((c.tc : Thread nD τ).loc main_v8_2) = xlArr m c
      ∧ r.2.mem ((c.tc : Thread nD τ).loc main_v8_3) = glArr m c
      ∧ r.2.mem ((c.tc : Thread nD τ).loc main_v8_4) = gatesArr m c
      ∧ r.2.mem ((c.tc : Thread nD τ).loc main_v8_5) = keyArr m c
      ∧ r.2.mem ((c.tc : Thread nD τ).loc main_v8_6) = valArr m c
      ∧ r.2.mem ((c.tc : Thread nD τ).loc main_v8_7) = waArr m c
      ∧ r.2.mem ((c.tc : Thread nD τ).loc main_v8_8) = wlArr m c
      ∧ r.2.mem ((c.tc : Thread nD τ).loc main_v8_9) = woArr m c
      ∧ r.2.mem ((c.tc : Thread nD τ).loc main_v8_10) = wInArr m c
      ∧ r.2.mem ((c.tc : Thread nD τ).loc main_v8_11) = wOutArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun r h c => by
    obtain ⟨dat, hL, hA⟩ := results_of m h.1 c
    exact ⟨(hA 12).trans (final_res m c dat fun u hu => (hL 12 u hu).trans (after_12 m c u)),
      (hA 13).trans (final_qkv m c dat fun u hu => (hL 13 u hu).trans (after_13 m c u)),
      (hA 14).trans (final_xl m c dat fun u hu => (hL 14 u hu).trans (after_14 m c u)),
      (hA 15).trans (final_gl m c dat fun u hu => (hL 15 u hu).trans (after_15 m c u)),
      (hA 16).trans (final_gates m c dat fun u hu => (hL 16 u hu).trans (after_16 m c u)),
      (hA 17).trans (final_key m c dat fun u hu => (hL 17 u hu).trans (after_17 m c u)),
      (hA 18).trans (final_val m c dat fun u hu => (hL 18 u hu).trans (after_18 m c u)),
      (hA 19).trans (final_wa m c dat fun u hu => (hL 19 u hu).trans (after_19 m c u)),
      (hA 20).trans (final_wl m c dat fun u hu => (hL 20 u hu).trans (after_20 m c u)),
      (hA 21).trans (final_wo m c dat fun u hu => (hL 21 u hu).trans (after_21 m c u)),
      (hA 22).trans (final_wIn m c dat fun u hu => (hL 22 u hu).trans (after_22 m c u)),
      (hA 23).trans (final_wOut m c dat fun u hu => (hL 23 u hu).trans (after_23 m c u)),
      args_of m h.1 c⟩) (run m g)

/-- The two programs' argument arrays agree. -/
abbrev Agree (m : (ℓ : Loc nD τ sig) → Buf (Elt Ideal) ℓ)
    (m' : (ℓ : Loc Cert.Reference2Ideal.nD Cert.Reference2Ideal.τ Cert.Reference2Ideal.sig) → Buf (Elt Ideal) ℓ) (c : Dev nD) : Prop :=
  m' ((c.tc : Thread Cert.Reference2Ideal.nD Cert.Reference2Ideal.τ).loc Cert.Reference2Ideal.main_arg0) = m ((c.tc : Thread nD τ).loc main_arg0)
    ∧ m' ((c.tc : Thread Cert.Reference2Ideal.nD Cert.Reference2Ideal.τ).loc Cert.Reference2Ideal.main_arg1) = m ((c.tc : Thread nD τ).loc main_arg1)
    ∧ m' ((c.tc : Thread Cert.Reference2Ideal.nD Cert.Reference2Ideal.τ).loc Cert.Reference2Ideal.main_arg2) = m ((c.tc : Thread nD τ).loc main_arg2)
    ∧ m' ((c.tc : Thread Cert.Reference2Ideal.nD Cert.Reference2Ideal.τ).loc Cert.Reference2Ideal.main_arg3) = m ((c.tc : Thread nD τ).loc main_arg3)
    ∧ m' ((c.tc : Thread Cert.Reference2Ideal.nD Cert.Reference2Ideal.τ).loc Cert.Reference2Ideal.main_arg4) = m ((c.tc : Thread nD τ).loc main_arg4)
    ∧ m' ((c.tc : Thread Cert.Reference2Ideal.nD Cert.Reference2Ideal.τ).loc Cert.Reference2Ideal.main_arg5) = m ((c.tc : Thread nD τ).loc main_arg5)
    ∧ m' ((c.tc : Thread Cert.Reference2Ideal.nD Cert.Reference2Ideal.τ).loc Cert.Reference2Ideal.main_arg6) = m ((c.tc : Thread nD τ).loc main_arg6)
    ∧ m' ((c.tc : Thread Cert.Reference2Ideal.nD Cert.Reference2Ideal.τ).loc Cert.Reference2Ideal.main_arg7) = m ((c.tc : Thread nD τ).loc main_arg7)
    ∧ m' ((c.tc : Thread Cert.Reference2Ideal.nD Cert.Reference2Ideal.τ).loc Cert.Reference2Ideal.main_arg8) = m ((c.tc : Thread nD τ).loc main_arg8)
    ∧ m' ((c.tc : Thread Cert.Reference2Ideal.nD Cert.Reference2Ideal.τ).loc Cert.Reference2Ideal.main_arg9) = m ((c.tc : Thread nD τ).loc main_arg9)
    ∧ m' ((c.tc : Thread Cert.Reference2Ideal.nD Cert.Reference2Ideal.τ).loc Cert.Reference2Ideal.main_arg10) = m ((c.tc : Thread nD τ).loc main_arg10)
    ∧ m' ((c.tc : Thread Cert.Reference2Ideal.nD Cert.Reference2Ideal.τ).loc Cert.Reference2Ideal.main_arg11) = m ((c.tc : Thread nD τ).loc main_arg11)

/-- Row for row, the reference's arrays are the kernel's. -/
theorem tokRes_eq {m m' c} (h : Agree m m' c) (R : Fin 12288) :
    Cert.Reference2Ideal.Entry.resRow (launchContents m' c) R = tokRes m c R := by
  obtain ⟨h0, h1, h2, h3, h4, h5, h6, h7, h8, h9, h10, h11⟩ := h
  unfold tokRes
  rw [← h0, ← h1, ← h2, ← h3, ← h4, ← h5]
  rfl

theorem tokProj_eq {m m' c} (h : Agree m m' c) (R : Fin 12288) :
    Cert.Reference2Ideal.Entry.projRow (launchContents m' c) R = tokProj m c R := by
  obtain ⟨h0, h1, h2, h3, h4, h5, h6, h7, h8, h9, h10, h11⟩ := h
  unfold tokProj
  rw [← h0, ← h1, ← h2, ← h3, ← h4, ← h5, ← h6]
  rfl

theorem res_eq {m m' c} (h : Agree m m' c) : Cert.Reference2Ideal.Entry.resTerm (launchContents m' c) = resArr m c := by
  funext y
  exact (congrArg (Cert.Reference2Ideal.Entry.resTerm (launchContents m' c)) (eq_ix2 y)).trans
    ((Cert.Reference2Ideal.Entry.resTerm_at _ (y 0) (y 1)).trans (congrFun (tokRes_eq h (y 0)) (y 1)))

theorem qkv_eq {m m' c} (h : Agree m m' c) : Cert.Reference2Ideal.Entry.qkvTerm (launchContents m' c) = qkvArr m c := by
  funext y
  exact (congrArg (Cert.Reference2Ideal.Entry.qkvTerm (launchContents m' c)) (eq_ix2 y)).trans
    ((Cert.Reference2Ideal.Entry.qkvTerm_at _ (y 0) (y 1)).trans (congrArg (fun p => scaledQkv p (y 1)) (tokProj_eq h (y 0))))

theorem xl_eq {m m' c} (h : Agree m m' c) : Cert.Reference2Ideal.Entry.xlTerm (launchContents m' c) = xlArr m c := by
  funext y
  exact (congrArg (Cert.Reference2Ideal.Entry.xlTerm (launchContents m' c)) (eq_ix2 y)).trans
    ((Cert.Reference2Ideal.Entry.xlTerm_at _ (y 0) (y 1)).trans (congrFun (tokProj_eq h (y 0)) _))

theorem gl_eq {m m' c} (h : Agree m m' c) : Cert.Reference2Ideal.Entry.glTerm (launchContents m' c) = glArr m c := by
  funext y
  exact (congrArg (Cert.Reference2Ideal.Entry.glTerm (launchContents m' c)) (eq_ix2 y)).trans
    ((Cert.Reference2Ideal.Entry.glTerm_at _ (y 0) (y 1)).trans (congrFun (tokProj_eq h (y 0)) _))

theorem gates_eq {m m' c} (h : Agree m m' c) : Cert.Reference2Ideal.Entry.gatesTerm (launchContents m' c) = gatesArr m c := by
  funext y
  exact (congrArg (Cert.Reference2Ideal.Entry.gatesTerm (launchContents m' c)) (eq_ix2 y)).trans
    ((Cert.Reference2Ideal.Entry.gatesTerm_at _ (y 0) (y 1)).trans (congrFun (tokProj_eq h (y 0)) _))

theorem key_eq {m m' c} (h : Agree m m' c) : Cert.Reference2Ideal.Entry.keyTerm (launchContents m' c) = keyArr m c := by
  funext y
  exact (congrArg (Cert.Reference2Ideal.Entry.keyTerm (launchContents m' c)) (eq_ix5 y)).trans
    ((Cert.Reference2Ideal.Entry.keyTerm_at _ (y 0) (y 1) (y 2) (y 3) (y 4)).trans (congrFun (tokProj_eq h (ctxPos (y 0) (y 3))) _))

theorem val_eq {m m' c} (h : Agree m m' c) : Cert.Reference2Ideal.Entry.valTerm (launchContents m' c) = valArr m c := by
  funext y
  exact (congrArg (Cert.Reference2Ideal.Entry.valTerm (launchContents m' c)) (eq_ix5 y)).trans
    ((Cert.Reference2Ideal.Entry.valTerm_at _ (y 0) (y 1) (y 2) (y 3) (y 4)).trans (congrFun (tokProj_eq h (ctxPos (y 0) (y 3))) _))

theorem wa_eq {m m' c} (h : Agree m m' c) : Cert.Reference2Ideal.Entry.waTerm (launchContents m' c) = waArr m c := by
  obtain ⟨h0, h1, h2, h3, h4, h5, h6, h7, h8, h9, h10, h11⟩ := h
  funext y
  exact (congrArg (Cert.Reference2Ideal.Entry.waTerm (launchContents m' c)) (eq_ix2 y)).trans
    ((Cert.Reference2Ideal.Entry.waTerm_at _ (y 0) (y 1)).trans (congrFun h7 (ix3 0 (y 0) (y 1))))

theorem wl_eq {m m' c} (h : Agree m m' c) : Cert.Reference2Ideal.Entry.wlTerm (launchContents m' c) = wlArr m c := by
  obtain ⟨h0, h1, h2, h3, h4, h5, h6, h7, h8, h9, h10, h11⟩ := h
  funext y
  exact (congrArg (Cert.Reference2Ideal.Entry.wlTerm (launchContents m' c)) (eq_ix2 y)).trans
    ((Cert.Reference2Ideal.Entry.wlTerm_at _ (y 0) (y 1)).trans (congrFun h8 (ix3 0 (y 0) (y 1))))

theorem wo_eq {m m' c} (h : Agree m m' c) : Cert.Reference2Ideal.Entry.woTerm (launchContents m' c) = woArr m c := by
  obtain ⟨h0, h1, h2, h3, h4, h5, h6, h7, h8, h9, h10, h11⟩ := h
  funext y
  exact (congrArg (Cert.Reference2Ideal.Entry.woTerm (launchContents m' c)) (eq_ix2 y)).trans
    ((Cert.Reference2Ideal.Entry.woTerm_at _ (y 0) (y 1)).trans (congrFun h9 (ix3 0 (y 0) (y 1))))

theorem wIn_eq {m m' c} (h : Agree m m' c) : Cert.Reference2Ideal.Entry.wInTerm (launchContents m' c) = wInArr m c := by
  obtain ⟨h0, h1, h2, h3, h4, h5, h6, h7, h8, h9, h10, h11⟩ := h
  funext y
  exact (congrArg (Cert.Reference2Ideal.Entry.wInTerm (launchContents m' c)) (eq_ix2 y)).trans
    ((Cert.Reference2Ideal.Entry.wInTerm_at _ (y 0) (y 1)).trans (congrFun h10 (ix3 0 (y 0) (y 1))))

theorem wOut_eq {m m' c} (h : Agree m m' c) : Cert.Reference2Ideal.Entry.wOutTerm (launchContents m' c) = wOutArr m c := by
  obtain ⟨h0, h1, h2, h3, h4, h5, h6, h7, h8, h9, h10, h11⟩ := h
  funext y
  exact (congrArg (Cert.Reference2Ideal.Entry.wOutTerm (launchContents m' c)) (eq_ix2 y)).trans
    ((Cert.Reference2Ideal.Entry.wOutTerm_at _ (y 0) (y 1)).trans (congrFun h11 (ix3 0 (y 0) (y 1))))

/-- **The two programs compute the same results over the extended reals.** -/
theorem algebraic : @Cert.algebraic_Kernel2Ideal_Reference2Ideal Cert.Kernel2Ideal.Gen.facts Cert.Reference2Ideal.Gen.facts := by
  intro m g m' g' _ hagree
  refine ⟨fun c => resArr m c, fun c => qkvArr m c, fun c => xlArr m c, fun c => glArr m c, fun c => gatesArr m c, fun c => keyArr m c, fun c => valArr m c, fun c => waArr m c, fun c => wlArr m c, fun c => woArr m c, fun c => wInArr m c, fun c => wOutArr m c,
    results_run m g, ?_⟩
  refine (θ_run _ _ _).mono (fun r h c => ?_) (Cert.Reference2Ideal.Value.run m' g')
  obtain ⟨h0, h1, h2, h3, h4, h5, h6, h7, h8, h9, h10, h11, hargs⟩ := h c
  exact ⟨h0.trans (res_eq (hagree c)),
    h1.trans (qkv_eq (hagree c)),
    h2.trans (xl_eq (hagree c)),
    h3.trans (gl_eq (hagree c)),
    h4.trans (gates_eq (hagree c)),
    h5.trans (key_eq (hagree c)),
    h6.trans (val_eq (hagree c)),
    h7.trans (wa_eq (hagree c)),
    h8.trans (wl_eq (hagree c)),
    h9.trans (wo_eq (hagree c)),
    h10.trans (wIn_eq (hagree c)),
    h11.trans (wOut_eq (hagree c)), hargs⟩

end Cert.Kernel2Ideal.Entry

end
-- ==== Proof.Entry.KernelFrame.lean ====
/- The frame of the entry call at the machine's own floats: the program has the same text as the one at ideal
floats, so it has the same table of bodies, and the run proved over any floats is its run too. -/
module

public import proofs.«01_k».proof.Defs
public import proofs.«01_k».proof.Proof.Gen.Kernel2
public import proofs.«01_k».proof.Proof.Entry.Run

@[expose] public section

set_option maxRecDepth 65536
set_option maxHeartbeats 4000000

namespace Cert.Kernel2.Entry

open Idealize.ShloMosaic Idealize.SL.Sem

attribute [local instance] Cert.Kernel2.Gen.facts Cert.Kernel2Ideal.Gen.facts

/-- The two programs have one body. -/
theorem body_eq : @Cert.Kernel2.cc0_ffn1_inproj Bits _ _ = @Cert.Kernel2Ideal.cc0_ffn1_inproj Bits _ _ := rfl

/-- They have one grid. -/
theorem coords_eq (t : Fin Cert.Kernel2.grid0.N) :
    Cert.Kernel2.grid0.coords t = Cert.Kernel2Ideal.grid0.coords t := rfl

theorem stage0_eq : Cert.Kernel2.stage0_0 = Cert.Kernel2Ideal.stage0_0 := rfl
theorem stage1_eq : Cert.Kernel2.stage0_1 = Cert.Kernel2Ideal.stage0_1 := rfl
theorem stage2_eq : Cert.Kernel2.stage0_2 = Cert.Kernel2Ideal.stage0_2 := rfl
theorem stage3_eq : Cert.Kernel2.stage0_3 = Cert.Kernel2Ideal.stage0_3 := rfl
theorem stage4_eq : Cert.Kernel2.stage0_4 = Cert.Kernel2Ideal.stage0_4 := rfl
theorem stage5_eq : Cert.Kernel2.stage0_5 = Cert.Kernel2Ideal.stage0_5 := rfl
theorem stage6_eq : Cert.Kernel2.stage0_6 = Cert.Kernel2Ideal.stage0_6 := rfl
theorem stage7_eq : Cert.Kernel2.stage0_7 = Cert.Kernel2Ideal.stage0_7 := rfl
theorem stage8_eq : Cert.Kernel2.stage0_8 = Cert.Kernel2Ideal.stage0_8 := rfl
theorem stage9_eq : Cert.Kernel2.stage0_9 = Cert.Kernel2Ideal.stage0_9 := rfl
theorem stage10_eq : Cert.Kernel2.stage0_10 = Cert.Kernel2Ideal.stage0_10 := rfl
theorem stage11_eq : Cert.Kernel2.stage0_11 = Cert.Kernel2Ideal.stage0_11 := rfl
theorem stage12_eq : Cert.Kernel2.stage0_12 = Cert.Kernel2Ideal.stage0_12 := rfl
theorem stage13_eq : Cert.Kernel2.stage0_13 = Cert.Kernel2Ideal.stage0_13 := rfl
theorem stage14_eq : Cert.Kernel2.stage0_14 = Cert.Kernel2Ideal.stage0_14 := rfl
theorem stage15_eq : Cert.Kernel2.stage0_15 = Cert.Kernel2Ideal.stage0_15 := rfl
theorem stage16_eq : Cert.Kernel2.stage0_16 = Cert.Kernel2Ideal.stage0_16 := rfl
theorem stage17_eq : Cert.Kernel2.stage0_17 = Cert.Kernel2Ideal.stage0_17 := rfl
theorem stage18_eq : Cert.Kernel2.stage0_18 = Cert.Kernel2Ideal.stage0_18 := rfl
theorem stage19_eq : Cert.Kernel2.stage0_19 = Cert.Kernel2Ideal.stage0_19 := rfl
theorem stage20_eq : Cert.Kernel2.stage0_20 = Cert.Kernel2Ideal.stage0_20 := rfl
theorem stage21_eq : Cert.Kernel2.stage0_21 = Cert.Kernel2Ideal.stage0_21 := rfl
theorem stage22_eq : Cert.Kernel2.stage0_22 = Cert.Kernel2Ideal.stage0_22 := rfl
theorem stage23_eq : Cert.Kernel2.stage0_23 = Cert.Kernel2Ideal.stage0_23 := rfl
theorem scratch0_eq : Cert.Kernel2.cc0_scratch0 = Cert.Kernel2Ideal.cc0_scratch0 := rfl
theorem scratch1_eq : Cert.Kernel2.cc0_scratch1 = Cert.Kernel2Ideal.cc0_scratch1 := rfl

/-- The windows and the scratch are the same, so the tables of bodies are. -/
theorem bodies_eq : Cert.Kernel2.defs₀ (F := Bits) = Cert.Kernel2Ideal.defs₀ (F := Bits) := by
  refine congrArg Defs.onTc (funext fun l => funext fun x => ?_)
  match l, x with
  | 0, (t, s) =>
    dsimp only
    rw [body_eq]
    simp only [
      coords_eq, scratch0_eq, scratch1_eq, stage0_eq, stage1_eq, stage2_eq, stage3_eq, stage4_eq,
      stage5_eq, stage6_eq, stage7_eq, stage8_eq, stage9_eq, stage10_eq, stage11_eq, stage12_eq,
      stage13_eq, stage14_eq, stage15_eq, stage16_eq, stage17_eq, stage18_eq, stage19_eq,
      stage20_eq, stage21_eq, stage22_eq, stage23_eq]
    with_reducible rfl

/-- So are the tables with the pipeline's own steps. -/
theorem defs_eq : Cert.Kernel2.defs (F := Bits) = Cert.Kernel2Ideal.defs (F := Bits) :=
  congrArg (Pipeline.defs Cert.Kernel2Ideal.pcfgs) bodies_eq

/-- The frame of the entry call at the machine's floats. -/
theorem frame : @Cert.quiescent_Kernel2 Cert.Kernel2.Gen.facts := fun m g _ => by
  rw [defs_eq]
  exact Cert.Kernel2Ideal.Entry.frame_run (F := Bits) m g

end Cert.Kernel2.Entry

end
-- ==== Proof.Mods.Block.lean ====
module

public import proofs.«01_k».proof.Proof.Gen.Kernel3Ideal.Value

@[expose] public section

/-!
# What the modulation kernel leaves in its buffers

At every grid point the kernel adds a product of 128 columns to the modulation buffer, which it fills with the
bias at the first point, and casts one block of each of three weight matrices.
-/

set_option maxRecDepth 16384

noncomputable section

namespace Cert.Kernel3Ideal.Mods

open Cert.Kernel3Ideal Cert.Kernel3Ideal.Gen
open Idealize.ShloMosaic Idealize.ShloMosaic.TcCoe Idealize.ShloMosaic.Tactic
open Idealize.SL.Sem
open Idealize.ShloMosaic.Pipeline (Dat)

variable {F : FTy → Type} [FloatOps F]
variable (m : (ℓ : Loc nD τ sig) → Buf (Elt F) ℓ)

theorem zeros : (![0, 0] : Fin 2 → Nat) = fun _ => 0 := funext fun a => by fin_cases a <;> rfl

/-- One accumulation step: the buffer plus the product of the activated conditioning block and the weight block. -/
def step (cond : Vec F S16x128 .f32) (w : Vec F S128x9216 .f32) (acc : Vec F S16x9216 .f32) : Vec F S16x9216 .f32 :=
  k0_pay1 (k0_pay6 cond) (k0_pay7 acc) (k0_pay8 w) (constant S16x9216 .f32 0x00000000#32)

section
variable (c : Dev nD) (i : grid0.Coords)
  (a1 : Memref sig .tc .vmem S16x128 .f32) (h1 : a1.IsWhole) (a2 : Memref sig .tc .vmem S128x9216 .f32) (h2 : a2.IsWhole)
  (a3 : Memref sig .tc .vmem S1x9216 .f32) (h3 : a3.IsWhole) (a4 : Memref sig .tc .vmem S128x5632 .f32) (h4 : a4.IsWhole)
  (a5 : Memref sig .tc .vmem S352x1024 .f32) (h5 : a5.IsWhole) (a6 : Memref sig .tc .vmem S128x5632 .f32) (h6 : a6.IsWhole)
  (a7 : Memref sig .tc .vmem S16x9216 .f32) (h7 : a7.IsWhole) (a8 : Memref sig .tc .vmem S128x5632 .bf16) (h8 : a8.IsWhole)
  (a9 : Memref sig .tc .vmem S352x1024 .bf16) (h9 : a9.IsWhole) (a10 : Memref sig .tc .vmem S128x5632 .bf16) (h10 : a10.IsWhole)
  (x0 : Vec F S16x128 .f32) (x1 : Vec F S128x9216 .f32) (x2 : Vec F S1x9216 .f32) (x3 : Vec F S128x5632 .f32)
  (x4 : Vec F S352x1024 .f32) (x5 : Vec F S128x5632 .f32)

/-- After the first point the modulation buffer holds the bias and the first product. -/
theorem first_mods (hc : cond0_0 i) :
    out0_A_6 c i a1 h1 a2 h2 a3 h3 a4 h4 a5 h5 a6 h6 a7 h7 a8 h8 a9 h9 a10 h10 hc x0 x1 x2 x3 x4 x5 = step x0 x1 (k0_pay5 x2) := by
  unfold out0_A_6
  rw [View.read_writes_eq_canon _ _ _ (cover0_A_6 c i a1 h1 a2 h2 a3 h3 a4 h4 a5 h5 a6 h6 a7 h7 a8 h8 a9 h9 a10 h10 hc x0 x1 x2 x3 x4 x5)]
  unfold kernelRun0_A
  dsimp only
  sl_unfold_words
  rw [View.canon_cons_unit_zero (S := S16x9216) zeros, View.readCov_unit_zero (S := S16x9216) _ zeros]
  simp only [View.readAt_eq_ld, h1.read_unread, h2.read_unread, h3.read_unread, View.ld_unit_zero (S := S16x128) zeros,
    View.ld_unit_zero (S := S128x9216) zeros, View.ld_unit_zero (S := S1x9216) zeros]
  rfl

/-- After a later point it holds one product more. -/
theorem next_mods (hc : ¬cond0_0 i) (xo : Vec F S16x9216 .f32) :
    out0_B_6 c i a1 h1 a2 h2 a3 h3 a4 h4 a5 h5 a6 h6 a7 h7 a8 h8 a9 h9 a10 h10 hc x0 x1 x2 x3 x4 x5 xo = step x0 x1 xo := by
  unfold out0_B_6
  rw [View.read_writes_eq_canon _ _ _ (cover0_B_6 c i a1 h1 a2 h2 a3 h3 a4 h4 a5 h5 a6 h6 a7 h7 a8 h8 a9 h9 a10 h10 hc x0 x1 x2 x3 x4 x5 xo)]
  unfold kernelRun0_B
  dsimp only
  sl_unfold_words
  rw [View.canon_unit_zero zeros]
  simp only [View.readAt_eq_ld, h1.read_unread, h2.read_unread, h7.read_unread, View.ld_unit_zero (S := S16x128) zeros,
    View.ld_unit_zero (S := S128x9216) zeros, View.ld_unit_zero (S := S16x9216) zeros]
  rfl

/-- The feed-forward input weights' buffer holds the cast block after the first point. -/
theorem first_in (hc : cond0_0 i) :
    out0_A_7 c i a1 h1 a2 h2 a3 h3 a4 h4 a5 h5 a6 h6 a7 h7 a8 h8 a9 h9 a10 h10 hc x0 x1 x2 x3 x4 x5 = k0_pay2 x3 := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero zeros]
  simp only [View.readAt_eq_ld, h4.read_unread, View.ld_unit_zero (S := S128x5632) zeros]

/-- And after a later point. -/
theorem next_in (hc : ¬cond0_0 i) (xo : Vec F S16x9216 .f32) :
    out0_B_7 c i a1 h1 a2 h2 a3 h3 a4 h4 a5 h5 a6 h6 a7 h7 a8 h8 a9 h9 a10 h10 hc x0 x1 x2 x3 x4 x5 xo = k0_pay2 x3 := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 xo)]
  unfold kernelRun0_B
  dsimp only
  sl_unfold_words
  rw [View.canon_unit_zero zeros]
  simp only [View.readAt_eq_ld, h4.read_unread, View.ld_unit_zero (S := S128x5632) zeros]

/-- The feed-forward output weights' buffer holds the cast block after the first point. -/
theorem first_out (hc : cond0_0 i) :
    out0_A_8 c i a1 h1 a2 h2 a3 h3 a4 h4 a5 h5 a6 h6 a7 h7 a8 h8 a9 h9 a10 h10 hc x0 x1 x2 x3 x4 x5 = k0_pay3 x4 := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero zeros]
  simp only [View.readAt_eq_ld, h5.read_unread, View.ld_unit_zero (S := S352x1024) zeros]

/-- And after a later point. -/
theorem next_out (hc : ¬cond0_0 i) (xo : Vec F S16x9216 .f32) :
    out0_B_8 c i a1 h1 a2 h2 a3 h3 a4 h4 a5 h5 a6 h6 a7 h7 a8 h8 a9 h9 a10 h10 hc x0 x1 x2 x3 x4 x5 xo = k0_pay3 x4 := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 xo)]
  unfold kernelRun0_B
  dsimp only
  sl_unfold_words
  rw [View.canon_unit_zero zeros]
  simp only [View.readAt_eq_ld, h5.read_unread, View.ld_unit_zero (S := S352x1024) zeros]

/-- The projection weights' buffer holds the cast block after the first point. -/
theorem first_proj (hc : cond0_0 i) :
    out0_A_9 c i a1 h1 a2 h2 a3 h3 a4 h4 a5 h5 a6 h6 a7 h7 a8 h8 a9 h9 a10 h10 hc x0 x1 x2 x3 x4 x5 = k0_pay4 x5 := by
  unfold out0_A_9
  rw [View.read_writes_eq_canon _ _ _ (cover0_A_9 c i a1 h1 a2 h2 a3 h3 a4 h4 a5 h5 a6 h6 a7 h7 a8 h8 a9 h9 a10 h10 hc x0 x1 x2 x3 x4 x5)]
  unfold kernelRun0_A
  dsimp only
  sl_unfold_words
  rw [View.canon_unit_zero zeros]
  simp only [View.readAt_eq_ld, h6.read_unread, View.ld_unit_zero (S := S128x5632) zeros]

/-- And after a later point. -/
theorem next_proj (hc : ¬cond0_0 i) (xo : Vec F S16x9216 .f32) :
    out0_B_9 c i a1 h1 a2 h2 a3 h3 a4 h4 a5 h5 a6 h6 a7 h7 a8 h8 a9 h9 a10 h10 hc x0 x1 x2 x3 x4 x5 xo = k0_pay4 x5 := by
  unfold out0_B_9
  rw [View.read_writes_eq_canon _ _ _ (cover0_B_9 c i a1 h1 a2 h2 a3 h3 a4 h4 a5 h5 a6 h6 a7 h7 a8 h8 a9 h9 a10 h10 hc x0 x1 x2 x3 x4 x5 xo)]
  unfold kernelRun0_B
  dsimp only
  sl_unfold_words
  rw [View.canon_unit_zero zeros]
  simp only [View.readAt_eq_ld, h6.read_unread, View.ld_unit_zero (S := S128x5632) zeros]

end

/-! ## The buffers after each point -/

/-- The modulation buffer after point `n`. -/
def acc (c : Dev nD) : (n : ℕ) → n < cfg0.N → Vec F S16x9216 .f32
  | 0, h => step (iblk m c 0 ⟨0, h⟩) (iblk m c 1 ⟨0, h⟩) (k0_pay5 (iblk m c 2 ⟨0, h⟩))
  | n + 1, h => step (iblk m c 0 ⟨n + 1, h⟩) (iblk m c 1 ⟨n + 1, h⟩) (acc c n (Nat.lt_of_succ_lt h))

theorem acc_zero (c : Dev nD) (h : 0 < cfg0.N) :
    acc m c 0 h = step (iblk m c 0 ⟨0, h⟩) (iblk m c 1 ⟨0, h⟩) (k0_pay5 (iblk m c 2 ⟨0, h⟩)) := rfl

theorem acc_succ (c : Dev nD) (n : ℕ) (h : n + 1 < cfg0.N) :
    acc m c (n + 1) h = step (iblk m c 0 ⟨n + 1, h⟩) (iblk m c 1 ⟨n + 1, h⟩) (acc m c n (Nat.lt_of_succ_lt h)) := rfl

/-- The four buffers after point `n`. -/
theorem outs_eq (c : Dev nD) : ∀ (n : ℕ) (h : n < cfg0.N), outsAt0 m c n h =
    (acc m c n h, k0_pay2 (iblk m c 3 ⟨n, h⟩), k0_pay3 (iblk m c 4 ⟨n, h⟩), k0_pay4 (iblk m c 5 ⟨n, h⟩))
  | 0, h => by
    rw [outsAt0_A m c ⟨0, h⟩ rfl, first_mods, first_in, first_out, first_proj]
    rfl
  | n + 1, h => by
    have hN : cfg0.N = 8 := N_0
    have hB : ¬(⟨n + 1, h⟩ : Fin cfg0.N).val % 8 = 0 := by dsimp only; omega
    rw [outsAt0_B m c ⟨n + 1, h⟩ hB, next_mods, next_in, next_out, next_proj]
    show (step _ _ (outsAt0 m c n _).1, _, _, _) = _
    rw [outs_eq c n]
    rfl

end Cert.Kernel3Ideal.Mods

end
-- ==== Proof.Mods.Result.lean ====
module

public import proofs.«01_k».proof.Proof.Mods.Block
public import proofs.«01_k».proof.Proof.Layer.Rows
public import Idealize.ShloMosaic.Lib.Pointwise
public import Idealize.ShloMosaic.Lib.Pipeline.ValueKit

@[expose] public section

/-!
# The results of the modulation kernel

Over the extended reals the sums of the eight grid points, 128 terms each, are one sum of 1024 terms on top of
the bias; the blocks of the three weight matrices tile their arrays.
-/

set_option maxRecDepth 16384

noncomputable section

namespace Cert.Kernel3Ideal.Mods

open Cert.Kernel3Ideal Cert.Kernel3Ideal.Gen Cert.Layer
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ)

/-- The conditioning rows: the context's, the latent sequences', and rows of zeros. -/
def condRows (ctx : FVec Ideal S1024 .f32) (lat : FVec Ideal S8x1024 .f32) : FVec Ideal S16x1024 .f32 :=
  concatenate S16x1024 0 [⟨S1x1024, broadcastInDim S1x1024 ![1] bcast_S1024_S1x1024_1 ctx⟩, ⟨S8x1024, lat⟩,
    ⟨S7x1024, broadcastInDim S7x1024 ![] bcast_S_S7x1024 (constant S_ .f32 0x00000000#32)⟩] concatenates_S1x1024_S8x1024_S7x1024_S16x1024_d0

/-- A number times its logistic function. -/
def act (v : EReal) : EReal := v * sigm v

/-- The modulation vectors of all rows: the activated row times the weights, plus the bias. -/
def modsOf (cond : FVec Ideal S16x1024 .f32) (w : Fin 1024 → Fin 9216 → EReal) (b : Fin 9216 → EReal) : FVec Ideal S16x9216 .f32 :=
  fun y => rowDot (fun x : Fin 1024 => act (cond (ix2 (y 0) x))) w (y 1) + b (y 1)

/-! ## Where the blocks lie -/

/-- Every window's block index, at every grid point. -/
theorem idx : ∀ t : Fin cfg0.N,
    win0_0.index t = ![0, t.val] ∧ win0_1.index t = ![t.val, 0] ∧ win0_2.index t = ![0, 0]
    ∧ win0_3.index t = ![t.val, 0] ∧ win0_4.index t = ![t.val, 0] ∧ win0_5.index t = ![t.val, 0]
    ∧ win0_6.index t = ![0, 0] ∧ win0_7.index t = ![t.val, 0] ∧ win0_8.index t = ![t.val, 0] ∧ win0_9.index t = ![t.val, 0] :=
  (by decide +kernel : ∀ t : Fin grid0.N, _)

theorem point_lt (t : Fin cfg0.N) : t.val < 8 := lt_of_lt_of_eq t.isLt N_0

theorem entry_cond (c : Dev nD) : V m c main_v2 = condRows (m ((c.tc : Thread nD τ).loc main_arg1)) (m ((c.tc : Thread nD τ).loc main_arg0)) := by
  unfold V
  after_results
  all_goals rfl

theorem entry_w (c : Dev nD) (x : Fin 1024) (l : Fin 9216) : V m c main_v3 (ix2 x l) = m ((c.tc : Thread nD τ).loc main_arg2) (ix3 0 x l) := by
  entry_read
  pointwise

theorem entry_b (c : Dev nD) (l : Fin 9216) : V m c main_v8 (ix2 0 l) = m ((c.tc : Thread nD τ).loc main_arg3) (ix2 0 l) := by
  entry_read
  pointwise

theorem entry_in (c : Dev nD) (x : Fin 1024) (l : Fin 5632) : V m c main_v5 (ix2 x l) = m ((c.tc : Thread nD τ).loc main_arg4) (ix3 0 x l) := by
  entry_read
  pointwise

theorem entry_out (c : Dev nD) (x : Fin 2816) (l : Fin 1024) : V m c main_v6 (ix2 x l) = m ((c.tc : Thread nD τ).loc main_arg5) (ix3 0 x l) := by
  entry_read
  pointwise

theorem entry_proj (c : Dev nD) (x : Fin 1024) (l : Fin 5632) : V m c main_v7 (ix2 x l) = m ((c.tc : Thread nD τ).loc main_arg6) (ix3 0 x l) := by
  entry_read
  pointwise

theorem row_cond (c : Dev nD) (t : Fin cfg0.N) (r : Fin 16) (k : Fin 128) :
    iblk m c 0 t (ix2 r k) = condRows (m ((c.tc : Thread nD τ).loc main_arg1)) (m ((c.tc : Thread nD τ).loc main_arg0)) (ix2 r ⟨128 * t.val + k.val, by have := point_lt t; omega⟩) := by
  rw [← entry_cond]
  blk_ext [iblk, idx t]

theorem row_w (c : Dev nD) (t : Fin cfg0.N) (k : Fin 128) (l : Fin 9216) :
    iblk m c 1 t (ix2 k l) = m ((c.tc : Thread nD τ).loc main_arg2) (ix3 0 ⟨128 * t.val + k.val, by have := point_lt t; omega⟩ l) := by
  rw [← entry_w m c ⟨128 * t.val + k.val, by have := point_lt t; omega⟩ l]
  blk_ext [iblk, idx t]

theorem row_b (c : Dev nD) (t : Fin cfg0.N) (l : Fin 9216) :
    iblk m c 2 t (ix2 0 l) = m ((c.tc : Thread nD τ).loc main_arg3) (ix2 0 l) := by
  rw [← entry_b m c  l]
  blk_ext [iblk, idx t]

theorem row_in (c : Dev nD) (t : Fin cfg0.N) (x : Fin 128) (l : Fin 5632) :
    k0_pay2 (F := Ideal) (iblk m c 3 t) (ix2 x l) = m ((c.tc : Thread nD τ).loc main_arg4) (ix3 0 ⟨128 * t.val + x.val, by have := point_lt t; omega⟩ l) := by
  rw [← entry_in m c ⟨128 * t.val + x.val, by have := point_lt t; omega⟩ l]
  pointwise [k0_pay2]
  blk_ext [iblk, idx t]

theorem row_out (c : Dev nD) (t : Fin cfg0.N) (x : Fin 352) (l : Fin 1024) :
    k0_pay3 (F := Ideal) (iblk m c 4 t) (ix2 x l) = m ((c.tc : Thread nD τ).loc main_arg5) (ix3 0 ⟨352 * t.val + x.val, by have := point_lt t; omega⟩ l) := by
  rw [← entry_out m c ⟨352 * t.val + x.val, by have := point_lt t; omega⟩ l]
  pointwise [k0_pay3]
  blk_ext [iblk, idx t]

theorem row_proj (c : Dev nD) (t : Fin cfg0.N) (x : Fin 128) (l : Fin 5632) :
    k0_pay4 (F := Ideal) (iblk m c 5 t) (ix2 x l) = m ((c.tc : Thread nD τ).loc main_arg6) (ix3 0 ⟨128 * t.val + x.val, by have := point_lt t; omega⟩ l) := by
  rw [← entry_proj m c ⟨128 * t.val + x.val, by have := point_lt t; omega⟩ l]
  pointwise [k0_pay4]
  blk_ext [iblk, idx t]

/-! ## The accumulated sum -/

/-- One step, at a row and a column. -/
theorem step_at (cond : FVec Ideal S16x128 .f32) (w : FVec Ideal S128x9216 .f32) (a : FVec Ideal S16x9216 .f32) (r : Fin 16) (l : Fin 9216) :
    step (F := Ideal) cond w a (ix2 r l) = a (ix2 r l) + ∑ k : Fin 128, act (cond (ix2 r k)) * w (ix2 k l) := by
  unfold act
  simp only [← tanh_form]
  pointwise [step, k0_pay1, k0_pay6, k0_pay7, k0_pay8]

/-- Term `n` of the sum of a row and a column. -/
def term (c : Dev nD) (r : Fin 16) (l : Fin 9216) (n : ℕ) : EReal :=
  if h : n < 1024 then act (condRows (m ((c.tc : Thread nD τ).loc main_arg1)) (m ((c.tc : Thread nD τ).loc main_arg0)) (ix2 r ⟨n, h⟩))
    * m ((c.tc : Thread nD τ).loc main_arg2) (ix3 0 ⟨n, h⟩ l) else 0

/-- What a point adds: its 128 terms. -/
theorem added (c : Dev nD) (t : Fin cfg0.N) (r : Fin 16) (l : Fin 9216) :
    (∑ k : Fin 128, act ((iblk m c 0 t : FVec Ideal S16x128 .f32) (ix2 r k)) * (iblk m c 1 t : FVec Ideal S128x9216 .f32) (ix2 k l))
      = ∑ k ∈ Finset.range 128, term m c r l (128 * t.val + k) := by
  rw [Finset.sum_range]
  refine Finset.sum_congr rfl fun k _ => ?_
  have hk : 128 * t.val + k.val < 1024 := by have := point_lt t; omega
  rw [row_cond, row_w, term, dif_pos hk]

theorem bias_at (c : Dev nD) (t : Fin cfg0.N) (r : Fin 16) (l : Fin 9216) :
    k0_pay5 (F := Ideal) (iblk m c 2 t) (ix2 r l) = m ((c.tc : Thread nD τ).loc main_arg3) (ix2 0 l) := by
  rw [← row_b m c t l]
  pointwise [k0_pay5]

/-- The bias of a column. -/
def biasOf (c : Dev nD) (l : Fin 9216) : EReal := m ((c.tc : Thread nD τ).loc main_arg3) (ix2 0 l)

/-- The modulation buffer after point `n`: the bias and the first `128·(n + 1)` terms. -/
theorem acc_at (c : Dev nD) (r : Fin 16) (l : Fin 9216) : ∀ (n : ℕ) (h : n < cfg0.N),
    acc (F := Ideal) m c n h (ix2 r l) = biasOf m c l + ∑ x ∈ Finset.range (128 * n + 128), term m c r l x
  | 0, h => by
    rw [acc_zero, step_at, bias_at, added]
    show biasOf m c l + _ = _
    simp
  | n + 1, h => by
    rw [acc_succ, step_at, acc_at c r l n, added, add_assoc, show 128 * (n + 1) + 128 = (128 * n + 128) + 128 by omega,
      Finset.sum_range_add _ (128 * n + 128) 128]
    rfl

/-! ## The results -/

/-- The modulation vectors. -/
def modsArr (c : Dev nD) : Buf (Elt Ideal) ((c.tc : Thread nD τ).loc main_v9_0) :=
  modsOf (condRows (m ((c.tc : Thread nD τ).loc main_arg1)) (m ((c.tc : Thread nD τ).loc main_arg0)))
    (fun x l => m ((c.tc : Thread nD τ).loc main_arg2) (ix3 0 x l)) (fun l => m ((c.tc : Thread nD τ).loc main_arg3) (ix2 0 l))

/-- The feed-forward input weights. -/
def inArr (c : Dev nD) : Buf (Elt Ideal) ((c.tc : Thread nD τ).loc main_v9_1) := fun y => m ((c.tc : Thread nD τ).loc main_arg4) (ix3 0 (y 0) (y 1))

/-- The feed-forward output weights. -/
def outArr (c : Dev nD) : Buf (Elt Ideal) ((c.tc : Thread nD τ).loc main_v9_2) := fun y => m ((c.tc : Thread nD τ).loc main_arg5) (ix3 0 (y 0) (y 1))

/-- The projection weights. -/
def projArr (c : Dev nD) : Buf (Elt Ideal) ((c.tc : Thread nD τ).loc main_v9_3) := fun y => m ((c.tc : Thread nD τ).loc main_arg6) (ix3 0 (y 0) (y 1))

/-- The last point's buffer holds the modulation vectors. -/
theorem acc_last (c : Dev nD) (h : 7 < cfg0.N) (y : S16x9216.Idx) : acc (F := Ideal) m c 7 h y = modsArr m c y := by
  refine (congrArg (acc (F := Ideal) m c 7 h) (eq_ix2 y)).trans ((acc_at m c (y 0) (y 1) 7 h).trans ?_)
  rw [Finset.sum_range, add_comm]
  refine congrArg (· + _) (Finset.sum_congr rfl fun x _ => ?_)
  exact dif_pos x.isLt

theorem in_piece (c : Dev nD) (t : Fin cfg0.N) (y : S128x5632.Idx) (i : S1024x5632.Idx)
    (h0 : (i 0).val = 128 * t.val + (y 0).val) (h1 : (i 1).val = (y 1).val) :
    k0_pay2 (F := Ideal) (iblk m c 3 t) y = inArr m c i :=
  (congrArg (k0_pay2 (F := Ideal) (iblk m c 3 t)) (eq_ix2 y)).trans ((row_in m c t (y 0) (y 1)).trans
    (congrArg₂ (fun (R : Fin 1024) (k : Fin 5632) => m ((c.tc : Thread nD τ).loc main_arg4) (ix3 0 R k)) (Fin.ext h0.symm) (Fin.ext h1.symm)))

theorem out_piece (c : Dev nD) (t : Fin cfg0.N) (y : S352x1024.Idx) (i : S2816x1024.Idx)
    (h0 : (i 0).val = 352 * t.val + (y 0).val) (h1 : (i 1).val = (y 1).val) :
    k0_pay3 (F := Ideal) (iblk m c 4 t) y = outArr m c i :=
  (congrArg (k0_pay3 (F := Ideal) (iblk m c 4 t)) (eq_ix2 y)).trans ((row_out m c t (y 0) (y 1)).trans
    (congrArg₂ (fun (R : Fin 2816) (k : Fin 1024) => m ((c.tc : Thread nD τ).loc main_arg5) (ix3 0 R k)) (Fin.ext h0.symm) (Fin.ext h1.symm)))

theorem proj_piece (c : Dev nD) (t : Fin cfg0.N) (y : S128x5632.Idx) (i : S1024x5632.Idx)
    (h0 : (i 0).val = 128 * t.val + (y 0).val) (h1 : (i 1).val = (y 1).val) :
    k0_pay4 (F := Ideal) (iblk m c 5 t) y = projArr m c i :=
  (congrArg (k0_pay4 (F := Ideal) (iblk m c 5 t)) (eq_ix2 y)).trans ((row_proj m c t (y 0) (y 1)).trans
    (congrArg₂ (fun (R : Fin 1024) (k : Fin 5632) => m ((c.tc : Thread nD τ).loc main_arg6) (ix3 0 R k)) (Fin.ext h0.symm) (Fin.ext h1.symm)))

theorem final_mods (c : Dev nD) : (dats m 0 c).arrAt 6 cfg0.N = modsArr m c := by
  refine (dats m 0 c).arrAt_eq_of_covers 6 _ (by decide +kernel) fun t hf y => ?_
  have h7 : t.val = 7 := by have := (flush0_6 t).mp hf; have := point_lt t; omega
  obtain rfl : t = t0_7 := Fin.ext h7
  rw [after0_6, outs_eq]
  blk_simp
  refine (acc_last m c _ y).trans (congrArg (modsArr m c) ?_)
  funext a
  fin_cases a
  · refine Fin.ext ?_
    show (y 0).val = ((win0_6.blk t0_7).view.emb y 0).val
    blk_simp [idx t0_7]
  · refine Fin.ext ?_
    show (y 1).val = ((win0_6.blk t0_7).view.emb y 1).val
    blk_simp [idx t0_7]

theorem final_in (c : Dev nD) : (dats m 0 c).arrAt 7 cfg0.N = inArr m c := by
  refine (dats m 0 c).arrAt_eq_of_covers 7 _ (by decide +kernel) fun t hf y => ?_
  rw [after0_7, outs_eq]
  blk_simp
  refine in_piece m c t y _ ?_ ?_
  · blk_simp [idx t]
    omega
  · blk_simp [idx t]

theorem final_out (c : Dev nD) : (dats m 0 c).arrAt 8 cfg0.N = outArr m c := by
  refine (dats m 0 c).arrAt_eq_of_covers 8 _ (by decide +kernel) fun t hf y => ?_
  rw [after0_8, outs_eq]
  blk_simp
  refine out_piece m c t y _ ?_ ?_
  · blk_simp [idx t]
    omega
  · blk_simp [idx t]

theorem final_proj (c : Dev nD) : (dats m 0 c).arrAt 9 cfg0.N = projArr m c := by
  refine (dats m 0 c).arrAt_eq_of_covers 9 _ (by decide +kernel) fun t hf y => ?_
  rw [after0_9, outs_eq]
  blk_simp
  refine proj_piece m c t y _ ?_ ?_
  · blk_simp [idx t]
    omega
  · blk_simp [idx t]

end Cert.Kernel3Ideal.Mods

end
-- ==== Proof.Mods.Reference.lean ====
module

public import proofs.«01_k».proof.Proof.Gen.Reference3Ideal.Run
public import proofs.«01_k».proof.Proof.Layer.Rows
public import Idealize.ShloMosaic.Lib.Pointwise

@[expose] public section

/-!
# What the reference of the modulation call computes

Over the extended reals: a row's activated conditioning vector times the weights, plus the bias, and the three
weight matrices.
-/

set_option maxRecDepth 16384

noncomputable section

namespace Cert.Reference3Ideal.Mods

open Cert.Reference3Ideal Cert.Reference3Ideal.Gen Cert.Layer
open Idealize.ShloMosaic Idealize.ShloMosaic.TcCoe Idealize.ShloMosaic.Tactic
open Idealize.SL.Sem

/-- The reference's modulation vectors, of its conditioning rows. -/
def modsTerm (cond : FVec Ideal S16x1024 .f32) (w : FVec Ideal S1x1024x9216 .f32) (b : FVec Ideal S1x9216 .f32) : FVec Ideal S16x9216 .f32 :=
  addf (Host.dotGeneral dot_S16x1024_S1024x9216_S16x9216_1_0_0_1_n_n none
    (mulf cond (Host.divf (broadcastInDim S16x1024 ![] bcast_S_S16x1024 (constant S_ .f32 0x3F800000#32))
      (addf (broadcastInDim S16x1024 ![] bcast_S_S16x1024 (constant S_ .f32 0x3F800000#32)) (Host.exp (Host.negf cond)))))
    (shapeCast _ w shapeCasts_S1x1024x9216_S1024x9216))
    (broadcastInDim S16x9216 ![0, 1] bcast_S1x9216_S16x9216_0_1 (broadcastInDim S1x9216 ![1] bcast_S9216_S1x9216_1 (shapeCast _ b shapeCasts_S1x9216_S9216)))

theorem modsTerm_at (cond : FVec Ideal S16x1024 .f32) (w : FVec Ideal S1x1024x9216 .f32) (b : FVec Ideal S1x9216 .f32) (r : Fin 16) (l : Fin 9216) :
    modsTerm cond w b (ix2 r l) = rowDot (fun x : Fin 1024 => cond (ix2 r x) * sigm (cond (ix2 r x))) (fun x l => w (ix3 0 x l)) l + b (ix2 0 l) := by
  unfold rowDot sigm
  pointwise [modsTerm]

theorem in_at (w : FVec Ideal S1x1024x5632 .f32) (x : Fin 1024) (l : Fin 5632) :
    (truncf .bf16 (shapeCast S1024x5632 w shapeCasts_S1x1024x5632_S1024x5632) bitsLt_bf16_f32 : FVec Ideal S1024x5632 .bf16) (ix2 x l) = w (ix3 0 x l) := by
  pointwise

theorem out_at (w : FVec Ideal S1x2816x1024 .f32) (x : Fin 2816) (l : Fin 1024) :
    (truncf .bf16 (shapeCast S2816x1024 w shapeCasts_S1x2816x1024_S2816x1024) bitsLt_bf16_f32 : FVec Ideal S2816x1024 .bf16) (ix2 x l) = w (ix3 0 x l) := by
  pointwise

end Cert.Reference3Ideal.Mods

end
-- ==== Proof.Mods.Claim.lean ====
module

public import proofs.«01_k».proof.Defs
public import proofs.«01_k».proof.Proof.Mods.Result
public import proofs.«01_k».proof.Proof.Mods.Reference

@[expose] public section

/-!
# The modulation kernel computes what its reference computes

Both programs leave the same modulation vectors and the same three weight matrices.
-/

set_option maxRecDepth 16384
set_option maxHeartbeats 4000000

noncomputable section

namespace Cert.Kernel3Ideal.Mods

open Cert.Kernel3Ideal Cert.Kernel3Ideal.Gen Cert.Layer
open Idealize.ShloMosaic Idealize.ShloMosaic.TcCoe Idealize.ShloMosaic.Tactic
open Idealize.SL.Sem

/-- The two expressions of the modulation vectors agree, of the same arguments. -/
theorem mods_eq (cond : FVec Ideal S16x1024 .f32) (w : FVec Ideal S1x1024x9216 .f32) (b : FVec Ideal S1x9216 .f32) :
    Cert.Reference3Ideal.Mods.modsTerm cond w b = modsOf cond (fun x l => w (ix3 0 x l)) (fun l => b (ix2 0 l)) := by
  funext y
  exact (congrArg (Cert.Reference3Ideal.Mods.modsTerm cond w b) (eq_ix2 y)).trans (Cert.Reference3Ideal.Mods.modsTerm_at cond w b (y 0) (y 1))

theorem in_eq (w : FVec Ideal S1x1024x5632 .f32) :
    (truncf .bf16 (shapeCast S1024x5632 w Cert.Reference3Ideal.Facts₀.shapeCasts_S1x1024x5632_S1024x5632) Cert.Reference3Ideal.Facts₀.bitsLt_bf16_f32 : FVec Ideal S1024x5632 .bf16)
      = fun y => w (ix3 0 (y 0) (y 1)) := by
  funext y
  exact (congrArg (truncf .bf16 (shapeCast S1024x5632 w _) _ : FVec Ideal S1024x5632 .bf16) (eq_ix2 y)).trans (Cert.Reference3Ideal.Mods.in_at w (y 0) (y 1))

theorem out_eq (w : FVec Ideal S1x2816x1024 .f32) :
    (truncf .bf16 (shapeCast S2816x1024 w Cert.Reference3Ideal.Facts₀.shapeCasts_S1x2816x1024_S2816x1024) Cert.Reference3Ideal.Facts₀.bitsLt_bf16_f32 : FVec Ideal S2816x1024 .bf16)
      = fun y => w (ix3 0 (y 0) (y 1)) := by
  funext y
  exact (congrArg (truncf .bf16 (shapeCast S2816x1024 w _) _ : FVec Ideal S2816x1024 .bf16) (eq_ix2 y)).trans (Cert.Reference3Ideal.Mods.out_at w (y 0) (y 1))

/-- The kernel's run leaves the four arrays, and its arguments as they were. -/
theorem results_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9_0) = modsArr m c
      ∧ r.2.mem ((c.tc : Thread nD τ).loc main_v9_1) = inArr m c
      ∧ r.2.mem ((c.tc : Thread nD τ).loc main_v9_2) = outArr m c
      ∧ r.2.mem ((c.tc : Thread nD τ).loc main_v9_3) = projArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run _ _ _).mono (fun r h c => ?_) (Cert.Kernel3Ideal.Value.run_blocks m g)
  obtain ⟨h0, h1, h2, h3, hargs⟩ := h c
  exact ⟨h0.trans (final_mods m c), h1.trans (final_in m c), h2.trans (final_out m c), h3.trans (final_proj m c), hargs⟩

/-- **The two programs compute the same results over the extended reals.** -/
theorem algebraic : @Cert.algebraic_Kernel3Ideal_Reference3Ideal Cert.Kernel3Ideal.Gen.facts Cert.Reference3Ideal.Gen.facts := by
  intro m g m' g' _ hagree
  refine ⟨fun c => modsArr m c, fun c => inArr m c, fun c => outArr m c, fun c => projArr m c, results_run m g, ?_⟩
  refine (θ_run _ _ _).mono (fun r h c => ?_) (Cert.Reference3Ideal.Value.run m' g')
  obtain ⟨a0, a1, a2, a3, a4, a5, a6⟩ := hagree c
  obtain ⟨h0, h1, h2, h3, hargs⟩ := h c
  rw [a0, a1, a2, a3] at h0
  rw [a4] at h1
  rw [a5] at h2
  rw [a6] at h3
  exact ⟨h0.trans (mods_eq (condRows (m ((c.tc : Thread nD τ).loc main_arg1)) (m ((c.tc : Thread nD τ).loc main_arg0))) (m ((c.tc : Thread nD τ).loc main_arg2)) (m ((c.tc : Thread nD τ).loc main_arg3))),
    h1.trans (in_eq (m ((c.tc : Thread nD τ).loc main_arg4))),
    h2.trans (out_eq (m ((c.tc : Thread nD τ).loc main_arg5))),
    h3.trans (in_eq (m ((c.tc : Thread nD τ).loc main_arg6))), hargs⟩

end Cert.Kernel3Ideal.Mods

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Merge.Claim
public import proofs.«01_k».proof.Proof.Merge.KernelFrame
public import proofs.«01_k».proof.Proof.Entry.Claim
public import proofs.«01_k».proof.Proof.Entry.KernelFrame
public import proofs.«01_k».proof.Proof.Mods.Claim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import Idealize.ShloMosaic.Adequacy
public import Idealize.ShloMosaic.Lib.Quiescent
public import Idealize.ShloMosaic.Init

@[expose] public section

noncomputable section

namespace Cert.Proof

open Idealize.ShloMosaic Idealize.SL.Sem

/-- The reference of the merge runs, leaves its arguments as they were and every semaphore at zero. -/
theorem reference_frame : @Cert.quiescent_ReferenceIdeal Cert.ReferenceIdeal.Gen.facts := by
  intro m g _
  refine (θ_run _ _ _).mono (fun r h => ⟨fun c => (h c).2.2, ?_⟩) (Cert.ReferenceIdeal.Value.run m g)
  exact sem_eq_zero_of_no_sems (by decide) r.2

/-- The reference of the entry runs, leaves its arguments as they were and every semaphore at zero. -/
theorem entry_reference_frame : @Cert.quiescent_Reference2Ideal Cert.Reference2Ideal.Gen.facts := by
  intro m g _
  refine (θ_run _ _ _).mono (fun r h => ⟨fun c => (h c).2.2.2.2.2.2.2.2.2.2.2.2, ?_⟩) (Cert.Reference2Ideal.Value.run m g)
  exact sem_eq_zero_of_no_sems (by decide) r.2

/-- The reference of the modulation vectors runs, leaves its arguments as they were and every semaphore at zero. -/
theorem mods_reference_frame : @Cert.quiescent_Reference3Ideal Cert.Reference3Ideal.Gen.facts := by
  intro m g _
  refine (θ_run _ _ _).mono (fun r h => ⟨fun c => (h c).2.2.2.2, ?_⟩) (Cert.Reference3Ideal.Value.run m g)
  exact sem_eq_zero_of_no_sems (by decide) r.2

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel.Merge.frame,
    fun m g _ => Cert.KernelIdeal.Merge.frame_run m g,
    reference_frame,
    Cert.Kernel2.Entry.frame,
    fun m g _ => Cert.Kernel2Ideal.Entry.frame_run m g,
    entry_reference_frame,
    fun m g _ => Cert.Kernel3.Gen.frame m g,
    fun m g _ => Cert.Kernel3Ideal.Gen.frame m g,
    mods_reference_frame,
    trivial,
    Cert.KernelIdeal.Merge.algebraic,
    trivial,
    Cert.Kernel2Ideal.Entry.algebraic,
    trivial,
    Cert.Kernel3Ideal.Mods.algebraic⟩

end Cert.Proof

end
